-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_fit_KernelIdeal [hPre_routes_fit_KernelIdeal : Cert.Pre_routes_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_fit_ReferenceIdeal [hPre_routes_fit_ReferenceIdeal : Cert.Pre_routes_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routes_fit_KernelIdeal [hKernelIdeal : Cert.KernelIdeal.Facts] [hPre_routes_fit_KernelIdeal : Cert.Pre_routes_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routes_fit_ReferenceIdeal [hReferenceIdeal : Cert.ReferenceIdeal.Facts] [hPre_routes_fit_ReferenceIdeal : Cert.Pre_routes_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routes_fit_KernelIdeal [hKernelIdeal : Cert.KernelIdeal.Facts] [hReferenceIdeal : Cert.ReferenceIdeal.Facts] [hPre_routes_fit_KernelIdeal : Cert.Pre_routes_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_fit_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routes_fit_KernelIdeal : Cert.Pre_routes_fit_KernelIdeal.Facts) (hPre_routes_fit_ReferenceIdeal : Cert.Pre_routes_fit_ReferenceIdeal.Facts),
    quiescent_Kernel (hKernel := hKernel)
    ∧ quiescent_KernelIdeal (hKernelIdeal := hKernelIdeal)
    ∧ quiescent_KernelIdeal_pre_routes_fit_KernelIdeal (hKernelIdeal := hKernelIdeal) (hPre_routes_fit_KernelIdeal := hPre_routes_fit_KernelIdeal)
    ∧ quiescent_ReferenceIdeal (hReferenceIdeal := hReferenceIdeal)
    ∧ quiescent_ReferenceIdeal_pre_routes_fit_ReferenceIdeal (hReferenceIdeal := hReferenceIdeal) (hPre_routes_fit_ReferenceIdeal := hPre_routes_fit_ReferenceIdeal)
    ∧ preserves_Kernel_KernelIdeal
    ∧ algebraic_KernelIdeal_ReferenceIdeal_pre_routes_fit_KernelIdeal (hKernelIdeal := hKernelIdeal) (hReferenceIdeal := hReferenceIdeal) (hPre_routes_fit_KernelIdeal := hPre_routes_fit_KernelIdeal)
-- ==== Pre_routes_fit_KernelIdeal.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S32 : Shape := ⟨1, ![32]⟩
abbrev S1x32 : Shape := ⟨2, ![1, 32]⟩
abbrev S1024x32 : Shape := ⟨2, ![1024, 32]⟩

class Facts : Prop where
  bcast_S_S1024x1 : S_.BroadcastsInDim S1024x1 (![] : Fin 0 → Fin S1024x1.rank)
  bcast_S32_S1x32_1 : S32.BroadcastsInDim S1x32 (![1] : Fin 1 → Fin S1x32.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  natLt_1_32 : 1 < 32
  reducesTo_S1024x1_S_d0_1 : S1024x1.ReducesTo [0, 1] S_
  h_S_ : 0 < S_.numel
  reducesTo_S1024x32_S32_d0 : S1024x32.ReducesTo [0] S32
  bcast_S_S32 : S_.BroadcastsInDim S32 (![] : Fin 0 → Fin S32.rank)
  reducesTo_S32_S_d0 : S32.ReducesTo [0] S_

variable [Facts]

def fn {F : FTy → Type} [FloatOps F] (main_arg0 : FVec F S1024x512 .bf16) (main_arg1 : FVec F S512x32 .bf16) (main_arg2 : IVec S1024x1 32) (main_arg3 : FVec F S4x512x1024 .bf16) (main_arg4 : FVec F S512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 32#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S32 32 := iotaInDim S32 32 0
  let main_v6 : IVec S1x32 32 := broadcastInDim S1x32 ![1] bcast_S32_S1x32_1 main_v5
  let main_v7 : IVec S1024x32 32 := broadcastInDim S1024x32 ![0, 1] bcast_S1024x1_S1024x32_0_1 main_arg2
  let main_v8 : IVec S1024x32 32 := broadcastInDim S1024x32 ![0, 1] bcast_S1x32_S1024x32_0_1 main_v6
  let main_v9 : IVec S1024x32 1 := cmpi .eq main_v7 main_v8
  let main_v10 : IVec S1024x32 32 := (extui 32 · natLt_1_32) main_v9
  let main_c_1 : IVec S_ 1 := constantI S_ 1 1#1
  let main_v11 : IVec S_ 1 := (fun x v => Host.reduce IntOp.andi x v reducesTo_S1024x1_S_d0_1 h_S_) main_v4 main_c_1
  let main_c_2 : IVec S_ 32 := constantI S_ 32 0#32
  let main_v12 : IVec S32 32 := (fun x v => Host.reduce IntOp.addi x v reducesTo_S1024x32_S32_d0 h_S_) main_v10 main_c_2
  let main_c_3 : IVec S_ 32 := constantI S_ 32 64#32
  let main_v13 : IVec S32 32 := broadcastInDim S32 ![] bcast_S_S32 main_c_3
  let main_v14 : IVec S32 1 := cmpi .sle main_v12 main_v13
  let main_c_4 : IVec S_ 1 := constantI S_ 1 1#1
  let main_v15 : IVec S_ 1 := (fun x v => Host.reduce IntOp.andi x v reducesTo_S32_S_d0 h_S_) main_v14 main_c_4
  let main_v16 : IVec S_ 1 := andi main_v11 main_v15
  main_v16
-- ==== Pre_routes_fit_ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S_ : Shape := ⟨0, ![]⟩
abbrev S32 : Shape := ⟨1, ![32]⟩
abbrev S1x32 : Shape := ⟨2, ![1, 32]⟩
abbrev S8192x32 : Shape := ⟨2, ![8192, 32]⟩

class Facts : Prop where
  bcast_S_S8192x1 : S_.BroadcastsInDim S8192x1 (![] : Fin 0 → Fin S8192x1.rank)
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  reducesTo_S8192x1_S_d0_1 : S8192x1.ReducesTo [0, 1] S_
  h_S_ : 0 < S_.numel
  reducesTo_S8192x32_S32_d0 : S8192x32.ReducesTo [0] S32
  bcast_S_S32 : S_.BroadcastsInDim S32 (![] : Fin 0 → Fin S32.rank)
  reducesTo_S32_S_d0 : S32.ReducesTo [0] S_

variable [Facts]

def fn {F : FTy → Type} [FloatOps F] (main_arg0 : FVec F S8192x512 .bf16) (main_arg1 : FVec F S512x32 .bf16) (main_arg2 : IVec S8192x1 32) (main_arg3 : FVec F S32x512x1024 .bf16) (main_arg4 : FVec F S512x1024 .bf16) : IVec S_ 1 :=
  let main_c : IVec S_ 32 := constantI S_ 32 0#32
  let main_v0 : IVec S8192x1 32 := broadcastInDim S8192x1 ![] bcast_S_S8192x1 main_c
  let main_v1 : IVec S8192x1 1 := cmpi .sge main_arg2 main_v0
  let main_c_0 : IVec S_ 32 := constantI S_ 32 32#32
  let main_v2 : IVec S8192x1 32 := broadcastInDim S8192x1 ![] bcast_S_S8192x1 main_c_0
  let main_v3 : IVec S8192x1 1 := cmpi .slt main_arg2 main_v2
  let main_v4 : IVec S8192x1 1 := andi main_v1 main_v3
  let main_v5 : IVec S32 32 := iotaInDim S32 32 0
  let main_v6 : IVec S1x32 32 := broadcastInDim S1x32 ![1] bcast_S32_S1x32_1 main_v5
  let main_v7 : IVec S8192x32 32 := broadcastInDim S8192x32 ![0, 1] bcast_S8192x1_S8192x32_0_1 main_arg2
  let main_v8 : IVec S8192x32 32 := broadcastInDim S8192x32 ![0, 1] bcast_S1x32_S8192x32_0_1 main_v6
  let main_v9 : IVec S8192x32 1 := cmpi .eq main_v7 main_v8
  let main_v10 : IVec S8192x32 32 := (extui 32 · natLt_1_32) main_v9
  let main_c_1 : IVec S_ 1 := constantI S_ 1 1#1
  let main_v11 : IVec S_ 1 := (fun x v => Host.reduce IntOp.andi x v reducesTo_S8192x1_S_d0_1 h_S_) main_v4 main_c_1
  let main_c_2 : IVec S_ 32 := constantI S_ 32 0#32
  let main_v12 : IVec S32 32 := (fun x v => Host.reduce IntOp.addi x v reducesTo_S8192x32_S32_d0 h_S_) main_v10 main_c_2
  let main_c_3 : IVec S_ 32 := constantI S_ 32 64#32
  let main_v13 : IVec S32 32 := broadcastInDim S32 ![] bcast_S_S32 main_c_3
  let main_v14 : IVec S32 1 := cmpi .sle main_v12 main_v13
  let main_c_4 : IVec S_ 1 := constantI S_ 1 1#1
  let main_v15 : IVec S_ 1 := (fun x v => Host.reduce IntOp.andi x v reducesTo_S32_S_d0 h_S_) main_v14 main_c_4
  let main_v16 : IVec S_ 1 := andi main_v11 main_v15
  main_v16
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2048x512 : Shape := ⟨2, ![2048, 512]⟩
abbrev S8x256x512 : Shape := ⟨3, ![8, 256, 512]⟩
abbrev S4x256x1024 : Shape := ⟨3, ![4, 256, 1024]⟩
abbrev S7x256x1024 : Shape := ⟨3, ![7, 256, 1024]⟩
abbrev S1024x2048 : Shape := ⟨2, ![1024, 2048]⟩
abbrev S8 : Shape := ⟨1, ![8]⟩
abbrev S_ : Shape := ⟨0, ![]⟩
abbrev S1024x32 : Shape := ⟨2, ![1024, 32]⟩
abbrev S1024 : Shape := ⟨1, ![1024]⟩
abbrev S1 : Shape := ⟨1, ![1]⟩
abbrev S1x256x512 : Shape := ⟨3, ![1, 256, 512]⟩
abbrev S256x512 : Shape := ⟨2, ![256, 512]⟩
abbrev S1024x256 : Shape := ⟨2, ![1024, 256]⟩
abbrev S64x512 : Shape := ⟨2, ![64, 512]⟩
abbrev S1x512x1024 : Shape := ⟨3, ![1, 512, 1024]⟩
abbrev S64x1024 : Shape := ⟨2, ![64, 1024]⟩
abbrev S256x1024 : Shape := ⟨2, ![256, 1024]⟩
abbrev S1x256x1024 : Shape := ⟨3, ![1, 256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x32, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S2048x512, .bf16⟩
  | .local _ .vmem, ⟨7, _⟩ => ⟨S8x256x512, .bf16⟩
  | .local _ .vmem, ⟨8, _⟩ => ⟨S4x256x1024, .bf16⟩
  | .local _ .vmem, ⟨9, _⟩ => ⟨S7x256x1024, .bf16⟩
  | .local _ .vmem, ⟨10, _⟩ => ⟨S4x512x1024, .bf16⟩
  | .local _ .vmem, ⟨11, _⟩ => ⟨S1024x2048, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_83 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v159 : BitVec 32 := Scalar.addi v2 c1_i32_83
  let c8_i32_84 : BitVec 32 := 8#32
  let c0_i32_85 : BitVec 32 := 0#32
  let v160 : BitVec 1 := Scalar.cmpi .eq c8_i32_84 c0_i32_85
  let c1_i32_86 : BitVec 32 := 1#32
  let v161 : BitVec 32 := Scalar.select v160 c1_i32_86 c8_i32_84
  let v162 : BitVec 32 := Scalar.remsi v159 v161
  let c0_i32_88 : BitVec 32 := 0#32
  let v164 : BitVec 1 := Scalar.cmpi .slt v162 c0_i32_88
  let c0_i32_89 : BitVec 32 := 0#32
  let v165 : BitVec 1 := Scalar.cmpi .slt v161 c0_i32_89
  let v166 : BitVec 1 := Scalar.xori v164 v165
  let c0_i32_87 : BitVec 32 := 0#32
  let v163 : BitVec 1 := Scalar.cmpi .ne v162 c0_i32_87
  let v167 : BitVec 1 := Scalar.andi v166 v163
  let v168 : BitVec 32 := Scalar.addi v162 v161
  let v169 : BitVec 32 := Scalar.select v167 v168 v162
  let c256_i32 : BitVec 32 := 256#32
  let v170 : BitVec 32 := Scalar.muli v169 c256_i32
  let c0_i32_97 : BitVec 32 := 0#32
  ![v170.toNat, 0]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v159 : BitVec 32 := Scalar.addi v2 c1_i32_83
  let c8_i32_84 : BitVec 32 := 8#32
  let c0_i32_85 : BitVec 32 := 0#32
  let v160 : BitVec 1 := Scalar.cmpi .eq c8_i32_84 c0_i32_85
  let c1_i32_86 : BitVec 32 := 1#32
  let v161 : BitVec 32 := Scalar.select v160 c1_i32_86 c8_i32_84
  let v162 : BitVec 32 := Scalar.remsi v159 v161
  let c0_i32_88 : BitVec 32 := 0#32
  let v164 : BitVec 1 := Scalar.cmpi .slt v162 c0_i32_88
  let c0_i32_89 : BitVec 32 := 0#32
  let v165 : BitVec 1 := Scalar.cmpi .slt v161 c0_i32_89
  let v166 : BitVec 1 := Scalar.xori v164 v165
  let c0_i32_87 : BitVec 32 := 0#32
  let v163 : BitVec 1 := Scalar.cmpi .ne v162 c0_i32_87
  let v167 : BitVec 1 := Scalar.andi v166 v163
  let v168 : BitVec 32 := Scalar.addi v162 v161
  let v169 : BitVec 32 := Scalar.select v167 v168 v162
  let c1_i32_93 : BitVec 32 := 1#32
  let v171 : BitVec 32 := Scalar.muli v169 c1_i32_93
  let v172 : BitVec 32 := Scalar.addi c0_i32_94 v171
  v172.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_98 : BitVec 32 := 2#32
  let v180 : BitVec 32 := Scalar.addi v2 c2_i32_98
  let c8_i32_99 : BitVec 32 := 8#32
  let c0_i32_100 : BitVec 32 := 0#32
  let v181 : BitVec 1 := Scalar.cmpi .eq c8_i32_99 c0_i32_100
  let c1_i32_101 : BitVec 32 := 1#32
  let v182 : BitVec 32 := Scalar.select v181 c1_i32_101 c8_i32_99
  let v183 : BitVec 32 := Scalar.remsi v180 v182
  let c0_i32_103 : BitVec 32 := 0#32
  let v185 : BitVec 1 := Scalar.cmpi .slt v183 c0_i32_103
  let c0_i32_104 : BitVec 32 := 0#32
  let v186 : BitVec 1 := Scalar.cmpi .slt v182 c0_i32_104
  let v187 : BitVec 1 := Scalar.xori v185 v186
  let c0_i32_102 : BitVec 32 := 0#32
  let v184 : BitVec 1 := Scalar.cmpi .ne v183 c0_i32_102
  let v188 : BitVec 1 := Scalar.andi v187 v184
  let v189 : BitVec 32 := Scalar.addi v183 v182
  let v190 : BitVec 32 := Scalar.select v188 v189 v183
  let c1_i32_109 : BitVec 32 := 1#32
  let v192 : BitVec 32 := Scalar.muli v190 c1_i32_109
  let v193 : BitVec 32 := Scalar.addi c0_i32_110 v192
  v193.toNat
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v201 : BitVec 32 := Scalar.addi v2 c3_i32_114
  let c8_i32_115 : BitVec 32 := 8#32
  let c0_i32_116 : BitVec 32 := 0#32
  let v202 : BitVec 1 := Scalar.cmpi .eq c8_i32_115 c0_i32_116
  let c1_i32_117 : BitVec 32 := 1#32
  let v203 : BitVec 32 := Scalar.select v202 c1_i32_117 c8_i32_115
  let v204 : BitVec 32 := Scalar.remsi v201 v203
  let c0_i32_119 : BitVec 32 := 0#32
  let v206 : BitVec 1 := Scalar.cmpi .slt v204 c0_i32_119
  let c0_i32_120 : BitVec 32 := 0#32
  let v207 : BitVec 1 := Scalar.cmpi .slt v203 c0_i32_120
  let v208 : BitVec 1 := Scalar.xori v206 v207
  let c0_i32_118 : BitVec 32 := 0#32
  let v205 : BitVec 1 := Scalar.cmpi .ne v204 c0_i32_118
  let v209 : BitVec 1 := Scalar.andi v208 v205
  let v210 : BitVec 32 := Scalar.addi v204 v203
  let v211 : BitVec 32 := Scalar.select v209 v210 v204
  let c1_i32_125 : BitVec 32 := 1#32
  let v213 : BitVec 32 := Scalar.muli v211 c1_i32_125
  let v214 : BitVec 32 := Scalar.addi c0_i32_126 v213
  v214.toNat
def k0_dev11 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v222 : BitVec 32 := Scalar.addi v2 c4_i32_130
  let c8_i32_131 : BitVec 32 := 8#32
  let c0_i32_132 : BitVec 32 := 0#32
  let v223 : BitVec 1 := Scalar.cmpi .eq c8_i32_131 c0_i32_132
  let c1_i32_133 : BitVec 32 := 1#32
  let v224 : BitVec 32 := Scalar.select v223 c1_i32_133 c8_i32_131
  let v225 : BitVec 32 := Scalar.remsi v222 v224
  let c0_i32_135 : BitVec 32 := 0#32
  let v227 : BitVec 1 := Scalar.cmpi .slt v225 c0_i32_135
  let c0_i32_136 : BitVec 32 := 0#32
  let v228 : BitVec 1 := Scalar.cmpi .slt v224 c0_i32_136
  let v229 : BitVec 1 := Scalar.xori v227 v228
  let c0_i32_134 : BitVec 32 := 0#32
  let v226 : BitVec 1 := Scalar.cmpi .ne v225 c0_i32_134
  let v230 : BitVec 1 := Scalar.andi v229 v226
  let v231 : BitVec 32 := Scalar.addi v225 v224
  let v232 : BitVec 32 := Scalar.select v230 v231 v225
  let c1_i32_141 : BitVec 32 := 1#32
  let v234 : BitVec 32 := Scalar.muli v232 c1_i32_141
  let v235 : BitVec 32 := Scalar.addi c0_i32_142 v234
  v235.toNat
def k0_dev12 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v243 : BitVec 32 := Scalar.addi v2 c5_i32_146
  let c8_i32_147 : BitVec 32 := 8#32
  let c0_i32_148 : BitVec 32 := 0#32
  let v244 : BitVec 1 := Scalar.cmpi .eq c8_i32_147 c0_i32_148
  let c1_i32_149 : BitVec 32 := 1#32
  let v245 : BitVec 32 := Scalar.select v244 c1_i32_149 c8_i32_147
  let v246 : BitVec 32 := Scalar.remsi v243 v245
  let c0_i32_151 : BitVec 32 := 0#32
  let v248 : BitVec 1 := Scalar.cmpi .slt v246 c0_i32_151
  let c0_i32_152 : BitVec 32 := 0#32
  let v249 : BitVec 1 := Scalar.cmpi .slt v245 c0_i32_152
  let v250 : BitVec 1 := Scalar.xori v248 v249
  let c0_i32_150 : BitVec 32 := 0#32
  let v247 : BitVec 1 := Scalar.cmpi .ne v246 c0_i32_150
  let v251 : BitVec 1 := Scalar.andi v250 v247
  let v252 : BitVec 32 := Scalar.addi v246 v245
  let v253 : BitVec 32 := Scalar.select v251 v252 v246
  let c1_i32_157 : BitVec 32 := 1#32
  let v255 : BitVec 32 := Scalar.muli v253 c1_i32_157
  let v256 : BitVec 32 := Scalar.addi c0_i32_158 v255
  v256.toNat
def k0_dev13 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_162 : BitVec 32 := 6#32
  let v264 : BitVec 32 := Scalar.addi v2 c6_i32_162
  let c8_i32_163 : BitVec 32 := 8#32
  let c0_i32_164 : BitVec 32 := 0#32
  let v265 : BitVec 1 := Scalar.cmpi .eq c8_i32_163 c0_i32_164
  let c1_i32_165 : BitVec 32 := 1#32
  let v266 : BitVec 32 := Scalar.select v265 c1_i32_165 c8_i32_163
  let v267 : BitVec 32 := Scalar.remsi v264 v266
  let c0_i32_167 : BitVec 32 := 0#32
  let v269 : BitVec 1 := Scalar.cmpi .slt v267 c0_i32_167
  let c0_i32_168 : BitVec 32 := 0#32
  let v270 : BitVec 1 := Scalar.cmpi .slt v266 c0_i32_168
  let v271 : BitVec 1 := Scalar.xori v269 v270
  let c0_i32_166 : BitVec 32 := 0#32
  let v268 : BitVec 1 := Scalar.cmpi .ne v267 c0_i32_166
  let v272 : BitVec 1 := Scalar.andi v271 v268
  let v273 : BitVec 32 := Scalar.addi v267 v266
  let v274 : BitVec 32 := Scalar.select v272 v273 v267
  let c1_i32_173 : BitVec 32 := 1#32
  let v276 : BitVec 32 := Scalar.muli v274 c1_i32_173
  let v277 : BitVec 32 := Scalar.addi c0_i32_174 v276
  v277.toNat
def k0_dev14 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v285 : BitVec 32 := Scalar.addi v2 c7_i32_178
  let c8_i32_179 : BitVec 32 := 8#32
  let c0_i32_180 : BitVec 32 := 0#32
  let v286 : BitVec 1 := Scalar.cmpi .eq c8_i32_179 c0_i32_180
  let c1_i32_181 : BitVec 32 := 1#32
  let v287 : BitVec 32 := Scalar.select v286 c1_i32_181 c8_i32_179
  let v288 : BitVec 32 := Scalar.remsi v285 v287
  let c0_i32_183 : BitVec 32 := 0#32
  let v290 : BitVec 1 := Scalar.cmpi .slt v288 c0_i32_183
  let c0_i32_184 : BitVec 32 := 0#32
  let v291 : BitVec 1 := Scalar.cmpi .slt v287 c0_i32_184
  let v292 : BitVec 1 := Scalar.xori v290 v291
  let c0_i32_182 : BitVec 32 := 0#32
  let v289 : BitVec 1 := Scalar.cmpi .ne v288 c0_i32_182
  let v293 : BitVec 1 := Scalar.andi v292 v289
  let v294 : BitVec 32 := Scalar.addi v288 v287
  let v295 : BitVec 32 := Scalar.select v293 v294 v288
  let c1_i32_189 : BitVec 32 := 1#32
  let v297 : BitVec 32 := Scalar.muli v295 c1_i32_189
  let v298 : BitVec 32 := Scalar.addi c0_i32_190 v297
  v298.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_194 : BitVec 32 := 256#32
  let v306 : BitVec 32 := Scalar.muli v2 c256_i32_194
  let v307 : Index := Scalar.indexCast v306
  let c0_195 : Index := 0#32
  ![v307.toNat, 0]
def k0_off3 (d0 : Dev nD) : Fin 2 → Nat :=
  let c0_211 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_210 : BitVec 32 := 256#32
  let v322 : BitVec 32 := Scalar.muli v2 c256_i32_210
  let v323 : Index := Scalar.indexCast v322
  ![0, v323.toNat]
def k0_dev15 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_269 : BitVec 32 := 1#32
  let v389 : BitVec 32 := Scalar.addi v2 c1_i32_269
  let c8_i32_270 : BitVec 32 := 8#32
  let c0_i32_271 : BitVec 32 := 0#32
  let v390 : BitVec 1 := Scalar.cmpi .eq c8_i32_270 c0_i32_271
  let c1_i32_272 : BitVec 32 := 1#32
  let v391 : BitVec 32 := Scalar.select v390 c1_i32_272 c8_i32_270
  let v392 : BitVec 32 := Scalar.remsi v389 v391
  let c0_i32_274 : BitVec 32 := 0#32
  let v394 : BitVec 1 := Scalar.cmpi .slt v392 c0_i32_274
  let c0_i32_275 : BitVec 32 := 0#32
  let v395 : BitVec 1 := Scalar.cmpi .slt v391 c0_i32_275
  let v396 : BitVec 1 := Scalar.xori v394 v395
  let c0_i32_273 : BitVec 32 := 0#32
  let v393 : BitVec 1 := Scalar.cmpi .ne v392 c0_i32_273
  let v397 : BitVec 1 := Scalar.andi v396 v393
  let v398 : BitVec 32 := Scalar.addi v392 v391
  let v399 : BitVec 32 := Scalar.select v397 v398 v392
  let c1_i32_280 : BitVec 32 := 1#32
  let v400 : BitVec 32 := Scalar.muli v399 c1_i32_280
  let v401 : BitVec 32 := Scalar.addi c0_i32_281 v400
  v401.toNat
def k0_dev16 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_324 : BitVec 32 := 2#32
  let v451 : BitVec 32 := Scalar.addi v2 c2_i32_324
  let c8_i32_325 : BitVec 32 := 8#32
  let c0_i32_326 : BitVec 32 := 0#32
  let v452 : BitVec 1 := Scalar.cmpi .eq c8_i32_325 c0_i32_326
  let c1_i32_327 : BitVec 32 := 1#32
  let v453 : BitVec 32 := Scalar.select v452 c1_i32_327 c8_i32_325
  let v454 : BitVec 32 := Scalar.remsi v451 v453
  let c0_i32_329 : BitVec 32 := 0#32
  let v456 : BitVec 1 := Scalar.cmpi .slt v454 c0_i32_329
  let c0_i32_330 : BitVec 32 := 0#32
  let v457 : BitVec 1 := Scalar.cmpi .slt v453 c0_i32_330
  let v458 : BitVec 1 := Scalar.xori v456 v457
  let c0_i32_328 : BitVec 32 := 0#32
  let v455 : BitVec 1 := Scalar.cmpi .ne v454 c0_i32_328
  let v459 : BitVec 1 := Scalar.andi v458 v455
  let v460 : BitVec 32 := Scalar.addi v454 v453
  let v461 : BitVec 32 := Scalar.select v459 v460 v454
  let c1_i32_335 : BitVec 32 := 1#32
  let v462 : BitVec 32 := Scalar.muli v461 c1_i32_335
  let v463 : BitVec 32 := Scalar.addi c0_i32_336 v462
  v463.toNat
def k0_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_379 : BitVec 32 := 3#32
  let v513 : BitVec 32 := Scalar.addi v2 c3_i32_379
  let c8_i32_380 : BitVec 32 := 8#32
  let c0_i32_381 : BitVec 32 := 0#32
  let v514 : BitVec 1 := Scalar.cmpi .eq c8_i32_380 c0_i32_381
  let c1_i32_382 : BitVec 32 := 1#32
  let v515 : BitVec 32 := Scalar.select v514 c1_i32_382 c8_i32_380
  let v516 : BitVec 32 := Scalar.remsi v513 v515
  let c0_i32_384 : BitVec 32 := 0#32
  let v518 : BitVec 1 := Scalar.cmpi .slt v516 c0_i32_384
  let c0_i32_385 : BitVec 32 := 0#32
  let v519 : BitVec 1 := Scalar.cmpi .slt v515 c0_i32_385
  let v520 : BitVec 1 := Scalar.xori v518 v519
  let c0_i32_383 : BitVec 32 := 0#32
  let v517 : BitVec 1 := Scalar.cmpi .ne v516 c0_i32_383
  let v521 : BitVec 1 := Scalar.andi v520 v517
  let v522 : BitVec 32 := Scalar.addi v516 v515
  let v523 : BitVec 32 := Scalar.select v521 v522 v516
  let c1_i32_390 : BitVec 32 := 1#32
  let v524 : BitVec 32 := Scalar.muli v523 c1_i32_390
  let v525 : BitVec 32 := Scalar.addi c0_i32_391 v524
  v525.toNat
def k0_dev18 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_433 : BitVec 32 := 4#32
  let v575 : BitVec 32 := Scalar.addi v2 c4_i32_433
  let c8_i32_434 : BitVec 32 := 8#32
  let c0_i32_435 : BitVec 32 := 0#32
  let v576 : BitVec 1 := Scalar.cmpi .eq c8_i32_434 c0_i32_435
  let c1_i32_436 : BitVec 32 := 1#32
  let v577 : BitVec 32 := Scalar.select v576 c1_i32_436 c8_i32_434
  let v578 : BitVec 32 := Scalar.remsi v575 v577
  let c0_i32_438 : BitVec 32 := 0#32
  let v580 : BitVec 1 := Scalar.cmpi .slt v578 c0_i32_438
  let c0_i32_439 : BitVec 32 := 0#32
  let v581 : BitVec 1 := Scalar.cmpi .slt v577 c0_i32_439
  let v582 : BitVec 1 := Scalar.xori v580 v581
  let c0_i32_437 : BitVec 32 := 0#32
  let v579 : BitVec 1 := Scalar.cmpi .ne v578 c0_i32_437
  let v583 : BitVec 1 := Scalar.andi v582 v579
  let v584 : BitVec 32 := Scalar.addi v578 v577
  let v585 : BitVec 32 := Scalar.select v583 v584 v578
  let c1_i32_444 : BitVec 32 := 1#32
  let v586 : BitVec 32 := Scalar.muli v585 c1_i32_444
  let v587 : BitVec 32 := Scalar.addi c0_i32_445 v586
  v587.toNat
def k0_dev19 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_496 : BitVec 32 := 5#32
  let v643 : BitVec 32 := Scalar.addi v2 c5_i32_496
  let c8_i32_497 : BitVec 32 := 8#32
  let c0_i32_498 : BitVec 32 := 0#32
  let v644 : BitVec 1 := Scalar.cmpi .eq c8_i32_497 c0_i32_498
  let c1_i32_499 : BitVec 32 := 1#32
  let v645 : BitVec 32 := Scalar.select v644 c1_i32_499 c8_i32_497
  let v646 : BitVec 32 := Scalar.remsi v643 v645
  let c0_i32_501 : BitVec 32 := 0#32
  let v648 : BitVec 1 := Scalar.cmpi .slt v646 c0_i32_501
  let c0_i32_502 : BitVec 32 := 0#32
  let v649 : BitVec 1 := Scalar.cmpi .slt v645 c0_i32_502
  let v650 : BitVec 1 := Scalar.xori v648 v649
  let c0_i32_500 : BitVec 32 := 0#32
  let v647 : BitVec 1 := Scalar.cmpi .ne v646 c0_i32_500
  let v651 : BitVec 1 := Scalar.andi v650 v647
  let v652 : BitVec 32 := Scalar.addi v646 v645
  let v653 : BitVec 32 := Scalar.select v651 v652 v646
  let c1_i32_507 : BitVec 32 := 1#32
  let v654 : BitVec 32 := Scalar.muli v653 c1_i32_507
  let v655 : BitVec 32 := Scalar.addi c0_i32_508 v654
  v655.toNat
def k0_dev20 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_559 : BitVec 32 := 6#32
  let v711 : BitVec 32 := Scalar.addi v2 c6_i32_559
  let c8_i32_560 : BitVec 32 := 8#32
  let c0_i32_561 : BitVec 32 := 0#32
  let v712 : BitVec 1 := Scalar.cmpi .eq c8_i32_560 c0_i32_561
  let c1_i32_562 : BitVec 32 := 1#32
  let v713 : BitVec 32 := Scalar.select v712 c1_i32_562 c8_i32_560
  let v714 : BitVec 32 := Scalar.remsi v711 v713
  let c0_i32_564 : BitVec 32 := 0#32
  let v716 : BitVec 1 := Scalar.cmpi .slt v714 c0_i32_564
  let c0_i32_565 : BitVec 32 := 0#32
  let v717 : BitVec 1 := Scalar.cmpi .slt v713 c0_i32_565
  let v718 : BitVec 1 := Scalar.xori v716 v717
  let c0_i32_563 : BitVec 32 := 0#32
  let v715 : BitVec 1 := Scalar.cmpi .ne v714 c0_i32_563
  let v719 : BitVec 1 := Scalar.andi v718 v715
  let v720 : BitVec 32 := Scalar.addi v714 v713
  let v721 : BitVec 32 := Scalar.select v719 v720 v714
  let c1_i32_570 : BitVec 32 := 1#32
  let v722 : BitVec 32 := Scalar.muli v721 c1_i32_570
  let v723 : BitVec 32 := Scalar.addi c0_i32_571 v722
  v723.toNat
def k0_dev21 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_622 : BitVec 32 := 7#32
  let v779 : BitVec 32 := Scalar.addi v2 c7_i32_622
  let c8_i32_623 : BitVec 32 := 8#32
  let c0_i32_624 : BitVec 32 := 0#32
  let v780 : BitVec 1 := Scalar.cmpi .eq c8_i32_623 c0_i32_624
  let c1_i32_625 : BitVec 32 := 1#32
  let v781 : BitVec 32 := Scalar.select v780 c1_i32_625 c8_i32_623
  let v782 : BitVec 32 := Scalar.remsi v779 v781
  let c0_i32_627 : BitVec 32 := 0#32
  let v784 : BitVec 1 := Scalar.cmpi .slt v782 c0_i32_627
  let c0_i32_628 : BitVec 32 := 0#32
  let v785 : BitVec 1 := Scalar.cmpi .slt v781 c0_i32_628
  let v786 : BitVec 1 := Scalar.xori v784 v785
  let c0_i32_626 : BitVec 32 := 0#32
  let v783 : BitVec 1 := Scalar.cmpi .ne v782 c0_i32_626
  let v787 : BitVec 1 := Scalar.andi v786 v783
  let v788 : BitVec 32 := Scalar.addi v782 v781
  let v789 : BitVec 32 := Scalar.select v787 v788 v782
  let c1_i32_633 : BitVec 32 := 1#32
  let v790 : BitVec 32 := Scalar.muli v789 c1_i32_633
  let v791 : BitVec 32 := Scalar.addi c0_i32_634 v790
  v791.toNat
def k0_off4 (d0 : Dev nD) (c1_i32_639 : BitVec 32) : Fin 2 → Nat :=
  let c0_659 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v800 : BitVec 32 := Scalar.addi v2 c1_i32_639
  let c8_i32_640 : BitVec 32 := 8#32
  let c0_i32_641 : BitVec 32 := 0#32
  let v801 : BitVec 1 := Scalar.cmpi .eq c8_i32_640 c0_i32_641
  let c1_i32_642 : BitVec 32 := 1#32
  let v802 : BitVec 32 := Scalar.select v801 c1_i32_642 c8_i32_640
  let v803 : BitVec 32 := Scalar.remsi v800 v802
  let c0_i32_644 : BitVec 32 := 0#32
  let v805 : BitVec 1 := Scalar.cmpi .slt v803 c0_i32_644
  let c0_i32_645 : BitVec 32 := 0#32
  let v806 : BitVec 1 := Scalar.cmpi .slt v802 c0_i32_645
  let v807 : BitVec 1 := Scalar.xori v805 v806
  let c0_i32_643 : BitVec 32 := 0#32
  let v804 : BitVec 1 := Scalar.cmpi .ne v803 c0_i32_643
  let v808 : BitVec 1 := Scalar.andi v807 v804
  let v809 : BitVec 32 := Scalar.addi v803 v802
  let v810 : BitVec 32 := Scalar.select v808 v809 v803
  let c256_i32_658 : BitVec 32 := 256#32
  let v821 : BitVec 32 := Scalar.muli v810 c256_i32_658
  let v822 : Index := Scalar.indexCast v821
  ![0, v822.toNat]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S8192x32 : Shape := ⟨2, ![8192, 32]⟩
abbrev S_ : Shape := ⟨0, ![]⟩
abbrev S8192 : Shape := ⟨1, ![8192]⟩
abbrev S8192x1024 : Shape := ⟨2, ![8192, 1024]⟩
abbrev S8192x1x1 : Shape := ⟨3, ![8192, 1, 1]⟩
abbrev S8192x32x1024 : Shape := ⟨3, ![8192, 32, 1024]⟩
abbrev S8192x1x1024 : Shape := ⟨3, ![8192, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x32, .bf16⟩
  | .hbm, ⟨2, _⟩ => ⟨S8192x1, .i32⟩
  | .hbm, ⟨3, _⟩ => ⟨S32x512x1024, .bf16⟩
  | .hbm, ⟨4, _⟩ => ⟨S512x1024, .bf16⟩
  | .hbm, ⟨5, _⟩ => ⟨S8192x512, .f32⟩
  | .hbm, ⟨6, _⟩ => ⟨S512x32, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S512x1024, .f32⟩
  | .hbm, ⟨20, _⟩ => ⟨S8192x1024, .f32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S8192x1, .f32⟩
  | .hbm, ⟨30, _⟩ => ⟨S32x512x1024, .f32⟩
  | .hbm, ⟨31, _⟩ => ⟨S8192x32x1024, .f32⟩
  | .hbm, ⟨32, _⟩ => ⟨S8192x1x1, .i32⟩
  | .hbm, ⟨33, _⟩ => ⟨S_, .i32⟩
  | .hbm, ⟨34, _⟩ => ⟨S8192x1x1, .i32⟩
  | .hbm, ⟨35, _⟩ => ⟨S8192x1x1, .i1⟩
  | .hbm, ⟨36, _⟩ => ⟨S_, .i32⟩
  | .hbm, ⟨37, _⟩ => ⟨S8192x1x1, .i32⟩
  | .hbm, ⟨38, _⟩ => ⟨S8192x1x1, .i32⟩
  | .hbm, ⟨39, _⟩ => ⟨S8192x1x1, .i32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.KernelIdealRun.Base.lean ====
/-
The ring of eight devices: cells, pieces of the scratch buffers, contents, schedule, debts.

Device `c` sends to `c + k` for every `k = 1 … 7`. Per device there are 33 cells: the runtime's barrier semaphore,
and four arrays of eight transfer semaphores, numbered `dsem a k`: `a = 0` dispatch send, `1` dispatch receive,
`2` return send, `3` return receive (entry `k = 0` of each is never used).

* barrier of `c`: seven units, one from every other device. The unit from `c + k` hands over the two landing places
  in `c + k`'s memory that `c` writes: slot `-k` of its dispatch landing buffer and slot `-k` of its return one.
* dispatch receive `k` of `c`: paid by the copy of `c + k`; hands over landing slot `k` holding the rows that
  `c + k` gathered for `c`.
* dispatch send `k` of `c`: gives back the chunk of gathered rows that went to `c + k`.
* return receive `k` of `c`: paid by the copy of `c + k`; hands over return slot `k` (number `k - 1` in the buffer)
  holding what `c + k`'s experts made of the rows `c` had sent there.
* return send `k` of `c`: gives back the slot of the staging buffer that copy was read from.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Memrefs and semaphores -/

abbrev gM : Memref sig .tc .vmem S2048x512 .bf16 := Memref.whole cc0_scratch0
abbrev rxgM : Memref sig .tc .vmem S8x256x512 .bf16 := Memref.whole cc0_scratch1
abbrev rbM : Memref sig .tc .vmem S4x256x1024 .bf16 := Memref.whole cc0_scratch2
abbrev rxrM : Memref sig .tc .vmem S7x256x1024 .bf16 := Memref.whole cc0_scratch3
abbrev ewM : Memref sig .tc .vmem S4x512x1024 .bf16 := Memref.whole cc0_scratch4
abbrev spM : Memref sig .tc .vmem S1024x2048 .bf16 := Memref.whole cc0_scratch5

/-- The runtime's barrier semaphore. -/
abbrev barS : Sem sig := (SemArray.scalar (sig.barrier 0 rfl) : Sems sig S_).sem
abbrev barCell (c : Dev nD) : GSem nD τ sig := ((c : Thread nD τ), .reg barS)

/-- Transfer semaphore `k` of array `a`. -/
abbrev dsem (a : Fin 4) (k : Fin 8) : DmaSem sig := ⟨6 + 8 * a.val + k.val, by show _ < 38; omega⟩
abbrev dcell (c : Dev nD) (a : Fin 4) (k : Fin 8) : GSem nD τ sig := ((c : Thread nD τ), .dma (dsem a k))

/-! ## Pieces of the scratch buffers -/

/-- Rows `256 d … 256 d + 255` of the gathered rows. -/
def gset (d : Fin 8) : Finset S2048x512.Idx := Finset.univ.filter fun i => (i 0).val / 256 = d.val
/-- Slot `k` of the dispatch landing buffer. -/
def rxgset (k : Fin 8) : Finset S8x256x512.Idx := Finset.univ.filter fun i => (i 0).val = k.val
/-- Slot `s` of the return staging buffer. -/
def rbset (s : Fin 4) : Finset S4x256x1024.Idx := Finset.univ.filter fun i => (i 0).val = s.val
/-- The slot of the return landing buffer that the device `k` further on writes. -/
def rxrset (k : Fin 8) : Finset S7x256x1024.Idx := Finset.univ.filter fun i => (i 0).val + 1 = k.val

theorem mem_gset {d : Fin 8} {i : S2048x512.Idx} : i ∈ gset d ↔ (i 0).val / 256 = d.val := by simp [gset]
theorem mem_rxgset {k : Fin 8} {i : S8x256x512.Idx} : i ∈ rxgset k ↔ (i 0).val = k.val := by simp [rxgset]
theorem mem_rbset {k : Fin 4} {i : S4x256x1024.Idx} : i ∈ rbset k ↔ (i 0).val = k.val := by simp [rbset]
theorem mem_rxrset {k : Fin 8} {i : S7x256x1024.Idx} : i ∈ rxrset k ↔ (i 0).val + 1 = k.val := by simp [rxrset]

abbrev GBuf (F : FTy → Type) := Vec F S2048x512 .bf16
abbrev RxgBuf (F : FTy → Type) := Vec F S8x256x512 .bf16
abbrev RbBuf (F : FTy → Type) := Vec F S4x256x1024 .bf16
abbrev RxrBuf (F : FTy → Type) := Vec F S7x256x1024 .bf16

def gP (c : Dev nD) (d : Fin 8) (f : GBuf F) : sProp 𝕄 := ((c : Thread nD τ).loc cc0_scratch0) ↦[gset d]{fullShare} f
def rxgP (c : Dev nD) (k : Fin 8) (f : RxgBuf F) : sProp 𝕄 := ((c : Thread nD τ).loc cc0_scratch1) ↦[rxgset k]{fullShare} f
def rbP (c : Dev nD) (s : Fin 4) (f : RbBuf F) : sProp 𝕄 := ((c : Thread nD τ).loc cc0_scratch2) ↦[rbset s]{fullShare} f
def rxrP (c : Dev nD) (k : Fin 8) (f : RxrBuf F) : sProp 𝕄 := ((c : Thread nD τ).loc cc0_scratch3) ↦[rxrset k]{fullShare} f

omit [FloatOps F] in
instance gP_storable (c : Dev nD) (d) (f) : BI.Storable (upEmb : UEmb _ 𝕄) (gP (F := F) c d f) := by unfold gP; infer_instance
omit [FloatOps F] in
instance rxgP_storable (c : Dev nD) (d) (f) : BI.Storable (upEmb : UEmb _ 𝕄) (rxgP (F := F) c d f) := by unfold rxgP; infer_instance
omit [FloatOps F] in
instance rbP_storable (c : Dev nD) (d) (f) : BI.Storable (upEmb : UEmb _ 𝕄) (rbP (F := F) c d f) := by unfold rbP; infer_instance
omit [FloatOps F] in
instance rxrP_storable (c : Dev nD) (d) (f) : BI.Storable (upEmb : UEmb _ 𝕄) (rxrP (F := F) c d f) := by unfold rxrP; infer_instance

/-! ### The printed views cover exactly these pieces -/

theorem g_set {d : Fin 8} {o : Fin 2 → ℕ} (ho : o = ![d.val * 256, 0]) (inb) :
    (Rect.unit (s := S2048x512) o S256x512.size inb).set = gset d := by
  subst ho
  ext i
  rw [Rect.mem_set_unit, mem_gset, Fin.forall_fin_two]
  have h1 : (i 1).val < 512 := (i 1).isLt
  simp only [Matrix.cons_val_zero, Matrix.cons_val_one, show S256x512.size 0 = 256 from rfl, show S256x512.size 1 = 512 from rfl]
  omega

theorem rxg_set {k : Fin 8} {o : Fin 3 → ℕ} (ho : o = ![k.val, 0, 0]) (inb) :
    (Rect.unit (s := S8x256x512) o S1x256x512.size inb).set = rxgset k := by
  subst ho
  ext i
  rw [Rect.mem_set_unit, mem_rxgset, Fin.forall_fin_succ, Fin.forall_fin_two]
  have h1 : (i 1).val < 256 := (i 1).isLt
  have h2 : (i 2).val < 512 := (i 2).isLt
  show (k.val ≤ (i 0).val ∧ (i 0).val < k.val + 1) ∧ (0 ≤ (i 1).val ∧ (i 1).val < 0 + 256) ∧ (0 ≤ (i 2).val ∧ (i 2).val < 0 + 512) ↔ _
  omega

theorem rb_set {k : Fin 4} {o : Fin 3 → ℕ} (ho : o = ![k.val, 0, 0]) (inb) :
    (Rect.unit (s := S4x256x1024) o S1x256x1024.size inb).set = rbset k := by
  subst ho
  ext i
  rw [Rect.mem_set_unit, mem_rbset, Fin.forall_fin_succ, Fin.forall_fin_two]
  have h1 : (i 1).val < 256 := (i 1).isLt
  have h2 : (i 2).val < 1024 := (i 2).isLt
  show (k.val ≤ (i 0).val ∧ (i 0).val < k.val + 1) ∧ (0 ≤ (i 1).val ∧ (i 1).val < 0 + 256) ∧ (0 ≤ (i 2).val ∧ (i 2).val < 0 + 1024) ↔ _
  omega

theorem rxr_set {k : Fin 8} (hk : k ≠ 0) {o : Fin 3 → ℕ} (ho : o = ![k.val - 1, 0, 0]) (inb) :
    (Rect.unit (s := S7x256x1024) o S1x256x1024.size inb).set = rxrset k := by
  subst ho
  have hk' : k.val ≠ 0 := fun h => hk (Fin.ext h)
  ext i
  rw [Rect.mem_set_unit, mem_rxrset, Fin.forall_fin_succ, Fin.forall_fin_two]
  have h1 : (i 1).val < 256 := (i 1).isLt
  have h2 : (i 2).val < 1024 := (i 2).isLt
  show (k.val - 1 ≤ (i 0).val ∧ (i 0).val < k.val - 1 + 1) ∧ (0 ≤ (i 1).val ∧ (i 1).val < 0 + 256) ∧ (0 ≤ (i 2).val ∧ (i 2).val < 0 + 1024) ↔ _
  omega

/-! ### A whole buffer is its pieces -/

theorem gset_cover : Finset.univ.biUnion gset = (Finset.univ : Finset S2048x512.Idx) := by
  ext i
  have h : (i 0).val < 2048 := (i 0).isLt
  simp only [Finset.mem_univ, Finset.mem_biUnion, Finset.mem_erase, true_and, iff_true, and_true]
  exact ⟨⟨(i 0).val / 256, by omega⟩, mem_gset.mpr rfl⟩
theorem gset_disj (S : Finset (Fin 8)) : ∀ t ∈ S, ∀ t' ∈ S, t ≠ t' → Disjoint (gset t) (gset t') :=
  fun t _ t' _ h => Finset.disjoint_left.mpr fun i hi hj => h (Fin.ext ((mem_gset.mp hi).symm.trans (mem_gset.mp hj)))

theorem rxgset_cover : Finset.univ.biUnion rxgset = (Finset.univ : Finset S8x256x512.Idx) := by
  ext i
  have h : (i 0).val < 8 := (i 0).isLt
  simp only [Finset.mem_univ, Finset.mem_biUnion, Finset.mem_erase, true_and, iff_true, and_true]
  exact ⟨⟨(i 0).val, by omega⟩, mem_rxgset.mpr rfl⟩
theorem rxgset_disj (S : Finset (Fin 8)) : ∀ t ∈ S, ∀ t' ∈ S, t ≠ t' → Disjoint (rxgset t) (rxgset t') :=
  fun t _ t' _ h => Finset.disjoint_left.mpr fun i hi hj => h (Fin.ext ((mem_rxgset.mp hi).symm.trans (mem_rxgset.mp hj)))

theorem rbset_cover : Finset.univ.biUnion rbset = (Finset.univ : Finset S4x256x1024.Idx) := by
  ext i
  have h : (i 0).val < 4 := (i 0).isLt
  simp only [Finset.mem_univ, Finset.mem_biUnion, Finset.mem_erase, true_and, iff_true, and_true]
  exact ⟨⟨(i 0).val, by omega⟩, mem_rbset.mpr rfl⟩
theorem rbset_disj (S : Finset (Fin 4)) : ∀ t ∈ S, ∀ t' ∈ S, t ≠ t' → Disjoint (rbset t) (rbset t') :=
  fun t _ t' _ h => Finset.disjoint_left.mpr fun i hi hj => h (Fin.ext ((mem_rbset.mp hi).symm.trans (mem_rbset.mp hj)))

theorem rxrset_cover : (Finset.univ.erase 0).biUnion rxrset = (Finset.univ : Finset S7x256x1024.Idx) := by
  ext i
  have h : (i 0).val < 7 := (i 0).isLt
  simp only [Finset.mem_univ, Finset.mem_biUnion, Finset.mem_erase, true_and, iff_true, and_true]
  exact ⟨⟨(i 0).val + 1, by omega⟩, fun h => by simpa using congrArg Fin.val h, mem_rxrset.mpr rfl⟩
theorem rxrset_disj (S : Finset (Fin 8)) : ∀ t ∈ S, ∀ t' ∈ S, t ≠ t' → Disjoint (rxrset t) (rxrset t') :=
  fun t _ t' _ h => Finset.disjoint_left.mpr fun i hi hj => h (Fin.ext ((mem_rxrset.mp hi).symm.trans (mem_rxrset.mp hj)))

omit [FloatOps F] in
theorem g_split (c : Dev nD) (f : GBuf F) :
    (((c : Thread nD τ).loc cc0_scratch0) ↦{fullShare} f : sProp 𝕄) = bigSep Finset.univ fun d => gP c d f :=
  (congrArg (fun S => (((c : Thread nD τ).loc cc0_scratch0) ↦[S]{fullShare} f : sProp 𝕄)) gset_cover.symm).trans
    (pointsTo_biUnion (ℓ := ((c : Thread nD τ).loc cc0_scratch0)) Finset.univ gset (gset_disj _))

/-- Pieces of whatever contents are a buffer of some contents. -/
theorem g_join (c : Dev nD) :
    (bigSep Finset.univ fun d : Fin 8 => iprop(∃ f : GBuf F, gP c d f) : sProp 𝕄)
      ⊢ iprop(∃ f : GBuf F, ((c : Thread nD τ).loc cc0_scratch0) ↦{fullShare} f) := by
  haveI : Nonempty (GBuf F) := ⟨constant _ .bf16 0⟩
  refine (BI.bigSep_exists_pi _ _).trans ?_
  iintro ⟨%fs, H⟩
  unfold gP
  ihave H := (pointsTo_biUnion_join (ℓ := ((c : Thread nD τ).loc cc0_scratch0)) Finset.univ gset fs (fs 0) (gset_disj _)) $$ H
  icases H with ⟨%g, -, H⟩
  iexists g
  ihave H := (Entails.of_eq (congrArg (fun S => (((c : Thread nD τ).loc cc0_scratch0) ↦[S]{fullShare} g : sProp 𝕄)) gset_cover)) $$ H
  iexact H

omit [FloatOps F] in
theorem rxg_split (c : Dev nD) (f : RxgBuf F) :
    (((c : Thread nD τ).loc cc0_scratch1) ↦{fullShare} f : sProp 𝕄) = bigSep Finset.univ fun d => rxgP c d f :=
  (congrArg (fun S => (((c : Thread nD τ).loc cc0_scratch1) ↦[S]{fullShare} f : sProp 𝕄)) rxgset_cover.symm).trans
    (pointsTo_biUnion (ℓ := ((c : Thread nD τ).loc cc0_scratch1)) Finset.univ rxgset (rxgset_disj _))

/-- Pieces of whatever contents are a buffer of some contents. -/
theorem rxg_join (c : Dev nD) :
    (bigSep Finset.univ fun d : Fin 8 => iprop(∃ f : RxgBuf F, rxgP c d f) : sProp 𝕄)
      ⊢ iprop(∃ f : RxgBuf F, ((c : Thread nD τ).loc cc0_scratch1) ↦{fullShare} f) := by
  haveI : Nonempty (RxgBuf F) := ⟨constant _ .bf16 0⟩
  refine (BI.bigSep_exists_pi _ _).trans ?_
  iintro ⟨%fs, H⟩
  unfold rxgP
  ihave H := (pointsTo_biUnion_join (ℓ := ((c : Thread nD τ).loc cc0_scratch1)) Finset.univ rxgset fs (fs 0) (rxgset_disj _)) $$ H
  icases H with ⟨%g, -, H⟩
  iexists g
  ihave H := (Entails.of_eq (congrArg (fun S => (((c : Thread nD τ).loc cc0_scratch1) ↦[S]{fullShare} g : sProp 𝕄)) rxgset_cover)) $$ H
  iexact H

omit [FloatOps F] in
theorem rb_split (c : Dev nD) (f : RbBuf F) :
    (((c : Thread nD τ).loc cc0_scratch2) ↦{fullShare} f : sProp 𝕄) = bigSep Finset.univ fun d => rbP c d f :=
  (congrArg (fun S => (((c : Thread nD τ).loc cc0_scratch2) ↦[S]{fullShare} f : sProp 𝕄)) rbset_cover.symm).trans
    (pointsTo_biUnion (ℓ := ((c : Thread nD τ).loc cc0_scratch2)) Finset.univ rbset (rbset_disj _))

/-- Pieces of whatever contents are a buffer of some contents. -/
theorem rb_join (c : Dev nD) :
    (bigSep Finset.univ fun d : Fin 4 => iprop(∃ f : RbBuf F, rbP c d f) : sProp 𝕄)
      ⊢ iprop(∃ f : RbBuf F, ((c : Thread nD τ).loc cc0_scratch2) ↦{fullShare} f) := by
  haveI : Nonempty (RbBuf F) := ⟨constant _ .bf16 0⟩
  refine (BI.bigSep_exists_pi _ _).trans ?_
  iintro ⟨%fs, H⟩
  unfold rbP
  ihave H := (pointsTo_biUnion_join (ℓ := ((c : Thread nD τ).loc cc0_scratch2)) Finset.univ rbset fs (fs 0) (rbset_disj _)) $$ H
  icases H with ⟨%g, -, H⟩
  iexists g
  ihave H := (Entails.of_eq (congrArg (fun S => (((c : Thread nD τ).loc cc0_scratch2) ↦[S]{fullShare} g : sProp 𝕄)) rbset_cover)) $$ H
  iexact H

omit [FloatOps F] in
theorem rxr_split (c : Dev nD) (f : RxrBuf F) :
    (((c : Thread nD τ).loc cc0_scratch3) ↦{fullShare} f : sProp 𝕄) = bigSep (Finset.univ.erase 0) fun d => rxrP c d f :=
  (congrArg (fun S => (((c : Thread nD τ).loc cc0_scratch3) ↦[S]{fullShare} f : sProp 𝕄)) rxrset_cover.symm).trans
    (pointsTo_biUnion (ℓ := ((c : Thread nD τ).loc cc0_scratch3)) (Finset.univ.erase 0) rxrset (rxrset_disj _))

/-- Pieces of whatever contents are a buffer of some contents. -/
theorem rxr_join (c : Dev nD) :
    (bigSep (Finset.univ.erase 0) fun d : Fin 8 => iprop(∃ f : RxrBuf F, rxrP c d f) : sProp 𝕄)
      ⊢ iprop(∃ f : RxrBuf F, ((c : Thread nD τ).loc cc0_scratch3) ↦{fullShare} f) := by
  haveI : Nonempty (RxrBuf F) := ⟨constant _ .bf16 0⟩
  refine (BI.bigSep_exists_pi _ _).trans ?_
  iintro ⟨%fs, H⟩
  unfold rxrP
  ihave H := (pointsTo_biUnion_join (ℓ := ((c : Thread nD τ).loc cc0_scratch3)) (Finset.univ.erase 0) rxrset fs (fs 0) (rxrset_disj _)) $$ H
  icases H with ⟨%g, -, H⟩
  iexists g
  ihave H := (Entails.of_eq (congrArg (fun S => (((c : Thread nD τ).loc cc0_scratch3) ↦[S]{fullShare} g : sProp 𝕄)) rxrset_cover)) $$ H
  iexact H

/-! ## Contents -/

/-- What the five operands of the launch hold on each device. -/
structure Ins (F : FTy → Type) where
  /-- Token rows. -/
  x : Dev nD → Vec F S1024x512 .bf16
  /-- Router weights. -/
  rw : Dev nD → Vec F S512x32 .bf16
  /-- The expert of each token. -/
  rt : Dev nD → Vec F S1024x1 .i32
  /-- The four experts' weights. -/
  ew : Dev nD → Vec F S4x512x1024 .bf16
  /-- The shared expert's weights. -/
  sw : Dev nD → Vec F S512x1024 .bf16

theorem inb_rxg (k : Fin 8) : ∀ a, (![k.val, 0, 0] : Fin 3 → ℕ) a + S1x256x512.size a ≤ S8x256x512.size a := by revert k; decide
theorem inb_ew (k : Fin 4) : ∀ a, (![k.val, 0, 0] : Fin 3 → ℕ) a + S1x512x1024.size a ≤ S4x512x1024.size a := by revert k; decide
theorem inb_rxr (k : Fin 8) : ∀ a, (![k.val - 1, 0, 0] : Fin 3 → ℕ) a + S1x256x1024.size a ≤ S7x256x1024.size a := by revert k; decide
theorem inb_sp (k : Fin 8) : ∀ a, (![0, k.val * 256] : Fin 2 → ℕ) a + S1024x256.size a ≤ S1024x2048.size a := by revert k; decide
theorem inb_g (k : Fin 8) : ∀ a, (![k.val * 256, 0] : Fin 2 → ℕ) a + S256x512.size a ≤ S2048x512.size a := by revert k; decide

/-- Reads of one slot, one expert, one block of columns, one chunk of rows. -/
abbrev rdRxg (k : Fin 8) (f : RxgBuf F) : Vec F S1x256x512 .bf16 :=
  (rxgM : Memref sig .tc .vmem S8x256x512 .bf16).view.readAt (Elt F) (Rect.unit (s := S8x256x512) ![k.val, 0, 0] S1x256x512.size (inb_rxg k)).toLoadRect f
abbrev rdEw (k : Fin 4) (f : Vec F S4x512x1024 .bf16) : Vec F S1x512x1024 .bf16 :=
  (ewM : Memref sig .tc .vmem S4x512x1024 .bf16).view.readAt (Elt F) (Rect.unit (s := S4x512x1024) ![k.val, 0, 0] S1x512x1024.size (inb_ew k)).toLoadRect f
abbrev rdRxr (k : Fin 8) (f : RxrBuf F) : Vec F S1x256x1024 .bf16 :=
  (rxrM : Memref sig .tc .vmem S7x256x1024 .bf16).view.readAt (Elt F) (Rect.unit (s := S7x256x1024) ![k.val - 1, 0, 0] S1x256x1024.size (inb_rxr k)).toLoadRect f
abbrev rdSp (k : Fin 8) (f : Vec F S1024x2048 .bf16) : Vec F S1024x256 .bf16 :=
  (spM : Memref sig .tc .vmem S1024x2048 .bf16).view.readAt (Elt F) (Rect.unit (s := S1024x2048) ![0, k.val * 256] S1024x256.size (inb_sp k)).toLoadRect f
abbrev rdG (k : Fin 8) (f : GBuf F) : Vec F S256x512 .bf16 :=
  (gM : Memref sig .tc .vmem S2048x512 .bf16).view.readAt (Elt F) (Rect.unit (s := S2048x512) ![k.val * 256, 0] S256x512.size (inb_g k)).toLoadRect f

variable (I : Ins F)

/-- The combine matrix of device `c`, probabilities at each token's slot. -/
def spAt (c : Dev nD) : Vec F S1024x2048 .bf16 := k0_pay8 (k0_pay3 (I.x c) (I.rw c) (I.rt c)) (k0_pay5 (I.rt c)) (k0_pay6 (I.rt c))
/-- The gathered rows of device `c`. -/
def gAt (c : Dev nD) : GBuf F := k0_pay9 (k0_pay5 (I.rt c)) (k0_pay6 (I.rt c)) (I.x c)
/-- The expert weights' copy. -/
def ewAt (c : Dev nD) : Vec F S4x512x1024 .bf16 := k0_pay11 (I.ew c)

/-- Row `r` of chunk `d`. -/
abbrev gix (d : Fin 8) (r : Fin 256) (h : Fin 512) : S2048x512.Idx := fun | 0 => ⟨d.val * 256 + r.val, by show _ < 2048; omega⟩ | 1 => h
/-- The only slot of a one-slot block. -/
abbrev rix (r : Fin 256) (h : Fin 1024) : S1x256x1024.Idx := fun | 0 => ⟨0, Nat.one_pos⟩ | 1 => r | 2 => h

/-- How far on the device is that writes this place. -/
def rxgDev (i : S8x256x512.Idx) : Fin 8 := ⟨(i 0).val, (i 0).isLt⟩
def rxrDev (i : S7x256x1024.Idx) : Fin 8 := ⟨(i 0).val + 1, Nat.succ_lt_succ (i 0).isLt⟩

/-- The dispatch landing buffer of device `c` once everything has arrived: slot `k` the rows gathered on `c + k`
    for `c` (slot `0` its own). -/
def rxgAt (c : Dev nD) : RxgBuf F := fun i => gAt I (c + rxgDev i) (gix c (i 1) (i 2))

/-- What device `c`'s experts make of the rows that came from `c + k`. -/
def Y (c : Dev nD) (k : Fin 8) : Vec F S1x256x1024 .bf16 :=
  k0_pay30 (rdRxg k (rxgAt I c)) (rdEw 0 (ewAt I c)) (rdEw 1 (ewAt I c)) (rdEw 2 (ewAt I c)) (rdEw 3 (ewAt I c))

/-- The same block in every slot. -/
def spread (w : Vec F S1x256x1024 .bf16) : RbBuf F := fun i => w (rix (i 1) (i 2))

/-- The return landing buffer of device `c` once everything has arrived. -/
def rxrAt (c : Dev nD) : RxrBuf F := fun i =>
  Y I (c + rxrDev i) (-rxrDev i) (rix (i 1) (i 2))

/-- The shared expert's result and the device's own experts' part. -/
def out0 (c : Dev nD) : Vec F S1024x1024 .f32 :=
  k0_pay17 (k0_pay12 (I.x c) (I.sw c)) (rdSp c (spAt I c)) (k0_pay13 (rdRxg 0 (rxgAt I c)))
    (k0_pay14 (rdRxg 0 (rxgAt I c)) (rdEw 0 (ewAt I c))) (k0_pay15 (rdRxg 0 (rxgAt I c)) (rdEw 1 (ewAt I c)))
    (k0_pay16 (rdRxg 0 (rxgAt I c)) (rdEw 2 (ewAt I c))) (rdEw 3 (ewAt I c))

/-- One returned block combined into the result so far. -/
def outStep (c : Dev nD) (k : Fin 8) (acc : Vec F S1024x1024 .f32) : Vec F S1024x1024 .f32 :=
  k0_pay43 acc (rdSp (c + k) (spAt I c)) (rdRxr k (rxrAt I c))

def out1 (c : Dev nD) := outStep I c 1 (out0 I c)
def out2 (c : Dev nD) := outStep I c 2 (out1 I c)
def out3 (c : Dev nD) := outStep I c 3 (out2 I c)
def out4 (c : Dev nD) := outStep I c 4 (out3 I c)
def out5 (c : Dev nD) := outStep I c 5 (out4 I c)
def out6 (c : Dev nD) := outStep I c 6 (out5 I c)
/-- The kernel's result on device `c`. -/
def outAt (c : Dev nD) := outStep I c 7 (out6 I c)

/-! ## The schedule -/

/-- The credit of one dispatch copy and of one return copy. -/
abbrev gDst (k : Fin 8) : View sig .tc .vmem S256x512 .bf16 :=
  (((rxgM : Memref sig .tc .vmem S8x256x512 .bf16).slice (Rect.unit (s := S8x256x512) ![k.val, 0, 0] S1x256x512.size (inb_rxg k)) (fun _ => rfl)).squeeze S256x512 squeezes_S1x256x512_S256x512).view
abbrev rDst (k : Fin 8) : View sig .tc .vmem S256x1024 .bf16 :=
  (((rxrM : Memref sig .tc .vmem S7x256x1024 .bf16).slice (Rect.unit (s := S7x256x1024) ![k.val - 1, 0, 0] S1x256x1024.size (inb_rxr k)) (fun _ => rfl)).squeeze S256x1024 squeezes_S1x256x1024_S256x1024).view
def N1 : ℕ := (gDst 1).dmaCredit
def N2 : ℕ := (rDst 1).dmaCredit
theorem N1_pos : 0 < N1 := View.dmaCredit_pos _ (by decide)
theorem N2_pos : 0 < N2 := View.dmaCredit_pos _ (by decide)

/-- The units of a copy on an array. -/
def amt (a : Fin 4) : ℕ := if a.val < 2 then N1 else N2
theorem amt_pos (a : Fin 4) : 0 < amt a := by unfold amt; split; exacts [N1_pos, N2_pos]

/-- The staging slot of return copy `k`. -/
abbrev sl (k : Fin 8) : Fin 4 := ⟨(k.val + 3) % 4, Nat.mod_lt _ (by decide)⟩

/-- What `c + k`'s unit hands to `c`: the two landing places there. -/
def barPay (c : Dev nD) (k : Fin 8) : sProp 𝕄 :=
  iprop((∃ f : RxgBuf F, rxgP (c + k) (-k) f) ∗ ∃ f : RxrBuf F, rxrP (c + k) (-k) f)
/-- What the completion of a copy hands over. -/
def dPay (c : Dev nD) (a : Fin 4) (k : Fin 8) : sProp 𝕄 := match a with
  | 0 => gP c (c + k) (gAt I c)
  | 1 => rxgP c k (rxgAt I c)
  | 2 => rbP c (sl k) (spread (Y I c k))
  | 3 => rxrP c k (rxrAt I c)

instance barPay_storable (c : Dev nD) (k) : BI.Storable (upEmb : UEmb _ 𝕄) (barPay (F := F) c k) := by unfold barPay; infer_instance
instance dPay_storable (c : Dev nD) (a) (k) : BI.Storable (upEmb : UEmb _ 𝕄) (dPay I c a k) := by
  unfold dPay; split <;> infer_instance

/-- Array and entry of a transfer semaphore. -/
def arr (q : DmaSem sig) : Fin 4 := ⟨(q.val - 6) / 8 % 4, Nat.mod_lt _ (by decide)⟩
def ent (q : DmaSem sig) : Fin 8 := ⟨(q.val - 6) % 8, Nat.mod_lt _ (by decide)⟩
theorem arr_dsem (a : Fin 4) (k : Fin 8) : arr (dsem a k) = a := by revert a k; decide
theorem ent_dsem (a : Fin 4) (k : Fin 8) : ent (dsem a k) = k := by revert a k; decide

def sDuties : SemLoc sig → Finset (Fin 8)
  | .reg _ => Finset.univ.erase 0
  | .dma q => if 6 ≤ q.val ∧ ent q ≠ 0 then {0} else ∅
def sAmount : SemLoc sig → ℕ
  | .reg _ => 1
  | .dma q => amt (arr q)
def sPay (c : Dev nD) : SemLoc sig → Fin 8 → sProp 𝕄
  | .reg _, d => barPay c d
  | .dma q, _ => dPay I c (arr q) (ent q)

/-- One round: the barrier's seven units, each copy's credit. -/
def Rd : Rounds.Schedule (GSem nD τ sig) (Fin 8) 𝕄 where
  duties g r := if r = 0 ∧ g.1.2 = .tc then sDuties g.2 else ∅
  unitless _ := False
  amount g _ _ := sAmount g.2
  payload g _ d := sPay I g.1.1 g.2 d
  amount_pos g _ _ _ := by
    match g with
    | (_, .reg _) => exact Nat.one_pos
    | (_, .dma q) => exact amt_pos _

instance Rd_payload_storable (g : GSem nD τ sig) (r : ℕ) (d : Fin 8) : BI.Storable (upEmb : UEmb _ 𝕄) ((Rd I).payload g r d) := by
  show BI.Storable upEmb (sPay I g.1.1 g.2 d)
  unfold sPay
  split <;> infer_instance

theorem duties_bar (c : Dev nD) : (Rd I).duties (barCell c) 0 = Finset.univ.erase 0 := by
  dsimp only [Rd]; exact if_pos ⟨rfl, rfl⟩
theorem duties_d (c : Dev nD) (a : Fin 4) (k : Fin 8) (hk : k ≠ 0) : (Rd I).duties (dcell c a k) 0 = {0} := by
  dsimp only [Rd]
  refine (if_pos ⟨rfl, rfl⟩).trans (if_pos ⟨?_, ?_⟩)
  · show 6 ≤ 6 + 8 * a.val + k.val; omega
  · rw [ent_dsem]; exact hk
theorem duties_later (g : GSem nD τ sig) : ∀ r, 1 ≤ r → (Rd I).duties g r = ∅ :=
  fun r hr => by dsimp only [Rd]; exact if_neg fun h => by omega
theorem duties_unused (c : Dev nD) (a : Fin 4) : ∀ r, 0 ≤ r → (Rd I).duties (dcell c a 0) r = ∅ := fun r _ => by
  dsimp only [Rd]
  split
  · exact if_neg fun h => h.2 (ent_dsem a 0)
  · rfl
theorem amount_bar (c : Dev nD) (d) : (Rd I).amount (barCell c) 0 d = 1 := rfl
theorem amount_d (c : Dev nD) (a : Fin 4) (k : Fin 8) (d) : (Rd I).amount (dcell c a k) 0 d = amt a := by
  show amt (arr (dsem a k)) = _; rw [arr_dsem]
theorem expect_bar (c : Dev nD) : (Rd I).expect (barCell c) 0 = 7 := by
  unfold Schedule.expect Schedule.amountOf
  rw [duties_bar, Finset.sum_congr rfl fun d _ => amount_bar I c d]
  rfl
theorem expect_d (c : Dev nD) (a : Fin 4) (k : Fin 8) (hk : k ≠ 0) : (Rd I).expect (dcell c a k) 0 = amt a := by
  unfold Schedule.expect Schedule.amountOf; rw [duties_d I c a k hk, Finset.sum_singleton, amount_d]
theorem payload_bar (c : Dev nD) (d) : (Rd I).payload (barCell c) 0 d = barPay c d := rfl
theorem payload_d (c : Dev nD) (a : Fin 4) (k : Fin 8) (d) : (Rd I).payload (dcell c a k) 0 d = dPay I c a k := by
  show dPay I c (arr (dsem a k)) (ent (dsem a k)) = _; rw [arr_dsem, ent_dsem]
theorem rest_bar (c : Dev nD) : bigSep ((Rd I).duties (barCell c) 0 \ ∅) (fun d => (Rd I).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]; rfl
theorem rest_d (c : Dev nD) (a : Fin 4) (k : Fin 8) (hk : k ≠ 0) :
    bigSep ((Rd I).duties (dcell c a k) 0 \ ∅) (fun d => (Rd I).payload (dcell c a k) 0 d) = dPay I c a k := by
  rw [Finset.sdiff_empty, duties_d I c a k hk, bigSep_singleton, payload_d]

/-! ## Debts and levels -/

/-- What device `c` owes, in the order it pays: the seven barrier units, the seven dispatch copies, the seven return
    copies. -/
def debt (c : Dev nD) (i : ℕ) : GSem nD τ sig × ℕ :=
  if i < 7 then (barCell (c + Fin.ofNat 8 (i + 1)), 1)
  else if i < 14 then (dcell (c + Fin.ofNat 8 (i - 6)) 1 (-Fin.ofNat 8 (i - 6)), N1)
  else (dcell (c + Fin.ofNat 8 (i - 13)) 3 (-Fin.ofNat 8 (i - 13)), N2)
def dl (c : Dev nD) (n : ℕ) : List (GSem nD τ sig × ℕ) := (List.range' n (21 - n)).map (debt c)
/-- A list of debts as one tally. -/
def OL : List (GSem nD τ sig × ℕ) → CellTallies nD τ sig Unit
  | [] => 0
  | p :: l => OL l + tallyAt p.1 () p.2

def L (g : GSem nD τ sig) : Finset Unit := if g.1.2 = .tc then {()} else ∅
def slv : SemLoc sig → ℕ
  | .reg _ => 1
  | .dma q => if 14 ≤ q.val ∧ q.val < 22 then 2 else if 30 ≤ q.val then 3 else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem OL_pos {l : List (GSem nD τ sig × ℕ)} {g : GSem nD τ sig} {u : Unit} (h : 0 < OL l g u) : ∃ p ∈ l, p.1 = g := by
  induction l with
  | nil => exact absurd h (Nat.lt_irrefl 0)
  | cons p l ih =>
    by_cases hp : p.1 = g
    · exact ⟨p, List.mem_cons_self, hp⟩
    · unfold OL at h
      rw [Pi.add_apply, Finsupp.add_apply, tallyAt_apply, if_neg (fun h' => hp h'.1.symm)] at h
      obtain ⟨q, hq, he⟩ := ih h
      exact ⟨q, List.mem_cons_of_mem _ hq, he⟩

/-- All of a list's cells are tensor cores' and above level `b`. -/
def Above (b : ℕ) (l : List (GSem nD τ sig × ℕ)) : Prop := ∀ p ∈ l, p.1.1.2 = .tc ∧ b < slv p.1.2

theorem slv_dsem1 (k : Fin 8) : slv (.dma (dsem 1 k)) = 2 := by revert k; decide
theorem slv_dsem3 (k : Fin 8) : slv (.dma (dsem 3 k)) = 3 := by revert k; decide

theorem above_dl (c : Dev nD) (n b : ℕ) (h : b = 0 ∨ (b = 1 ∧ 7 ≤ n) ∨ (b = 2 ∧ 14 ≤ n)) : Above b (dl c n) := by
  intro p hp
  obtain ⟨i, hi, rfl⟩ := List.mem_map.mp hp
  rw [List.mem_range'_1] at hi
  unfold debt
  split
  · refine ⟨rfl, ?_⟩
    show b < 1; omega
  · split
    · refine ⟨rfl, ?_⟩
      show b < slv (.dma (dsem 1 _)); rw [slv_dsem1]; omega
    · refine ⟨rfl, ?_⟩
      show b < slv (.dma (dsem 3 _)); rw [slv_dsem3]; omega

omit [FloatOps F] in
theorem mayWait (c : Dev nD) (sm : SemLoc sig) (l : List (GSem nD τ sig × ℕ)) (h : Above (slv sm) l) :
    (levAts L lv : sProp 𝕄) ⊢ MayWait (c : Thread nD τ) sm () (OL l) :=
  MayOwe.of_cut (L := L) (lev := lv) (slv sm) (fun p hp => by rw [Finset.mem_singleton.mp hp, L_tc]; exact Finset.mem_singleton_self _)
    (fun g u hg => by
      obtain ⟨p, hp, rfl⟩ := OL_pos hg
      unfold L; rw [if_pos (h p hp).1]; exact Finset.mem_singleton_self _)
    (fun p hp => by rw [Finset.mem_singleton.mp hp]; exact le_refl _)
    (fun g u hg => by
      obtain ⟨p, hp, rfl⟩ := OL_pos hg
      exact (h p hp).2)

/-- The device owes these debts. -/
def owe (c : Dev nD) (l : List (GSem nD τ sig × ℕ)) : sProp 𝕄 := iprop(∃ W, owes (c : Thread nD τ) (OL l) W)

/-! ## Records -/

/-- The 33 cells of a device: the barrier's and the transfers'. -/
abbrev csem : Fin 33 → SemLoc sig := fun i => if h : i.val = 0 then .reg barS else .dma ⟨5 + i.val, by have := i.isLt; show _ < 38; omega⟩
abbrev kcell (ck : Dev nD × Fin 33) : GSem nD τ sig := ((ck.1 : Thread nD τ), csem ck.2)
abbrev dk (a : Fin 4) (k : Fin 8) : Fin 33 := ⟨1 + 8 * a.val + k.val, by omega⟩
theorem kcell_bar (c : Dev nD) : kcell (c, 0) = barCell c := rfl
theorem csem_dk (a : Fin 4) (k : Fin 8) : csem (dk a k) = .dma (dsem a k) := by revert a k; decide
theorem kcell_d (c : Dev nD) (a : Fin 4) (k : Fin 8) : kcell (c, dk a k) = dcell c a k := by
  show (_, _) = (_, _); rw [csem_dk]

/-- Every cell's invariant, and that every cell's round `0` has begun. -/
def recs (K : Dev nD × Fin 33 → ℕ) : sProp 𝕄 :=
  iprop((bigSep Finset.univ fun ck : Dev nD × Fin 33 => cellInv ER (Rd I) (K ck) (kcell ck))
    ∗ (bigSep Finset.univ fun ck : Dev nD × Fin 33 => reached ER (kcell ck) 0) ∗ levAts L lv)

instance recs_persistent (K : Dev nD × Fin 33 → ℕ) : BI.Persistent (recs I K) := by unfold recs; infer_instance

theorem inv_of (K : Dev nD × Fin 33 → ℕ) (ck : Dev nD × Fin 33) :
    (bigSep Finset.univ fun ck : Dev nD × Fin 33 => (cellInv ER (Rd I) (K ck) (kcell ck) : sProp 𝕄)) ⊢ cellInv ER (Rd I) (K ck) (kcell ck) :=
  bigSep_elim (Finset.mem_univ ck)
omit [FloatOps F] in
theorem reached_of (ck : Dev nD × Fin 33) :
    (bigSep Finset.univ fun ck : Dev nD × Fin 33 => (reached ER (kcell ck) 0 : sProp 𝕄)) ⊢ reached ER (kcell ck) 0 :=
  bigSep_elim (Finset.mem_univ ck)
theorem inv_at (K : Dev nD × Fin 33 → ℕ) (ck : Dev nD × Fin 33) : recs I K ⊢ cellInv ER (Rd I) (K ck) (kcell ck) := by
  unfold recs
  iintro ⟨H, -, -⟩
  iapply (inv_of I K ck) $$ H
theorem reached_at (K : Dev nD × Fin 33 → ℕ) (ck : Dev nD × Fin 33) : recs I K ⊢ reached ER (kcell ck) 0 := by
  unfold recs
  iintro ⟨-, H, -⟩
  iapply (reached_of ck) $$ H
theorem lev_at (K : Dev nD × Fin 33 → ℕ) : recs I K ⊢ levAts L lv := by
  unfold recs
  iintro ⟨-, -, H⟩
  iexact H
theorem inv_bar (K : Dev nD × Fin 33 → ℕ) (c : Dev nD) : recs I K ⊢ cellInv ER (Rd I) (K (c, 0)) (barCell c) := inv_at I K (c, 0)
theorem inv_d (K : Dev nD × Fin 33 → ℕ) (c : Dev nD) (a : Fin 4) (k : Fin 8) : recs I K ⊢ cellInv ER (Rd I) (K (c, dk a k)) (dcell c a k) := by
  have h := inv_at I K (c, dk a k); rwa [kcell_d] at h
theorem reached_bar (K : Dev nD × Fin 33 → ℕ) (c : Dev nD) : recs I K ⊢ reached ER (barCell c) 0 := reached_at I K (c, 0)
theorem reached_d (K : Dev nD × Fin 33 → ℕ) (c : Dev nD) (a : Fin 4) (k : Fin 8) : recs I K ⊢ reached ER (dcell c a k) 0 := by
  have h := reached_at I K (c, dk a k); rwa [kcell_d] at h

end Cert.KernelIdeal.Moe

end

end
-- ==== Proof.KernelIdealRun.Ops.lean ====
/-
One lemma per kind of effect of the kernel, at a symbolic device and a symbolic number of steps round the ring.
-/
module

public import proofs.«01_k».proof.Proof.KernelIdealRun.Base

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

/-! ## Device arithmetic -/

theorem add_add_neg (c k : Fin 8) : c + k + -k = c := by revert c k; decide
theorem neg_neg8 (k : Fin 8) : - -k = k := by revert k; decide
theorem neg_ne (k : Fin 8) (h : k ≠ 0) : -k ≠ 0 := by revert k; decide

/-! ## The barrier -/

/-- A barrier unit to the device `k` further on: it hands over the two landing places that device writes here. -/
theorem signal_bar (c n : Dev nD) (k : Fin 8) (hn : n = c + k) (hk : k ≠ 0) (l l' : List (GSem nD τ sig × ℕ)) (hl : l = (barCell (c + k), 1) :: l')
    {s : Sem sig} (hs : s = barS) {u : ℤ} (hu : u = ((1 : ℕ) : ℤ)) {α : Type} {Q : α → sProp 𝕄} {kk : PUnit → Prog (TpuEff nD τ sig (Elt F) Λ₀ .tc) α} :
    iprop(recs I K ∗ owe c l ∗ dutyTok ER (barCell (c + k)) 0 (-k) ∗ (∃ f : RxgBuf F, rxgP c k f) ∗ (∃ f : RxrBuf F, rxrP c k f))
      ⊢ iprop((owe c l' -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) s u) kk) Q) := by
  subst hn hl hs hu
  iintro ⟨#Hr, Ho, Ht, Hg, Hx⟩ Hk
  unfold owe
  icases Ho with ⟨%W, Ho⟩
  iapply (Rounds.wp_signal 𝒱₀ ER (Rd I) (c : Thread nD τ) none (dst := ((c + k : Dev nD) : Thread nD τ)) (κ := K (c + k, 0)) (r := 0)
      (d := -k) (by rw [duties_bar]; exact Finset.mem_erase.mpr ⟨neg_ne k hk, Finset.mem_univ _⟩) (amount_bar I (c + k) (-k)) () (OL l') rfl (W := W))
    $$ [Ho Ht Hg Hx]
  · isplitr; · iapply (inv_bar I K (c + k)); iexact Hr
    isplitl [Ho]; · iexact Ho
    isplitl [Ht]; · iexact Ht
    isplitl [Hg Hx]
    · rw [payload_bar]; unfold barPay; rw [add_add_neg, neg_neg8]
      isplitl [Hg] <;> iassumption
    iapply (reached_bar I K (c + k)); iexact Hr
  iintro Ho
  iapply Hk
  iexists W
  iexact Ho

/-- The wait for seven barrier units: every peer's two landing places, and the cell closed. -/
theorem wait_bar (c : Dev nD) (l : List (GSem nD τ sig × ℕ)) (hl : Above 1 l) {s : Sem sig} (hs : s = barS) {u : ℤ} (hu : u = ((7 : ℕ) : ℤ))
    {α : Type} {Q : α → sProp 𝕄} {kk : PUnit → Prog (TpuEff nD τ sig (Elt F) Λ₀ .tc) α} :
    iprop(recs I K ∗ owe c l ∗ cred (tallyAt (barCell c) () 7) ∗ atPos ER (barCell c) 0 ∅ 0)
      ⊢ iprop(((owe c l ∗ (barPay c 1 ∗ barPay c 2 ∗ barPay c 3 ∗ barPay c 4 ∗ barPay c 5 ∗ barPay c 6 ∗ barPay c 7) ∗ semVal (barCell c) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s u) kk) Q) := by
  subst hs hu
  iintro ⟨#Hr, Ho, Hc, Hat⟩ Hk
  unfold owe
  icases Ho with ⟨%W, Ho⟩
  iapply (Rounds.wp_wait_rest_token 𝒱₀ ER (Rd I) (c : Thread nD τ) none (κ := K (c, 0))
      (wpE_semWait_eq 𝒱₀ (c : Thread nD τ) none Set.univ) (Set.mem_univ _) () (O := OL l) (W := W) (R := 0) (m := 0) (T := ∅)
      (by rw [expect_bar])) $$ [Hc Ho Hat]
  · isplitr; · iapply (inv_bar I K c); iexact Hr
    isplitl [Hc]; · iexact Hc
    isplitl [Ho]; · iexact Ho
    isplitr; · iapply (mayWait c (.reg barS) l hl); iapply (lev_at I K); iexact Hr
    iexact Hat
  iintro ⟨Ho, Hat, -, Hpay⟩
  ihave Hp := (Entails.of_eq (rest_bar I c)) $$ Hpay
  imod (Rounds.cell_close ER (Rd I) (Set.mem_univ (K (c, 0))) (fun h => h) (R := 0 + 1) (duties_later I (barCell c))) $$ [Hat] with Hz
  · isplitr; · iapply (inv_bar I K c); iexact Hr
    iexact Hat
  iapply Hk
  isplitl [Ho]; · iexists _; iexact Ho
  isplitl [Hp] <;> iassumption

/-! ## The waits on transfers -/

/-- The wait for a copy: what its completion hands over, and the cell closed. -/
theorem wait_d (c : Dev nD) (a : Fin 4) (k : Fin 8) (hk : k ≠ 0) (l : List (GSem nD τ sig × ℕ)) (hl : Above (slv (.dma (dsem a k))) l)
    {s : DmaSem sig} (hs : s = dsem a k) {sp sp' : Space} {s₁ s₂ : Shape} {e₁ e₂ : EltTy}
    {src : Memref sig .tc sp' s₂ e₂} {dst : Memref sig .tc sp s₁ e₁} {hsrc : src.view.WordExact} {hdst : dst.view.WordExact}
    (hN : dst.view.dmaCredit = amt a)
    {α : Type} {Q : α → sProp 𝕄} {kk : PUnit → Prog (TpuEff nD τ sig (Elt F) Λ₀ .tc) α} :
    iprop(recs I K ∗ owe c l ∗ cred (tallyAt (dcell c a k) () (amt a)) ∗ atPos ER (dcell c a k) 0 ∅ 0)
      ⊢ iprop(((owe c l ∗ dPay I c a k ∗ semVal (dcell c a k) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#Hr, Ho, Hc, Hat⟩ Hk
  unfold owe
  icases Ho with ⟨%W, Ho⟩
  iapply (Rounds.wp_wait_rest_token 𝒱₀ ER (Rd I) (c : Thread nD τ) none (κ := K (c, dk a k))
      (wpE_waitDma2_eq 𝒱₀ (c : Thread nD τ) none Set.univ) (Set.mem_univ _) () (O := OL l) (W := W) (R := 0) (m := 0) (T := ∅)
      (by rw [Nat.zero_add, expect_d I c a k hk, hN])) $$ [Hc Ho Hat]
  · isplitr; · iapply (inv_d I K c a k); iexact Hr
    isplitl [Hc]; · rw [hN]; iexact Hc
    isplitl [Ho]; · iexact Ho
    isplitr; · iapply (mayWait c _ l hl); iapply (lev_at I K); iexact Hr
    iexact Hat
  iintro ⟨Ho, Hat, -, Hpay⟩
  ihave Hp := (Entails.of_eq (rest_d I c a k hk)) $$ Hpay
  imod (Rounds.cell_close ER (Rd I) (Set.mem_univ (K (c, dk a k))) (fun h => h) (R := 0 + 1) (duties_later I (dcell c a k))) $$ [Hat] with Hz
  · isplitr; · iapply (inv_d I K c a k); iexact Hr
    iexact Hat
  iapply Hk
  isplitl [Ho]; · iexists _; iexact Ho
  isplitl [Hp] <;> iassumption

/-- An entry no copy uses closes at once. -/
theorem close_unused (c : Dev nD) (a : Fin 4) : iprop(recs I K ∗ atPos ER (dcell c a 0) 0 ∅ 0) ⊢ iprop(|={Set.univ}=> semVal (dcell c a 0) 0) := by
  iintro ⟨#Hr, Hat⟩
  iapply (Rounds.cell_close ER (Rd I) (Set.mem_univ (K (c, dk a 0))) (fun h => h) (R := 0) (duties_unused I c a))
  isplitr; · iapply (inv_d I K c a 0); iexact Hr
  iexact Hat

/-! ## The copies -/

/-- What a dispatch copy leaves in its slot. -/
theorem land_g (c : Dev nD) (k : Fin 8) {o : Fin 2 → ℕ} (ho : o = ![(c + k).val * 256, 0]) (inb hs)
    {o' : Fin 3 → ℕ} (ho' : o' = ![(-k).val, 0, 0]) (inb' hs' hq) (fd : RxgBuf F) (i : S8x256x512.Idx) (hi : i ∈ rxgset (-k)) :
    (((rxgM : Memref sig .tc .vmem S8x256x512 .bf16).slice (Rect.unit (s := S8x256x512) o' S1x256x512.size inb') hs').squeeze S256x512 hq).view.write (Elt F) fd
      (((gM : Memref sig .tc .vmem S2048x512 .bf16).slice (Rect.unit (s := S2048x512) o S256x512.size inb) hs).view.read (Elt F) (gAt I c)) Finset.univ i
      = rxgAt I (c + k) i := by
  subst ho ho'
  have hi := mem_rxgset.mp hi
  let x : S256x512.Idx := fun | 0 => i 1 | 1 => i 2
  have hx : (((rxgM : Memref sig .tc .vmem S8x256x512 .bf16).slice (Rect.unit (s := S8x256x512) ![(-k).val, 0, 0] S1x256x512.size inb') hs').squeeze S256x512 hq).view.emb x = i := by
    show ((Rect.unit (s := S8x256x512) ![(-k).val, 0, 0] S1x256x512.size inb').emb (Shape.reshapeEquiv hq.numel_eq x)) = i
    rw [show Shape.reshapeEquiv hq.numel_eq x = Fin.cons ⟨0, Nat.one_pos⟩ x from Shape.reshapeEquiv_cons_one (n := 2) (d := ![256, 512]) _ x]
    funext a
    refine Fin.ext ?_
    rw [Rect.emb_apply]
    fin_cases a
    · show (-k).val + 1 * 0 = (i 0).val; omega
    · show 0 + 1 * (i 1).val = (i 1).val; omega
    · show 0 + 1 * (i 2).val = (i 2).val; omega
  refine (congrArg _ hx.symm).trans ((View.write_emb_of_mem _ _ (Finset.mem_univ x)).trans ?_)
  show gAt I c _ = gAt I (c + k + rxgDev i) _
  have hd : rxgDev i = -k := Fin.ext hi
  rw [hd, add_add_neg]
  congr 1
  funext a
  refine Fin.ext ?_
  match a with
  | ⟨0, _⟩ => show (c + k).val * 256 + 1 * (i 1).val = (c + k).val * 256 + (i 1).val; omega
  | ⟨1, _⟩ => show 0 + 1 * (i 2).val = (i 2).val; omega

/-- What a return copy leaves in its slot. -/
theorem land_r (c : Dev nD) (k : Fin 8) (hk : k ≠ 0) {o : Fin 3 → ℕ} (ho : o = ![(sl k).val, 0, 0]) (inb hs hq₀)
    {o' : Fin 3 → ℕ} (ho' : o' = ![(-k).val - 1, 0, 0]) (inb' hs' hq) (fd : RxrBuf F) (i : S7x256x1024.Idx) (hi : i ∈ rxrset (-k)) :
    (((rxrM : Memref sig .tc .vmem S7x256x1024 .bf16).slice (Rect.unit (s := S7x256x1024) o' S1x256x1024.size inb') hs').squeeze S256x1024 hq).view.write (Elt F) fd
      ((((rbM : Memref sig .tc .vmem S4x256x1024 .bf16).slice (Rect.unit (s := S4x256x1024) o S1x256x1024.size inb) hs).squeeze S256x1024 hq₀).view.read (Elt F) (spread (Y I c k))) Finset.univ i
      = rxrAt I (c + k) i := by
  subst ho ho'
  have hi := mem_rxrset.mp hi
  let x : S256x1024.Idx := fun | 0 => i 1 | 1 => i 2
  have hx : (((rxrM : Memref sig .tc .vmem S7x256x1024 .bf16).slice (Rect.unit (s := S7x256x1024) ![(-k).val - 1, 0, 0] S1x256x1024.size inb') hs').squeeze S256x1024 hq).view.emb x = i := by
    show ((Rect.unit (s := S7x256x1024) ![(-k).val - 1, 0, 0] S1x256x1024.size inb').emb (Shape.reshapeEquiv hq.numel_eq x)) = i
    rw [show Shape.reshapeEquiv hq.numel_eq x = Fin.cons ⟨0, Nat.one_pos⟩ x from Shape.reshapeEquiv_cons_one (n := 2) (d := ![256, 1024]) _ x]
    funext a
    refine Fin.ext ?_
    rw [Rect.emb_apply]
    fin_cases a
    · show (-k).val - 1 + 1 * 0 = (i 0).val; omega
    · show 0 + 1 * (i 1).val = (i 1).val; omega
    · show 0 + 1 * (i 2).val = (i 2).val; omega
  refine (congrArg _ hx.symm).trans ((View.write_emb_of_mem _ _ (Finset.mem_univ x)).trans ?_)
  have hd : rxrDev i = -k := Fin.ext hi
  show Y I c k (rix _ _) = Y I (c + k + rxrDev i) (-rxrDev i) (rix (i 1) (i 2))
  rw [hd, add_add_neg, neg_neg8]
  congr 1
  funext a
  refine Fin.ext ?_
  have he : Shape.reshapeEquiv hq₀.numel_eq x = Fin.cons ⟨0, Nat.one_pos⟩ x := Shape.reshapeEquiv_cons_one (n := 2) (d := ![256, 1024]) _ x
  match a with
  | ⟨0, _⟩ => rfl
  | ⟨1, _⟩ =>
    show 0 + 1 * ((Shape.reshapeEquiv hq₀.numel_eq x) 1).val = (i 1).val
    rw [he]; show 0 + 1 * (i 1).val = _; omega
  | ⟨2, _⟩ =>
    show 0 + 1 * ((Shape.reshapeEquiv hq₀.numel_eq x) 2).val = (i 2).val
    rw [he]; show 0 + 1 * (i 2).val = _; omega

/-- A transfer's units depend on its destination buffer only. -/
theorem credit_g {o' : Fin 3 → ℕ} {inb' hs' hq} (sR : DmaSem sig) :
    (((rxgM : Memref sig .tc .vmem S8x256x512 .bf16).slice (Rect.unit (s := S8x256x512) o' S1x256x512.size inb') hs').squeeze S256x512 hq).view.amount (.dma sR) = N1 := by
  unfold N1; rfl
theorem credit_r {o' : Fin 3 → ℕ} {inb' hs' hq} (sR : DmaSem sig) :
    (((rxrM : Memref sig .tc .vmem S7x256x1024 .bf16).slice (Rect.unit (s := S7x256x1024) o' S1x256x1024.size inb') hs').squeeze S256x1024 hq).view.amount (.dma sR) = N2 := by
  unfold N2; rfl

set_option maxHeartbeats 2000000 in
/-- The dispatch copy to the device `k` further on. -/
theorem send_ag (c n : Dev nD) (k : Fin 8) (hk : k ≠ 0) (hn : n = c + k) (l l' : List (GSem nD τ sig × ℕ)) (hl : l = (dcell (c + k) 1 (-k), N1) :: l')
    {o : Fin 2 → ℕ} (ho : o = ![(c + k).val * 256, 0]) {inb hs} {o' : Fin 3 → ℕ} (ho' : o' = ![(-k).val, 0, 0]) {inb' hs' hq}
    {sS sR : DmaSem sig} (hsS : sS = dsem 0 k) (hsR : sR = dsem 1 (-k)) {hsc hsrc hdst hsem}
    {α : Type} {Q : α → sProp 𝕄} {kk : PUnit → Prog (TpuEff nD τ sig (Elt F) Λ₀ .tc) α} :
    iprop(recs I K ∗ owe c l ∗ gP c (c + k) (gAt I c) ∗ (∃ f : RxgBuf F, rxgP (c + k) (-k) f)
        ∗ dutyTok ER (dcell c 0 k) 0 0 ∗ dutyTok ER (dcell (c + k) 1 (-k)) 0 0)
      ⊢ iprop(((owe c l' ∗ cred (tallyAt (dcell c 0 k) () (amt 0)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma ((gM : Memref sig .tc .vmem S2048x512 .bf16).slice (Rect.unit (s := S2048x512) o S256x512.size inb) hs)
              (.remote (Dev.tc n : Thread nD τ) (((rxgM : Memref sig .tc .vmem S8x256x512 .bf16).slice (Rect.unit (s := S8x256x512) o' S1x256x512.size inb') hs').squeeze S256x512 hq) (.dma sS) hsc)
              (.dma sR) hsrc hdst hsem) kk) Q) := by
  subst hn hl hsS hsR
  iintro ⟨#Hr, Ho, Hg, ⟨%fd, Hx⟩, Ht1, Ht2⟩ Hk
  unfold owe
  icases Ho with ⟨%W, Ho⟩
  have e1 : ((gM : Memref sig .tc .vmem S2048x512 .bf16).slice (Rect.unit (s := S2048x512) o S256x512.size inb) hs).view.set = gset (c + k) :=
    (View.set_slice_whole _ _).trans (g_set ho inb)
  have e2 : (((rxgM : Memref sig .tc .vmem S8x256x512 .bf16).slice (Rect.unit (s := S8x256x512) o' S1x256x512.size inb') hs').squeeze S256x512 hq).view.set = rxgset (-k) :=
    (View.set_reshape _ _).trans ((View.set_slice_whole _ _).trans (rxg_set ho' inb'))
  iapply (Rounds.wp_send_pointsTo 𝒱₀ ER (Rd I) (c : Thread nD τ) none (κ₁ := K (c, dk 0 k)) (κ₂ := K (c + k, dk 1 (-k)))
    (r₁ := 0) (r₂ := 0) (d₁ := 0) (d₂ := 0) (fs := gAt I c) (fd := fd) (q := fullShare)
    (by rw [duties_d I c 0 k hk]; exact Finset.mem_singleton_self _) (by rw [duties_d I (c + k) 1 (-k) (neg_ne k hk)]; exact Finset.mem_singleton_self _)
    () () N1 (credit_g _) (amount_d I c 0 k 0) (amount_d I (c + k) 1 (-k) 0) (OL l') rfl (W := W)
    (by rw [payload_d, e1]; exact BI.Entails.refl _)
    (by
      rw [payload_d, e2]
      exact Entails.of_eq (pointsTo_congr (fun i hi => land_g I c k ho inb hs ho' inb' hs' hq fd i hi)))) $$ [Ho Hg Hx Ht1 Ht2]
  · isplitr; · iapply (inv_d I K c 0 k); iexact Hr
    isplitr; · iapply (inv_d I K (c + k) 1 (-k)); iexact Hr
    isplitl [Hg]; · rw [e1]; unfold gP; iexact Hg
    isplitl [Hx]; · rw [e2]; unfold rxgP; iexact Hx
    isplitl [Ho]; · iexact Ho
    isplitl [Ht1]; · iexact Ht1
    isplitr; · iapply (reached_d I K c 0 k); iexact Hr
    isplitl [Ht2]; · iexact Ht2
    iapply (reached_d I K (c + k) 1 (-k)); iexact Hr
  iintro ⟨Hc, Ho⟩
  iapply Hk
  isplitl [Ho]; · iexists W; iexact Ho
  iexact Hc

/-- The return copy to the device `k` further on. -/
theorem send_rs (c n : Dev nD) (k : Fin 8) (hk : k ≠ 0) (hn : n = c + k) (l l' : List (GSem nD τ sig × ℕ)) (hl : l = (dcell (c + k) 3 (-k), N2) :: l')
    {o : Fin 3 → ℕ} (ho : o = ![(sl k).val, 0, 0]) {inb hs hq₀} {o' : Fin 3 → ℕ} (ho' : o' = ![(-k).val - 1, 0, 0]) {inb' hs' hq}
    {sS sR : DmaSem sig} (hsS : sS = dsem 2 k) (hsR : sR = dsem 3 (-k)) {hsc hsrc hdst hsem}
    {α : Type} {Q : α → sProp 𝕄} {kk : PUnit → Prog (TpuEff nD τ sig (Elt F) Λ₀ .tc) α} :
    iprop(recs I K ∗ owe c l ∗ rbP c (sl k) (spread (Y I c k)) ∗ (∃ f : RxrBuf F, rxrP (c + k) (-k) f)
        ∗ dutyTok ER (dcell c 2 k) 0 0 ∗ dutyTok ER (dcell (c + k) 3 (-k)) 0 0)
      ⊢ iprop(((owe c l' ∗ cred (tallyAt (dcell c 2 k) () (amt 2)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (((rbM : Memref sig .tc .vmem S4x256x1024 .bf16).slice (Rect.unit (s := S4x256x1024) o S1x256x1024.size inb) hs).squeeze S256x1024 hq₀)
              (.remote (Dev.tc n : Thread nD τ) (((rxrM : Memref sig .tc .vmem S7x256x1024 .bf16).slice (Rect.unit (s := S7x256x1024) o' S1x256x1024.size inb') hs').squeeze S256x1024 hq) (.dma sS) hsc)
              (.dma sR) hsrc hdst hsem) kk) Q) := by
  subst hn hl hsS hsR
  iintro ⟨#Hr, Ho, Hg, ⟨%fd, Hx⟩, Ht1, Ht2⟩ Hk
  unfold owe
  icases Ho with ⟨%W, Ho⟩
  have e1 : (((rbM : Memref sig .tc .vmem S4x256x1024 .bf16).slice (Rect.unit (s := S4x256x1024) o S1x256x1024.size inb) hs).squeeze S256x1024 hq₀).view.set = rbset (sl k) :=
    (View.set_reshape _ _).trans ((View.set_slice_whole _ _).trans (rb_set ho inb))
  have e2 : (((rxrM : Memref sig .tc .vmem S7x256x1024 .bf16).slice (Rect.unit (s := S7x256x1024) o' S1x256x1024.size inb') hs').squeeze S256x1024 hq).view.set = rxrset (-k) :=
    (View.set_reshape _ _).trans ((View.set_slice_whole _ _).trans (rxr_set (neg_ne k hk) ho' inb'))
  iapply (Rounds.wp_send_pointsTo 𝒱₀ ER (Rd I) (c : Thread nD τ) none (κ₁ := K (c, dk 2 k)) (κ₂ := K (c + k, dk 3 (-k)))
    (r₁ := 0) (r₂ := 0) (d₁ := 0) (d₂ := 0) (fs := spread (Y I c k)) (fd := fd) (q := fullShare)
    (by rw [duties_d I c 2 k hk]; exact Finset.mem_singleton_self _) (by rw [duties_d I (c + k) 3 (-k) (neg_ne k hk)]; exact Finset.mem_singleton_self _)
    () () N2 (credit_r _) (amount_d I c 2 k 0) (amount_d I (c + k) 3 (-k) 0) (OL l') rfl (W := W)
    (by rw [payload_d, e1]; exact BI.Entails.refl _)
    (by
      rw [payload_d, e2]
      exact Entails.of_eq (pointsTo_congr (fun i hi => land_r I c k hk ho inb hs hq₀ ho' inb' hs' hq fd i hi)))) $$ [Ho Hg Hx Ht1 Ht2]
  · isplitr; · iapply (inv_d I K c 2 k); iexact Hr
    isplitr; · iapply (inv_d I K (c + k) 3 (-k)); iexact Hr
    isplitl [Hg]; · rw [e1]; unfold rbP; iexact Hg
    isplitl [Hx]; · rw [e2]; unfold rxrP; iexact Hx
    isplitl [Ho]; · iexact Ho
    isplitl [Ht1]; · iexact Ht1
    isplitr; · iapply (reached_d I K c 2 k); iexact Hr
    isplitl [Ht2]; · iexact Ht2
    iapply (reached_d I K (c + k) 3 (-k)); iexact Hr
  iintro ⟨Hc, Ho⟩
  iapply Hk
  isplitl [Ho]; · iexists W; iexact Ho
  iexact Hc

end Cert.KernelIdeal.Moe

end

end
-- ==== Proof.KernelIdealRun.Mem.lean ====
/-
Reads and writes of the kernel's buffers: whole buffers, and single slots of the shared scratch buffers.
-/
module

public import proofs.«01_k».proof.Proof.KernelIdealRun.Ops

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A read of the whole buffer. -/
theorem ld_x (c : Dev nD) (f : Vec F S1024x512 .bf16) {inb hl} {α : Type} {Q : α → sProp 𝕄} {kk : Vec F S1024x512 .bf16 → Prog (TpuEff nD τ sig (Elt F) Λ₀ .tc) α} :
    ((((c : Thread nD τ).loc cc0_stg0_0) ↦{fullShare} f : sProp 𝕄))
      ⊢ iprop(((((c : Thread nD τ).loc cc0_stg0_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg0_0 : Memref sig .tc .vmem S1024x512 .bf16) (Rect.unit (s := S1024x512) ![0, 0] S1024x512.size inb).toLoadRect hl) kk) Q) := by
  iintro H Hk
  iapply (wp_load 𝒱₀ (c : Thread nD τ) none Set.univ (m := (Memref.whole cc0_stg0_0 : Memref sig .tc .vmem S1024x512 .bf16)) (Finset.subset_univ _)) $$ H
  iintro H
  rw [show (Memref.whole cc0_stg0_0 : Memref sig .tc .vmem S1024x512 .bf16).view.readAt (Elt F) (Rect.unit (s := S1024x512) ![0, 0] S1024x512.size inb).toLoadRect f = f from Memref.readAt_unit_zero (Elt F) cc0_stg0_0 hz2 _ f]
  iapply Hk
  iexact H

/-- A read of the whole buffer. -/
theorem ld_rw (c : Dev nD) (f : Vec F S512x32 .bf16) {inb hl} {α : Type} {Q : α → sProp 𝕄} {kk : Vec F S512x32 .bf16 → Prog (TpuEff nD τ sig (Elt F) Λ₀ .tc) α} :
    ((((c : Thread nD τ).loc cc0_stg1_0) ↦{fullShare} f : sProp 𝕄))
      ⊢ iprop(((((c : Thread nD τ).loc cc0_stg1_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg1_0 : Memref sig .tc .vmem S512x32 .bf16) (Rect.unit (s := S512x32) ![0, 0] S512x32.size inb).toLoadRect hl) kk) Q) := by
  iintro H Hk
  iapply (wp_load 𝒱₀ (c : Thread nD τ) none Set.univ (m := (Memref.whole cc0_stg1_0 : Memref sig .tc .vmem S512x32 .bf16)) (Finset.subset_univ _)) $$ H
  iintro H
  rw [show (Memref.whole cc0_stg1_0 : Memref sig .tc .vmem S512x32 .bf16).view.readAt (Elt F) (Rect.unit (s := S512x32) ![0, 0] S512x32.size inb).toLoadRect f = f from Memref.readAt_unit_zero (Elt F) cc0_stg1_0 hz2 _ f]
  iapply Hk
  iexact H

/-- A read of the whole buffer. -/
theorem ld_rt (c : Dev nD) (f : Vec F S1024x1 .i32) {inb hl} {α : Type} {Q : α → sProp 𝕄} {kk : Vec F S1024x1 .i32 → Prog (TpuEff nD τ sig (Elt F) Λ₀ .tc) α} :
    ((((c : Thread nD τ).loc cc0_stg2_0) ↦{fullShare} f : sProp 𝕄))
      ⊢ iprop(((((c : Thread nD τ).loc cc0_stg2_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg2_0 : Memref sig .tc .vmem S1024x1 .i32) (Rect.unit (s := S1024x1) ![0, 0] S1024x1.size inb).toLoadRect hl) kk) Q) := by
  iintro H Hk
  iapply (wp_load 𝒱₀ (c : Thread nD τ) none Set.univ (m := (Memref.whole cc0_stg2_0 : Memref sig .tc .vmem S1024x1 .i32)) (Finset.subset_univ _)) $$ H
  iintro H
  rw [show (Memref.whole cc0_stg2_0 : Memref sig .tc .vmem S1024x1 .i32).view.readAt (Elt F) (Rect.unit (s := S1024x1) ![0, 0] S1024x1.size inb).toLoadRect f = f from Memref.readAt_unit_zero (Elt F) cc0_stg2_0 hz2 _ f]
  iapply Hk
  iexact H

/-- A read of the whole buffer. -/
theorem ld_ew (c : Dev nD) (f : Vec F S4x512x1024 .bf16) {inb hl} {α : Type} {Q : α → sProp 𝕄} {kk : Vec F S4x512x1024 .bf16 → Prog (TpuEff nD τ sig (Elt F) Λ₀ .tc) α} :
    ((((c : Thread nD τ).loc cc0_stg3_0) ↦{fullShare} f : sProp 𝕄))
      ⊢ iprop(((((c : Thread nD τ).loc cc0_stg3_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg3_0 : Memref sig .tc .vmem S4x512x1024 .bf16) (Rect.unit (s := S4x512x1024) ![0, 0, 0] S4x512x1024.size inb).toLoadRect hl) kk) Q) := by
  iintro H Hk
  iapply (wp_load 𝒱₀ (c : Thread nD τ) none Set.univ (m := (Memref.whole cc0_stg3_0 : Memref sig .tc .vmem S4x512x1024 .bf16)) (Finset.subset_univ _)) $$ H
  iintro H
  rw [show (Memref.whole cc0_stg3_0 : Memref sig .tc .vmem S4x512x1024 .bf16).view.readAt (Elt F) (Rect.unit (s := S4x512x1024) ![0, 0, 0] S4x512x1024.size inb).toLoadRect f = f from Memref.readAt_unit_zero (Elt F) cc0_stg3_0 hz3 _ f]
  iapply Hk
  iexact H

/-- A read of the whole buffer. -/
theorem ld_sw (c : Dev nD) (f : Vec F S512x1024 .bf16) {inb hl} {α : Type} {Q : α → sProp 𝕄} {kk : Vec F S512x1024 .bf16 → Prog (TpuEff nD τ sig (Elt F) Λ₀ .tc) α} :
    ((((c : Thread nD τ).loc cc0_stg4_0) ↦{fullShare} f : sProp 𝕄))
      ⊢ iprop(((((c : Thread nD τ).loc cc0_stg4_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg4_0 : Memref sig .tc .vmem S512x1024 .bf16) (Rect.unit (s := S512x1024) ![0, 0] S512x1024.size inb).toLoadRect hl) kk) Q) := by
  iintro H Hk
  iapply (wp_load 𝒱₀ (c : Thread nD τ) none Set.univ (m := (Memref.whole cc0_stg4_0 : Memref sig .tc .vmem S512x1024 .bf16)) (Finset.subset_univ _)) $$ H
  iintro H
  rw [show (Memref.whole cc0_stg4_0 : Memref sig .tc .vmem S512x1024 .bf16).view.readAt (Elt F) (Rect.unit (s := S512x1024) ![0, 0] S512x1024.size inb).toLoadRect f = f from Memref.readAt_unit_zero (Elt F) cc0_stg4_0 hz2 _ f]
  iapply Hk
  iexact H

/-- A read of the whole buffer. -/
theorem ld_out (c : Dev nD) (f : Vec F S1024x1024 .f32) {inb hl} {α : Type} {Q : α → sProp 𝕄} {kk : Vec F S1024x1024 .f32 → Prog (TpuEff nD τ sig (Elt F) Λ₀ .tc) α} :
    ((((c : Thread nD τ).loc cc0_stg5_0) ↦{fullShare} f : sProp 𝕄))
      ⊢ iprop(((((c : Thread nD τ).loc cc0_stg5_0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_stg5_0 : Memref sig .tc .vmem S1024x1024 .f32) (Rect.unit (s := S1024x1024) ![0, 0] S1024x1024.size inb).toLoadRect hl) kk) Q) := by
  iintro H Hk
  iapply (wp_load 𝒱₀ (c : Thread nD τ) none Set.univ (m := (Memref.whole cc0_stg5_0 : Memref sig .tc .vmem S1024x1024 .f32)) (Finset.subset_univ _)) $$ H
  iintro H
  rw [show (Memref.whole cc0_stg5_0 : Memref sig .tc .vmem S1024x1024 .f32).view.readAt (Elt F) (Rect.unit (s := S1024x1024) ![0, 0] S1024x1024.size inb).toLoadRect f = f from Memref.readAt_unit_zero (Elt F) cc0_stg5_0 hz2 _ f]
  iapply Hk
  iexact H

/-- A write of the whole buffer. -/
theorem st_out (c : Dev nD) (f w : Vec F S1024x1024 .f32) {inb hx hm} {α : Type} {Q : α → sProp 𝕄} {kk : PUnit → Prog (TpuEff nD τ sig (Elt F) Λ₀ .tc) α} :
    ((((c : Thread nD τ).loc cc0_stg5_0) ↦{fullShare} f : sProp 𝕄))
      ⊢ iprop(((((c : Thread nD τ).loc cc0_stg5_0) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_stg5_0 : Memref sig .tc .vmem S1024x1024 .f32) (Rect.unit (s := S1024x1024) ![0, 0] S1024x1024.size inb) w Finset.univ hx hm) kk) Q) := by
  iintro H Hk
  iapply (wp_store 𝒱₀ (c : Thread nD τ) none Set.univ (m := (Memref.whole cc0_stg5_0 : Memref sig .tc .vmem S1024x1024 .f32)) (r := (Rect.unit (s := S1024x1024) ![0, 0] S1024x1024.size inb)) (Mk := Finset.univ) (Finset.subset_univ _)) $$ H
  iintro H
  rw [show ((Memref.whole cc0_stg5_0 : Memref sig .tc .vmem S1024x1024 .f32).access (Rect.unit (s := S1024x1024) ![0, 0] S1024x1024.size inb) : View sig .tc _ _ _).write (Elt F) f w Finset.univ = w from Memref.write_access_unit_zero_univ (Elt F) cc0_stg5_0 hz2 _ f w]
  iapply Hk
  iexact H

/-- A read of the whole buffer. -/
theorem ld_g (c : Dev nD) (f : Vec F S2048x512 .bf16) {inb hl} {α : Type} {Q : α → sProp 𝕄} {kk : Vec F S2048x512 .bf16 → Prog (TpuEff nD τ sig (Elt F) Λ₀ .tc) α} :
    ((((c : Thread nD τ).loc cc0_scratch0) ↦{fullShare} f : sProp 𝕄))
      ⊢ iprop(((((c : Thread nD τ).loc cc0_scratch0) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_scratch0 : Memref sig .tc .vmem S2048x512 .bf16) (Rect.unit (s := S2048x512) ![0, 0] S2048x512.size inb).toLoadRect hl) kk) Q) := by
  iintro H Hk
  iapply (wp_load 𝒱₀ (c : Thread nD τ) none Set.univ (m := (Memref.whole cc0_scratch0 : Memref sig .tc .vmem S2048x512 .bf16)) (Finset.subset_univ _)) $$ H
  iintro H
  rw [show (Memref.whole cc0_scratch0 : Memref sig .tc .vmem S2048x512 .bf16).view.readAt (Elt F) (Rect.unit (s := S2048x512) ![0, 0] S2048x512.size inb).toLoadRect f = f from Memref.readAt_unit_zero (Elt F) cc0_scratch0 hz2 _ f]
  iapply Hk
  iexact H

/-- A write of the whole buffer. -/
theorem st_g (c : Dev nD) (f w : Vec F S2048x512 .bf16) {inb hx hm} {α : Type} {Q : α → sProp 𝕄} {kk : PUnit → Prog (TpuEff nD τ sig (Elt F) Λ₀ .tc) α} :
    ((((c : Thread nD τ).loc cc0_scratch0) ↦{fullShare} f : sProp 𝕄))
      ⊢ iprop(((((c : Thread nD τ).loc cc0_scratch0) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_scratch0 : Memref sig .tc .vmem S2048x512 .bf16) (Rect.unit (s := S2048x512) ![0, 0] S2048x512.size inb) w Finset.univ hx hm) kk) Q) := by
  iintro H Hk
  iapply (wp_store 𝒱₀ (c : Thread nD τ) none Set.univ (m := (Memref.whole cc0_scratch0 : Memref sig .tc .vmem S2048x512 .bf16)) (r := (Rect.unit (s := S2048x512) ![0, 0] S2048x512.size inb)) (Mk := Finset.univ) (Finset.subset_univ _)) $$ H
  iintro H
  rw [show ((Memref.whole cc0_scratch0 : Memref sig .tc .vmem S2048x512 .bf16).access (Rect.unit (s := S2048x512) ![0, 0] S2048x512.size inb) : View sig .tc _ _ _).write (Elt F) f w Finset.univ = w from Memref.write_access_unit_zero_univ (Elt F) cc0_scratch0 hz2 _ f w]
  iapply Hk
  iexact H

/-- A read of the whole buffer. -/
theorem ld_ews (c : Dev nD) (f : Vec F S4x512x1024 .bf16) {inb hl} {α : Type} {Q : α → sProp 𝕄} {kk : Vec F S4x512x1024 .bf16 → Prog (TpuEff nD τ sig (Elt F) Λ₀ .tc) α} :
    ((((c : Thread nD τ).loc cc0_scratch4) ↦{fullShare} f : sProp 𝕄))
      ⊢ iprop(((((c : Thread nD τ).loc cc0_scratch4) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_scratch4 : Memref sig .tc .vmem S4x512x1024 .bf16) (Rect.unit (s := S4x512x1024) ![0, 0, 0] S4x512x1024.size inb).toLoadRect hl) kk) Q) := by
  iintro H Hk
  iapply (wp_load 𝒱₀ (c : Thread nD τ) none Set.univ (m := (Memref.whole cc0_scratch4 : Memref sig .tc .vmem S4x512x1024 .bf16)) (Finset.subset_univ _)) $$ H
  iintro H
  rw [show (Memref.whole cc0_scratch4 : Memref sig .tc .vmem S4x512x1024 .bf16).view.readAt (Elt F) (Rect.unit (s := S4x512x1024) ![0, 0, 0] S4x512x1024.size inb).toLoadRect f = f from Memref.readAt_unit_zero (Elt F) cc0_scratch4 hz3 _ f]
  iapply Hk
  iexact H

/-- A write of the whole buffer. -/
theorem st_ews (c : Dev nD) (f w : Vec F S4x512x1024 .bf16) {inb hx hm} {α : Type} {Q : α → sProp 𝕄} {kk : PUnit → Prog (TpuEff nD τ sig (Elt F) Λ₀ .tc) α} :
    ((((c : Thread nD τ).loc cc0_scratch4) ↦{fullShare} f : sProp 𝕄))
      ⊢ iprop(((((c : Thread nD τ).loc cc0_scratch4) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_scratch4 : Memref sig .tc .vmem S4x512x1024 .bf16) (Rect.unit (s := S4x512x1024) ![0, 0, 0] S4x512x1024.size inb) w Finset.univ hx hm) kk) Q) := by
  iintro H Hk
  iapply (wp_store 𝒱₀ (c : Thread nD τ) none Set.univ (m := (Memref.whole cc0_scratch4 : Memref sig .tc .vmem S4x512x1024 .bf16)) (r := (Rect.unit (s := S4x512x1024) ![0, 0, 0] S4x512x1024.size inb)) (Mk := Finset.univ) (Finset.subset_univ _)) $$ H
  iintro H
  rw [show ((Memref.whole cc0_scratch4 : Memref sig .tc .vmem S4x512x1024 .bf16).access (Rect.unit (s := S4x512x1024) ![0, 0, 0] S4x512x1024.size inb) : View sig .tc _ _ _).write (Elt F) f w Finset.univ = w from Memref.write_access_unit_zero_univ (Elt F) cc0_scratch4 hz3 _ f w]
  iapply Hk
  iexact H

/-- A read of the whole buffer. -/
theorem ld_sp (c : Dev nD) (f : Vec F S1024x2048 .bf16) {inb hl} {α : Type} {Q : α → sProp 𝕄} {kk : Vec F S1024x2048 .bf16 → Prog (TpuEff nD τ sig (Elt F) Λ₀ .tc) α} :
    ((((c : Thread nD τ).loc cc0_scratch5) ↦{fullShare} f : sProp 𝕄))
      ⊢ iprop(((((c : Thread nD τ).loc cc0_scratch5) ↦{fullShare} f) -∗ wp frame (wpE (defs₀ (F := F)) 𝒱₀ (c : Thread nD τ) none) Set.univ (kk f) Q)
          -∗ wp frame (wpE (defs₀ (F := F)) 𝒱₀ (c : Thread nD τ) none) Set.univ (.op (.load (Memref.whole cc0_scratch5 : Memref sig .tc .vmem S1024x2048 .bf16) (Rect.unit (s := S1024x2048) ![0, 0] S1024x2048.size inb).toLoadRect hl) kk) Q) := by
  iintro H Hk
  iapply (wp_load 𝒱₀ (c : Thread nD τ) none Set.univ (m := (Memref.whole cc0_scratch5 : Memref sig .tc .vmem S1024x2048 .bf16)) (Finset.subset_univ _)) $$ H
  iintro H
  rw [show (Memref.whole cc0_scratch5 : Memref sig .tc .vmem S1024x2048 .bf16).view.readAt (Elt F) (Rect.unit (s := S1024x2048) ![0, 0] S1024x2048.size inb).toLoadRect f = f from Memref.readAt_unit_zero (Elt F) cc0_scratch5 hz2 _ f]
  iapply Hk
  iexact H

/-- A write of the whole buffer. -/
theorem st_sp (c : Dev nD) (f w : Vec F S1024x2048 .bf16) {inb hx hm} {α : Type} {Q : α → sProp 𝕄} {kk : PUnit → Prog (TpuEff nD τ sig (Elt F) Λ₀ .tc) α} :
    ((((c : Thread nD τ).loc cc0_scratch5) ↦{fullShare} f : sProp 𝕄))
      ⊢ iprop(((((c : Thread nD τ).loc cc0_scratch5) ↦{fullShare} w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_scratch5 : Memref sig .tc .vmem S1024x2048 .bf16) (Rect.unit (s := S1024x2048) ![0, 0] S1024x2048.size inb) w Finset.univ hx hm) kk) Q) := by
  iintro H Hk
  iapply (wp_store 𝒱₀ (c : Thread nD τ) none Set.univ (m := (Memref.whole cc0_scratch5 : Memref sig .tc .vmem S1024x2048 .bf16)) (r := (Rect.unit (s := S1024x2048) ![0, 0] S1024x2048.size inb)) (Mk := Finset.univ) (Finset.subset_univ _)) $$ H
  iintro H
  rw [show ((Memref.whole cc0_scratch5 : Memref sig .tc .vmem S1024x2048 .bf16).access (Rect.unit (s := S1024x2048) ![0, 0] S1024x2048.size inb) : View sig .tc _ _ _).write (Elt F) f w Finset.univ = w from Memref.write_access_unit_zero_univ (Elt F) cc0_scratch5 hz2 _ f w]
  iapply Hk
  iexact H

/-- A read of part of a buffer held whole. -/
theorem ld_ewSl (c : Dev nD) (k : Fin 4) (f : Vec F S4x512x1024 .bf16) {o : Fin 3 → ℕ} (ho : o = ![k.val, 0, 0]) {inb hl} {α : Type} {Q : α → sProp 𝕄} {kk : Vec F S1x512x1024 .bf16 → Prog (TpuEff nD τ sig (Elt F) Λ₀ .tc) α} :
    ((((c : Thread nD τ).loc cc0_scratch4) ↦{fullShare} f : sProp 𝕄))
      ⊢ iprop(((((c : Thread nD τ).loc cc0_scratch4) ↦{fullShare} f) -∗ wp frame (wpE (defs₀ (F := F)) 𝒱₀ (c : Thread nD τ) none) Set.univ (kk (rdEw k f)) Q)
          -∗ wp frame (wpE (defs₀ (F := F)) 𝒱₀ (c : Thread nD τ) none) Set.univ (.op (.load (Memref.whole cc0_scratch4 : Memref sig .tc .vmem S4x512x1024 .bf16) (Rect.unit (s := S4x512x1024) o S1x512x1024.size inb).toLoadRect hl) kk) Q) := by
  subst ho
  exact wp_load 𝒱₀ (c : Thread nD τ) none Set.univ (m := (Memref.whole cc0_scratch4 : Memref sig .tc .vmem S4x512x1024 .bf16)) (Finset.subset_univ _)

/-- A read of part of a buffer held whole. -/
theorem ld_spSl (c : Dev nD) (k : Fin 8) (f : Vec F S1024x2048 .bf16) {o : Fin 2 → ℕ} (ho : o = ![0, k.val * 256]) {inb hl} {α : Type} {Q : α → sProp 𝕄} {kk : Vec F S1024x256 .bf16 → Prog (TpuEff nD τ sig (Elt F) Λ₀ .tc) α} :
    ((((c : Thread nD τ).loc cc0_scratch5) ↦{fullShare} f : sProp 𝕄))
      ⊢ iprop(((((c : Thread nD τ).loc cc0_scratch5) ↦{fullShare} f) -∗ wp frame (wpE (defs₀ (F := F)) 𝒱₀ (c : Thread nD τ) none) Set.univ (kk (rdSp k f)) Q)
          -∗ wp frame (wpE (defs₀ (F := F)) 𝒱₀ (c : Thread nD τ) none) Set.univ (.op (.load (Memref.whole cc0_scratch5 : Memref sig .tc .vmem S1024x2048 .bf16) (Rect.unit (s := S1024x2048) o S1024x256.size inb).toLoadRect hl) kk) Q) := by
  subst ho
  exact wp_load 𝒱₀ (c : Thread nD τ) none Set.univ (m := (Memref.whole cc0_scratch5 : Memref sig .tc .vmem S1024x2048 .bf16)) (Finset.subset_univ _)

/-- A read of one piece, held alone. -/
theorem ld_rxgSl (c : Dev nD) (k : Fin 8) (f : Vec F S8x256x512 .bf16) {o : Fin 3 → ℕ} (ho : o = ![k.val, 0, 0]) {inb hl} {α : Type} {Q : α → sProp 𝕄} {kk : Vec F S1x256x512 .bf16 → Prog (TpuEff nD τ sig (Elt F) Λ₀ .tc) α} :
    ((rxgP c k f : sProp 𝕄))
      ⊢ iprop(((rxgP c k f) -∗ wp frame (wpE (defs₀ (F := F)) 𝒱₀ (c : Thread nD τ) none) Set.univ (kk (rdRxg k f)) Q)
          -∗ wp frame (wpE (defs₀ (F := F)) 𝒱₀ (c : Thread nD τ) none) Set.univ (.op (.load (Memref.whole cc0_scratch1 : Memref sig .tc .vmem S8x256x512 .bf16) (Rect.unit (s := S8x256x512) o S1x256x512.size inb).toLoadRect hl) kk) Q) := by
  have e : ((Memref.whole cc0_scratch1 : Memref sig .tc .vmem S8x256x512 .bf16).access (Rect.unit (s := S8x256x512) o S1x256x512.size inb)).set = rxgset k := (View.set_slice_whole _ _).trans (rxg_set ho inb)
  unfold rxgP
  subst ho
  iintro H Hk
  iapply (wp_load_rect 𝒱₀ (c : Thread nD τ) none Set.univ (m := (Memref.whole cc0_scratch1 : Memref sig .tc .vmem S8x256x512 .bf16)) (r := (Rect.unit (s := S8x256x512) ![k.val, 0, 0] S1x256x512.size inb)) (le_of_eq e)) $$ H
  iintro H
  iapply Hk
  iexact H

/-- A read of one piece, held alone. -/
theorem ld_rxrSl (c : Dev nD) (k : Fin 8) (hk : k ≠ 0) (f : Vec F S7x256x1024 .bf16) {o : Fin 3 → ℕ} (ho : o = ![k.val - 1, 0, 0]) {inb hl} {α : Type} {Q : α → sProp 𝕄} {kk : Vec F S1x256x1024 .bf16 → Prog (TpuEff nD τ sig (Elt F) Λ₀ .tc) α} :
    ((rxrP c k f : sProp 𝕄))
      ⊢ iprop(((rxrP c k f) -∗ wp frame (wpE (defs₀ (F := F)) 𝒱₀ (c : Thread nD τ) none) Set.univ (kk (rdRxr k f)) Q)
          -∗ wp frame (wpE (defs₀ (F := F)) 𝒱₀ (c : Thread nD τ) none) Set.univ (.op (.load (Memref.whole cc0_scratch3 : Memref sig .tc .vmem S7x256x1024 .bf16) (Rect.unit (s := S7x256x1024) o S1x256x1024.size inb).toLoadRect hl) kk) Q) := by
  have e : ((Memref.whole cc0_scratch3 : Memref sig .tc .vmem S7x256x1024 .bf16).access (Rect.unit (s := S7x256x1024) o S1x256x1024.size inb)).set = rxrset k := (View.set_slice_whole _ _).trans (rxr_set hk ho inb)
  unfold rxrP
  subst ho
  iintro H Hk
  iapply (wp_load_rect 𝒱₀ (c : Thread nD τ) none Set.univ (m := (Memref.whole cc0_scratch3 : Memref sig .tc .vmem S7x256x1024 .bf16)) (r := (Rect.unit (s := S7x256x1024) ![k.val - 1, 0, 0] S1x256x1024.size inb)) (le_of_eq e)) $$ H
  iintro H
  iapply Hk
  iexact H

/-- A read of one piece, held alone. -/
theorem ld_gSl (c : Dev nD) (k : Fin 8) (f : Vec F S2048x512 .bf16) {o : Fin 2 → ℕ} (ho : o = ![k.val * 256, 0]) {inb hl} {α : Type} {Q : α → sProp 𝕄} {kk : Vec F S256x512 .bf16 → Prog (TpuEff nD τ sig (Elt F) Λ₀ .tc) α} :
    ((gP c k f : sProp 𝕄))
      ⊢ iprop(((gP c k f) -∗ wp frame (wpE (defs₀ (F := F)) 𝒱₀ (c : Thread nD τ) none) Set.univ (kk (rdG k f)) Q)
          -∗ wp frame (wpE (defs₀ (F := F)) 𝒱₀ (c : Thread nD τ) none) Set.univ (.op (.load (Memref.whole cc0_scratch0 : Memref sig .tc .vmem S2048x512 .bf16) (Rect.unit (s := S2048x512) o S256x512.size inb).toLoadRect hl) kk) Q) := by
  have e : ((Memref.whole cc0_scratch0 : Memref sig .tc .vmem S2048x512 .bf16).access (Rect.unit (s := S2048x512) o S256x512.size inb)).set = gset k := (View.set_slice_whole _ _).trans (g_set ho inb)
  unfold gP
  subst ho
  iintro H Hk
  iapply (wp_load_rect 𝒱₀ (c : Thread nD τ) none Set.univ (m := (Memref.whole cc0_scratch0 : Memref sig .tc .vmem S2048x512 .bf16)) (r := (Rect.unit (s := S2048x512) ![k.val * 256, 0] S256x512.size inb)) (le_of_eq e)) $$ H
  iintro H
  iapply Hk
  iexact H

/-- A read of one piece, held alone. -/
theorem ld_rbSl (c : Dev nD) (k : Fin 4) (f : Vec F S4x256x1024 .bf16) {o : Fin 3 → ℕ} (ho : o = ![k.val, 0, 0]) {inb hl} {α : Type} {Q : α → sProp 𝕄} {kk : Vec F S1x256x1024 .bf16 → Prog (TpuEff nD τ sig (Elt F) Λ₀ .tc) α} :
    ((rbP c k f : sProp 𝕄))
      ⊢ iprop((∀ v, (rbP c k f) -∗ wp frame (wpE (defs₀ (F := F)) 𝒱₀ (c : Thread nD τ) none) Set.univ (kk v) Q)
          -∗ wp frame (wpE (defs₀ (F := F)) 𝒱₀ (c : Thread nD τ) none) Set.univ (.op (.load (Memref.whole cc0_scratch2 : Memref sig .tc .vmem S4x256x1024 .bf16) (Rect.unit (s := S4x256x1024) o S1x256x1024.size inb).toLoadRect hl) kk) Q) := by
  have e : ((Memref.whole cc0_scratch2 : Memref sig .tc .vmem S4x256x1024 .bf16).access (Rect.unit (s := S4x256x1024) o S1x256x1024.size inb)).set = rbset k := (View.set_slice_whole _ _).trans (rb_set ho inb)
  unfold rbP

  iintro H Hk
  iapply (wp_load_rect 𝒱₀ (c : Thread nD τ) none Set.univ (m := (Memref.whole cc0_scratch2 : Memref sig .tc .vmem S4x256x1024 .bf16)) (r := (Rect.unit (s := S4x256x1024) o S1x256x1024.size inb)) (le_of_eq e)) $$ H
  iintro H
  iapply Hk
  iexact H

theorem add_zero8 : ∀ c : Fin 8, c + (0 : Fin 8) = c := by decide

/-- Writing a slot of the return staging buffer. -/
theorem st_rb (c : Dev nD) (k : Fin 4) (f : RbBuf F) (w : Vec F S1x256x1024 .bf16) {o : Fin 3 → ℕ} (ho : o = ![k.val, 0, 0]) {inb hx hm} {α : Type} {Q : α → sProp 𝕄} {kk : PUnit → Prog (TpuEff nD τ sig (Elt F) Λ₀ .tc) α} :
    ((rbP c k f : sProp 𝕄))
      ⊢ iprop((rbP c k (spread w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_scratch2 : Memref sig .tc .vmem S4x256x1024 .bf16) (Rect.unit (s := S4x256x1024) o S1x256x1024.size inb) w Finset.univ hx hm) kk) Q) := by
  have e : ((Memref.whole cc0_scratch2 : Memref sig .tc .vmem S4x256x1024 .bf16).access (Rect.unit (s := S4x256x1024) o S1x256x1024.size inb)).set = rbset k :=
    (View.set_slice_whole _ _).trans (rb_set ho inb)
  unfold rbP
  iintro H Hk
  iapply (wp_store 𝒱₀ (c : Thread nD τ) none Set.univ (m := (Memref.whole cc0_scratch2 : Memref sig .tc .vmem S4x256x1024 .bf16)) (r := Rect.unit (s := S4x256x1024) o S1x256x1024.size inb) (Mk := Finset.univ) (le_of_eq e)) $$ H
  iintro H
  iapply Hk
  refine Entails.of_eq (pointsTo_congr fun i hi => ?_)
  subst ho
  have hi := mem_rbset.mp hi
  have hx : ((Memref.whole cc0_scratch2 : Memref sig .tc .vmem S4x256x1024 .bf16).access (Rect.unit (s := S4x256x1024) ![k.val, 0, 0] S1x256x1024.size inb)).emb (rix (i 1) (i 2)) = i := by
    show (Rect.unit (s := S4x256x1024) ![k.val, 0, 0] S1x256x1024.size inb).emb (rix (i 1) (i 2)) = i
    funext a
    refine Fin.ext ?_
    rw [Rect.emb_apply]
    fin_cases a
    · show k.val + 1 * 0 = (i 0).val; omega
    · show 0 + 1 * (i 1).val = (i 1).val; omega
    · show 0 + 1 * (i 2).val = (i 2).val; omega
  exact (congrArg _ hx.symm).trans (View.write_emb_of_mem _ _ (Finset.mem_univ _))

/-- Writing the device's own rows into slot `0` of its dispatch landing buffer. -/
theorem st_rxg0 (c : Dev nD) (f : RxgBuf F) (v : Vec F S256x512 .bf16) (hv : v = rdG c (gAt I c)) {inb hx hm} {α : Type} {Q : α → sProp 𝕄} {kk : PUnit → Prog (TpuEff nD τ sig (Elt F) Λ₀ .tc) α} :
    ((rxgP c 0 f : sProp 𝕄))
      ⊢ iprop((rxgP c 0 (rxgAt I c) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_scratch1 : Memref sig .tc .vmem S8x256x512 .bf16) (Rect.unit (s := S8x256x512) ![0, 0, 0] S1x256x512.size inb) (k0_pay10 v) Finset.univ hx hm) kk) Q) := by
  have e : ((Memref.whole cc0_scratch1 : Memref sig .tc .vmem S8x256x512 .bf16).access (Rect.unit (s := S8x256x512) ![0, 0, 0] S1x256x512.size inb)).set = rxgset 0 :=
    (View.set_slice_whole _ _).trans (rxg_set (k := 0) rfl inb)
  unfold rxgP
  iintro H Hk
  iapply (wp_store 𝒱₀ (c : Thread nD τ) none Set.univ (m := (Memref.whole cc0_scratch1 : Memref sig .tc .vmem S8x256x512 .bf16)) (r := Rect.unit (s := S8x256x512) ![0, 0, 0] S1x256x512.size inb) (Mk := Finset.univ) (le_of_eq e)) $$ H
  iintro H
  iapply Hk
  refine Entails.of_eq (pointsTo_congr fun i hi => ?_)
  have hi := mem_rxgset.mp hi
  let x : S256x512.Idx := fun | 0 => i 1 | 1 => i 2
  have hq : S1x256x512.numel = S256x512.numel := by decide
  have hx : ((Memref.whole cc0_scratch1 : Memref sig .tc .vmem S8x256x512 .bf16).access (Rect.unit (s := S8x256x512) ![0, 0, 0] S1x256x512.size inb)).emb (Shape.reshapeEquiv hq.symm x) = i := by
    show (Rect.unit (s := S8x256x512) ![0, 0, 0] S1x256x512.size inb).emb (Shape.reshapeEquiv hq.symm x) = i
    rw [show Shape.reshapeEquiv hq.symm x = Fin.cons ⟨0, Nat.one_pos⟩ x from Shape.reshapeEquiv_cons_one (n := 2) (d := ![256, 512]) _ x]
    funext a
    refine Fin.ext ?_
    rw [Rect.emb_apply]
    fin_cases a
    · show 0 + 1 * 0 = (i 0).val; rw [hi]; rfl
    · show 0 + 1 * (i 1).val = (i 1).val; omega
    · show 0 + 1 * (i 2).val = (i 2).val; omega
  refine (congrArg _ hx.symm).trans ((View.write_emb_of_mem _ _ (Finset.mem_univ _)).trans ?_)
  show v (Shape.reshapeEquiv _ (Shape.reshapeEquiv hq.symm x)) = gAt I (c + rxgDev i) (gix c (i 1) (i 2))
  rw [Shape.reshapeEquiv_reshapeEquiv, Shape.reshapeEquiv_self, hv, show rxgDev i = 0 from Fin.ext hi, add_zero8]
  show gAt I c _ = _
  congr 1
  funext a
  refine Fin.ext ?_
  match a with
  | ⟨0, _⟩ => show c.val * 256 + 1 * (i 1).val = c.val * 256 + (i 1).val; omega
  | ⟨1, _⟩ => show 0 + 1 * (i 2).val = (i 2).val; omega

/-- The gathered rows by distance round the ring. -/
theorem g_fan (c : Dev nD) (f : GBuf F) :
    ((((c : Thread nD τ).loc cc0_scratch0) ↦{fullShare} f : sProp 𝕄))
      ⊢ iprop(gP c c f ∗ gP c (c + 1) f ∗ gP c (c + 2) f ∗ gP c (c + 3) f ∗ gP c (c + 4) f ∗ gP c (c + 5) f ∗ gP c (c + 6) f ∗ gP c (c + 7) f) := by
  rw [g_split, bigSep_eq_bigSepL_of_eq [c, c + 1, c + 2, c + 3, c + 4, c + 5, c + 6, c + 7] (by revert c; decide) (by revert c; decide)]
  exact BI.Entails.refl _

/-! ## The printed device numbers and offsets -/

theorem dev1_eq (c : Dev nD) : (⟨k0_dev1 c, k0_dev1_lt c⟩ : Dev nD) = c + 1 := by revert c; decide
theorem dev2_eq (c : Dev nD) : (⟨k0_dev2 c, k0_dev2_lt c⟩ : Dev nD) = c + 2 := by revert c; decide
theorem dev3_eq (c : Dev nD) : (⟨k0_dev3 c, k0_dev3_lt c⟩ : Dev nD) = c + 3 := by revert c; decide
theorem dev4_eq (c : Dev nD) : (⟨k0_dev4 c, k0_dev4_lt c⟩ : Dev nD) = c + 4 := by revert c; decide
theorem dev5_eq (c : Dev nD) : (⟨k0_dev5 c, k0_dev5_lt c⟩ : Dev nD) = c + 5 := by revert c; decide
theorem dev6_eq (c : Dev nD) : (⟨k0_dev6 c, k0_dev6_lt c⟩ : Dev nD) = c + 6 := by revert c; decide
theorem dev7_eq (c : Dev nD) : (⟨k0_dev7 c, k0_dev7_lt c⟩ : Dev nD) = c + 7 := by revert c; decide
theorem dev8_eq (c : Dev nD) : (⟨k0_dev8 c, k0_dev8_lt c⟩ : Dev nD) = c + 1 := by revert c; decide
theorem dev9_eq (c : Dev nD) : (⟨k0_dev9 c, k0_dev9_lt c⟩ : Dev nD) = c + 2 := by revert c; decide
theorem dev10_eq (c : Dev nD) : (⟨k0_dev10 c, k0_dev10_lt c⟩ : Dev nD) = c + 3 := by revert c; decide
theorem dev11_eq (c : Dev nD) : (⟨k0_dev11 c, k0_dev11_lt c⟩ : Dev nD) = c + 4 := by revert c; decide
theorem dev12_eq (c : Dev nD) : (⟨k0_dev12 c, k0_dev12_lt c⟩ : Dev nD) = c + 5 := by revert c; decide
theorem dev13_eq (c : Dev nD) : (⟨k0_dev13 c, k0_dev13_lt c⟩ : Dev nD) = c + 6 := by revert c; decide
theorem dev14_eq (c : Dev nD) : (⟨k0_dev14 c, k0_dev14_lt c⟩ : Dev nD) = c + 7 := by revert c; decide
theorem dev15_eq (c : Dev nD) : (⟨k0_dev15 c, k0_dev15_lt c⟩ : Dev nD) = c + 1 := by revert c; decide
theorem dev16_eq (c : Dev nD) : (⟨k0_dev16 c, k0_dev16_lt c⟩ : Dev nD) = c + 2 := by revert c; decide
theorem dev17_eq (c : Dev nD) : (⟨k0_dev17 c, k0_dev17_lt c⟩ : Dev nD) = c + 3 := by revert c; decide
theorem dev18_eq (c : Dev nD) : (⟨k0_dev18 c, k0_dev18_lt c⟩ : Dev nD) = c + 4 := by revert c; decide
theorem dev19_eq (c : Dev nD) : (⟨k0_dev19 c, k0_dev19_lt c⟩ : Dev nD) = c + 5 := by revert c; decide
theorem dev20_eq (c : Dev nD) : (⟨k0_dev20 c, k0_dev20_lt c⟩ : Dev nD) = c + 6 := by revert c; decide
theorem dev21_eq (c : Dev nD) : (⟨k0_dev21 c, k0_dev21_lt c⟩ : Dev nD) = c + 7 := by revert c; decide
theorem off2_eq (c : Dev nD) : k0_off2 c = ![c.val * 256, 0] := by revert c; decide
theorem off3_eq (c : Dev nD) : k0_off3 c = ![0, c.val * 256] := by revert c; decide
theorem off1_eq1 (c : Dev nD) : k0_off1 c 1#32 = ![(c + (1 : Fin 8)).val * 256, 0] := by revert c; decide
theorem off4_eq1 (c : Dev nD) : k0_off4 c 1#32 = ![0, (c + (1 : Fin 8)).val * 256] := by revert c; decide
theorem off1_eq2 (c : Dev nD) : k0_off1 c 2#32 = ![(c + (2 : Fin 8)).val * 256, 0] := by revert c; decide
theorem off4_eq2 (c : Dev nD) : k0_off4 c 2#32 = ![0, (c + (2 : Fin 8)).val * 256] := by revert c; decide
theorem off1_eq3 (c : Dev nD) : k0_off1 c 3#32 = ![(c + (3 : Fin 8)).val * 256, 0] := by revert c; decide
theorem off4_eq3 (c : Dev nD) : k0_off4 c 3#32 = ![0, (c + (3 : Fin 8)).val * 256] := by revert c; decide
theorem off1_eq4 (c : Dev nD) : k0_off1 c 4#32 = ![(c + (4 : Fin 8)).val * 256, 0] := by revert c; decide
theorem off4_eq4 (c : Dev nD) : k0_off4 c 4#32 = ![0, (c + (4 : Fin 8)).val * 256] := by revert c; decide
theorem off1_eq5 (c : Dev nD) : k0_off1 c 5#32 = ![(c + (5 : Fin 8)).val * 256, 0] := by revert c; decide
theorem off4_eq5 (c : Dev nD) : k0_off4 c 5#32 = ![0, (c + (5 : Fin 8)).val * 256] := by revert c; decide
theorem off1_eq6 (c : Dev nD) : k0_off1 c 6#32 = ![(c + (6 : Fin 8)).val * 256, 0] := by revert c; decide
theorem off4_eq6 (c : Dev nD) : k0_off4 c 6#32 = ![0, (c + (6 : Fin 8)).val * 256] := by revert c; decide
theorem off1_eq7 (c : Dev nD) : k0_off1 c 7#32 = ![(c + (7 : Fin 8)).val * 256, 0] := by revert c; decide
theorem off4_eq7 (c : Dev nD) : k0_off4 c 7#32 = ![0, (c + (7 : Fin 8)).val * 256] := by revert c; decide

theorem slv_dsem0 (k : Fin 8) : slv (.dma (dsem 0 k)) = 0 := by revert k; decide
theorem slv_dsem2 (k : Fin 8) : slv (.dma (dsem 2 k)) = 0 := by revert k; decide
theorem ab0 (c : Dev nD) (k : Fin 8) (n : ℕ) : Above (slv (.dma (dsem 0 k))) (dl c n) := by rw [slv_dsem0]; exact above_dl c n 0 (.inl rfl)
theorem ab1 (c : Dev nD) (k : Fin 8) (n : ℕ) (h : 14 ≤ n) : Above (slv (.dma (dsem 1 k))) (dl c n) := by rw [slv_dsem1]; exact above_dl c n 2 (.inr (.inr ⟨rfl, h⟩))
theorem ab2 (c : Dev nD) (k : Fin 8) (n : ℕ) : Above (slv (.dma (dsem 2 k))) (dl c n) := by rw [slv_dsem2]; exact above_dl c n 0 (.inl rfl)
theorem ab3 (c : Dev nD) (k : Fin 8) : Above (slv (.dma (dsem 3 k))) (dl c 21) := fun p hp => by simp [dl] at hp
theorem bar_above (c : Dev nD) : Above 1 (dl c 7) := above_dl c 7 1 (.inr (.inl ⟨rfl, le_refl _⟩))

theorem cred_x {o' : Fin 3 → ℕ} {inb' hs' hq} :
    (((rxgM : Memref sig .tc .vmem S8x256x512 .bf16).slice (Rect.unit (s := S8x256x512) o' S1x256x512.size inb') hs').squeeze S256x512 hq).view.dmaCredit = amt 1 := by
  show _ = N1; unfold N1; rfl
theorem cred_rr {o' : Fin 3 → ℕ} {inb' hs' hq} :
    (((rxrM : Memref sig .tc .vmem S7x256x1024 .bf16).slice (Rect.unit (s := S7x256x1024) o' S1x256x1024.size inb') hs').squeeze S256x1024 hq).view.dmaCredit = amt 3 := by
  show _ = N2; unfold N2; rfl
theorem cred_g {o : Fin 2 → ℕ} {inb hs} :
    ((gM : Memref sig .tc .vmem S2048x512 .bf16).slice (Rect.unit (s := S2048x512) o S256x512.size inb) hs).view.dmaCredit = amt 0 := by
  show _ = N1; unfold N1; rfl
theorem cred_rb {o' : Fin 3 → ℕ} {inb' hs' hq} :
    (((rbM : Memref sig .tc .vmem S4x256x1024 .bf16).slice (Rect.unit (s := S4x256x1024) o' S1x256x1024.size inb') hs').squeeze S256x1024 hq).view.dmaCredit = amt 2 := by
  show _ = N2; unfold N2; rfl

end Cert.KernelIdeal.Moe

end

end
-- ==== Proof.KernelIdealRun.PartsA.lean ====
/-
The kernel's body, part by part (parts 1 to 9): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 1 of the kernel's body. -/
theorem run_part1 (c : Dev nD)   {Q : (Σ' (d0 : Dev nD) (v2 : BitVec 32) (v3 : Sems sig S_) (v30 : BitVec 32) (c8_i32_18 : BitVec 32), BitVec 1) → sProp 𝕄} :
    iprop(recs I K ∗ owe c (dl c 0) ∗ (dutyTok ER (barCell (c + 1)) 0 (-1) ∗ (∃ f : RxgBuf F, rxgP c 1 f) ∗ (∃ f : RxrBuf F, rxrP c 1 f)) ∗ (dutyTok ER (barCell (c + 2)) 0 (-2) ∗ (∃ f : RxgBuf F, rxgP c 2 f) ∗ (∃ f : RxrBuf F, rxrP c 2 f)))
      ⊢ iprop((∀ v2 : BitVec 32, ∀ v30 : BitVec 32, ∀ c8_i32_18 : BitVec 32, ∀ v31 : BitVec 1, (owe c (dl c 2)) -∗ Q ⟨c, v2, (SemArray.scalar (sig.barrier 0 rfl)), v30, c8_i32_18, v31⟩)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 ) Q) := by
  iintro ⟨#Hr, O, SG1, SG2⟩ Hk
  simp only [k0_part1_eq_skeleton]
  unfold k0_part1_skel
  simp only [semSignalWord, semWaitWord, Prog.lift, Prog.bind_op, Prog.bind_ret, Prog.pure_eq_ret, wp_deviceId]
  iapply (signal_bar I K c _ 1 (dev1_eq c) (by decide) (dl c 0) (dl c 1) rfl rfl rfl) $$ [O SG1]
  · isplitr; · iexact Hr
    isplitl [O]; · iexact O
    iexact SG1
  iintro O
  iapply (signal_bar I K c _ 2 (dev2_eq c) (by decide) (dl c 1) (dl c 2) rfl rfl rfl) $$ [O SG2]
  · isplitr; · iexact Hr
    isplitl [O]; · iexact O
    iexact SG2
  iintro O
  rw [wp_ret]
  imodintro
  iapply Hk
  iexact O

set_option maxHeartbeats 1000000 in
/-- Part 2 of the kernel's body. -/
theorem run_part2 (c : Dev nD)  (v2 : BitVec 32) (v30 : BitVec 32) (c8_i32_18 : BitVec 32) (v31 : BitVec 1) {Q : (Σ' (v59 : BitVec 32) (v64 : BitVec 1), BitVec 32) → sProp 𝕄} :
    iprop(recs I K ∗ owe c (dl c 2) ∗ (dutyTok ER (barCell (c + 3)) 0 (-3) ∗ (∃ f : RxgBuf F, rxgP c 3 f) ∗ (∃ f : RxrBuf F, rxrP c 3 f)) ∗ (dutyTok ER (barCell (c + 4)) 0 (-4) ∗ (∃ f : RxgBuf F, rxgP c 4 f) ∗ (∃ f : RxrBuf F, rxrP c 4 f)))
      ⊢ iprop((∀ v59 : BitVec 32, ∀ v64 : BitVec 1, ∀ v65 : BitVec 32, (owe c (dl c 4)) -∗ Q ⟨v59, v64, v65⟩)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (SemArray.scalar (sig.barrier 0 rfl)) v30 c8_i32_18 v31) Q) := by
  iintro ⟨#Hr, O, SG3, SG4⟩ Hk
  simp only [k0_part2_eq_skeleton]
  unfold k0_part2_skel
  simp only [semSignalWord, semWaitWord, Prog.lift, Prog.bind_op, Prog.bind_ret, Prog.pure_eq_ret, wp_deviceId]
  iapply (signal_bar I K c _ 3 (dev3_eq c) (by decide) (dl c 2) (dl c 3) rfl rfl rfl) $$ [O SG3]
  · isplitr; · iexact Hr
    isplitl [O]; · iexact O
    iexact SG3
  iintro O
  iapply (signal_bar I K c _ 4 (dev4_eq c) (by decide) (dl c 3) (dl c 4) rfl rfl rfl) $$ [O SG4]
  · isplitr; · iexact Hr
    isplitl [O]; · iexact O
    iexact SG4
  iintro O
  rw [wp_ret]
  imodintro
  iapply Hk
  iexact O

set_option maxHeartbeats 1000000 in
/-- Part 3 of the kernel's body. -/
theorem run_part3 (c : Dev nD)  (v2 : BitVec 32) (v59 : BitVec 32) (v64 : BitVec 1) (v65 : BitVec 32) {Q : (PUnit) → sProp 𝕄} :
    iprop(recs I K ∗ owe c (dl c 4) ∗ (dutyTok ER (barCell (c + 5)) 0 (-5) ∗ (∃ f : RxgBuf F, rxgP c 5 f) ∗ (∃ f : RxrBuf F, rxrP c 5 f)) ∗ (dutyTok ER (barCell (c + 6)) 0 (-6) ∗ (∃ f : RxgBuf F, rxgP c 6 f) ∗ (∃ f : RxrBuf F, rxrP c 6 f)) ∗ (dutyTok ER (barCell (c + 7)) 0 (-7) ∗ (∃ f : RxgBuf F, rxgP c 7 f) ∗ (∃ f : RxrBuf F, rxrP c 7 f)) ∗ (cred (tallyAt (barCell c) () 7) ∗ atPos ER (barCell c) 0 ∅ 0))
      ⊢ iprop(((owe c (dl c 7) ∗ barPay c 1 ∗ barPay c 2 ∗ barPay c 3 ∗ barPay c 4 ∗ barPay c 5 ∗ barPay c 6 ∗ barPay c 7 ∗ semVal (barCell c) 0) -∗ Q ⟨⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (SemArray.scalar (sig.barrier 0 rfl)) v59 v64 v65) Q) := by
  iintro ⟨#Hr, O, SG5, SG6, SG7, WB⟩ Hk
  simp only [k0_part3_eq_skeleton]
  unfold k0_part3_skel
  simp only [semSignalWord, semWaitWord, Prog.lift, Prog.bind_op, Prog.bind_ret, Prog.pure_eq_ret, wp_deviceId]
  iapply (signal_bar I K c _ 5 (dev5_eq c) (by decide) (dl c 4) (dl c 5) rfl rfl rfl) $$ [O SG5]
  · isplitr; · iexact Hr
    isplitl [O]; · iexact O
    iexact SG5
  iintro O
  iapply (signal_bar I K c _ 6 (dev6_eq c) (by decide) (dl c 5) (dl c 6) rfl rfl rfl) $$ [O SG6]
  · isplitr; · iexact Hr
    isplitl [O]; · iexact O
    iexact SG6
  iintro O
  iapply (signal_bar I K c _ 7 (dev7_eq c) (by decide) (dl c 6) (dl c 7) rfl rfl rfl) $$ [O SG7]
  · isplitr; · iexact Hr
    isplitl [O]; · iexact O
    iexact SG7
  iintro O
  iapply (wait_bar I K c (dl c 7) (bar_above c) rfl rfl) $$ [O WB]
  · isplitr; · iexact Hr
    isplitl [O]; · iexact O
    iexact WB
  iintro ⟨O, ⟨BP1, BP2, BP3, BP4, BP5, BP6, BP7⟩, ZB⟩
  rw [wp_ret]
  imodintro
  iapply Hk
  isplitl [O]; · iexact O
  isplitl [BP1]; · iexact BP1
  isplitl [BP2]; · iexact BP2
  isplitl [BP3]; · iexact BP3
  isplitl [BP4]; · iexact BP4
  isplitl [BP5]; · iexact BP5
  isplitl [BP6]; · iexact BP6
  isplitl [BP7]; · iexact BP7
  iexact ZB

set_option maxHeartbeats 1000000 in
/-- Part 4 of the kernel's body. -/
theorem run_part4 (c : Dev nD)   {Q : (Σ' (v118 : FVec F S1024x1 .f32) (v140 : IVec S1024x2048 1), IVec S1024x2048 1) → sProp 𝕄} :
    iprop(recs I K ∗ (((c : Thread nD τ).loc cc0_stg0_0) ↦{fullShare} (I.x c) : sProp 𝕄) ∗ (((c : Thread nD τ).loc cc0_stg1_0) ↦{fullShare} (I.rw c) : sProp 𝕄) ∗ (((c : Thread nD τ).loc cc0_stg2_0) ↦{fullShare} (I.rt c) : sProp 𝕄))
      ⊢ iprop((((((c : Thread nD τ).loc cc0_stg0_0) ↦{fullShare} (I.x c) : sProp 𝕄) ∗ (((c : Thread nD τ).loc cc0_stg1_0) ↦{fullShare} (I.rw c) : sProp 𝕄) ∗ (((c : Thread nD τ).loc cc0_stg2_0) ↦{fullShare} (I.rt c) : sProp 𝕄)) -∗ Q ⟨(k0_pay3 (I.x c) (I.rw c) (I.rt c)), (k0_pay5 (I.rt c)), (k0_pay6 (I.rt c))⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 ) Q) := by
  iintro ⟨#Hr, X, RW, RT⟩ Hk
  simp only [k0_part4_eq_skeleton]
  unfold k0_part4_skel
  simp only [semSignalWord, semWaitWord, Prog.lift, Prog.bind_op, Prog.bind_ret, Prog.pure_eq_ret, wp_deviceId]
  iapply (ld_x c (I.x c)) $$ [X]
  · iexact X
  iintro X
  iapply (ld_rw c (I.rw c)) $$ [RW]
  · iexact RW
  iintro RW
  iapply (ld_rt c (I.rt c)) $$ [RT]
  · iexact RT
  iintro RT
  rw [wp_ret]
  imodintro
  iapply Hk
  isplitl [X]; · iexact X
  isplitl [RW]; · iexact RW
  iexact RT

set_option maxHeartbeats 1000000 in
/-- Part 5 of the kernel's body. -/
theorem run_part5 (c : Dev nD) (fg : GBuf F) (fsp : Vec F S1024x2048 .bf16) (v2 : BitVec 32) {Q : (PUnit) → sProp 𝕄} :
    iprop(recs I K ∗ (((c : Thread nD τ).loc cc0_scratch5) ↦{fullShare} fsp : sProp 𝕄) ∗ (((c : Thread nD τ).loc cc0_stg0_0) ↦{fullShare} (I.x c) : sProp 𝕄) ∗ (((c : Thread nD τ).loc cc0_scratch0) ↦{fullShare} fg : sProp 𝕄))
      ⊢ iprop((((((c : Thread nD τ).loc cc0_scratch5) ↦{fullShare} (spAt I c) : sProp 𝕄) ∗ (((c : Thread nD τ).loc cc0_stg0_0) ↦{fullShare} (I.x c) : sProp 𝕄) ∗ gP c c (gAt I c) ∗ gP c (c + 1) (gAt I c) ∗ gP c (c + 2) (gAt I c) ∗ gP c (c + 3) (gAt I c) ∗ gP c (c + 4) (gAt I c) ∗ gP c (c + 5) (gAt I c) ∗ gP c (c + 6) (gAt I c) ∗ gP c (c + 7) (gAt I c)) -∗ Q ⟨⟩)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay3 (I.x c) (I.rw c) (I.rt c)) (k0_pay5 (I.rt c)) (k0_pay6 (I.rt c))) Q) := by
  iintro ⟨#Hr, SP, X, G⟩ Hk
  simp only [k0_part5_eq_skeleton]
  unfold k0_part5_skel
  simp only [semSignalWord, semWaitWord, Prog.lift, Prog.bind_op, Prog.bind_ret, Prog.pure_eq_ret, wp_deviceId]
  iapply (ld_sp c fsp) $$ [SP]
  · iexact SP
  iintro SP
  iapply (st_sp c fsp _) $$ [SP]
  · iexact SP
  iintro SP
  ihave SP := (Entails.of_eq (show (((c : Thread nD τ).loc cc0_scratch5) ↦{fullShare} (k0_pay8 (k0_pay3 (I.x c) (I.rw c) (I.rt c)) (k0_pay5 (I.rt c)) (k0_pay6 (I.rt c))) : sProp 𝕄) = (((c : Thread nD τ).loc cc0_scratch5) ↦{fullShare} (spAt I c) : sProp 𝕄) from rfl)) $$ SP
  iapply (ld_x c (I.x c)) $$ [X]
  · iexact X
  iintro X
  iapply (ld_g c fg) $$ [G]
  · iexact G
  iintro G
  iapply (st_g c fg _) $$ [G]
  · iexact G
  iintro G
  ihave G := (Entails.of_eq (show (((c : Thread nD τ).loc cc0_scratch0) ↦{fullShare} (k0_pay9 (k0_pay5 (I.rt c)) (k0_pay6 (I.rt c)) (I.x c)) : sProp 𝕄) = (((c : Thread nD τ).loc cc0_scratch0) ↦{fullShare} (gAt I c) : sProp 𝕄) from rfl)) $$ G
  ihave G := (g_fan c (gAt I c)) $$ G
  icases G with ⟨G0, G1, G2, G3, G4, G5, G6, G7⟩
  rw [wp_ret]
  imodintro
  iapply Hk
  isplitl [SP]; · iexact SP
  isplitl [X]; · iexact X
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

set_option maxHeartbeats 1000000 in
/-- Part 6 of the kernel's body. -/
theorem run_part6 (c : Dev nD)  (v2 : BitVec 32) {Q : (BitVec 32) → sProp 𝕄} :
    iprop(recs I K ∗ owe c (dl c 7) ∗ barPay c 1 ∗ gP c (c + 1) (gAt I c) ∗ (dutyTok ER (dcell c 0 1) 0 0 ∗ dutyTok ER (dcell (c + 1) 1 (-1)) 0 0) ∗ barPay c 2 ∗ gP c (c + 2) (gAt I c) ∗ (dutyTok ER (dcell c 0 2) 0 0 ∗ dutyTok ER (dcell (c + 2) 1 (-2)) 0 0))
      ⊢ iprop((∀ v211 : BitVec 32, (owe c (dl c 9) ∗ (∃ f : RxrBuf F, rxrP (c + 1) (-1) f) ∗ cred (tallyAt (dcell c 0 1) () (amt 0)) ∗ (∃ f : RxrBuf F, rxrP (c + 2) (-2) f) ∗ cred (tallyAt (dcell c 0 2) () (amt 0))) -∗ Q v211)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2) Q) := by
  iintro ⟨#Hr, O, BP1, G1, AT1, BP2, G2, AT2⟩ Hk
  simp only [k0_part6_eq_skeleton]
  unfold k0_part6_skel
  simp only [semSignalWord, semWaitWord, Prog.lift, Prog.bind_op, Prog.bind_ret, Prog.pure_eq_ret, wp_deviceId]
  ihave BP1 := (Entails.of_eq (show (barPay c 1 : sProp 𝕄) = iprop((∃ f : RxgBuf F, rxgP (c + 1) (-1) f) ∗ (∃ f : RxrBuf F, rxrP (c + 1) (-1) f)) from rfl)) $$ BP1
  icases BP1 with ⟨LX1, LR1⟩
  iapply (send_ag I K c _ 1 (by decide) (dev8_eq c) (dl c 7) (dl c 8) rfl (off1_eq1 c) rfl rfl rfl) $$ [O G1 LX1 AT1]
  · isplitr; · iexact Hr
    isplitl [O]; · iexact O
    isplitl [G1]; · iexact G1
    isplitl [LX1]; · iexact LX1
    iexact AT1
  iintro ⟨O, CG1⟩
  ihave BP2 := (Entails.of_eq (show (barPay c 2 : sProp 𝕄) = iprop((∃ f : RxgBuf F, rxgP (c + 2) (-2) f) ∗ (∃ f : RxrBuf F, rxrP (c + 2) (-2) f)) from rfl)) $$ BP2
  icases BP2 with ⟨LX2, LR2⟩
  iapply (send_ag I K c _ 2 (by decide) (dev9_eq c) (dl c 8) (dl c 9) rfl (off1_eq2 c) rfl rfl rfl) $$ [O G2 LX2 AT2]
  · isplitr; · iexact Hr
    isplitl [O]; · iexact O
    isplitl [G2]; · iexact G2
    isplitl [LX2]; · iexact LX2
    iexact AT2
  iintro ⟨O, CG2⟩
  rw [wp_ret]
  imodintro
  iapply Hk
  isplitl [O]; · iexact O
  isplitl [LR1]; · iexact LR1
  isplitl [CG1]; · iexact CG1
  isplitl [LR2]; · iexact LR2
  iexact CG2

set_option maxHeartbeats 1000000 in
/-- Part 7 of the kernel's body. -/
theorem run_part7 (c : Dev nD)  (v2 : BitVec 32) (v211 : BitVec 32) {Q : (BitVec 32) → sProp 𝕄} :
    iprop(recs I K ∗ owe c (dl c 9) ∗ barPay c 3 ∗ gP c (c + 3) (gAt I c) ∗ (dutyTok ER (dcell c 0 3) 0 0 ∗ dutyTok ER (dcell (c + 3) 1 (-3)) 0 0) ∗ barPay c 4 ∗ gP c (c + 4) (gAt I c) ∗ (dutyTok ER (dcell c 0 4) 0 0 ∗ dutyTok ER (dcell (c + 4) 1 (-4)) 0 0))
      ⊢ iprop((∀ v243 : BitVec 32, (owe c (dl c 11) ∗ (∃ f : RxrBuf F, rxrP (c + 3) (-3) f) ∗ cred (tallyAt (dcell c 0 3) () (amt 0)) ∗ (∃ f : RxrBuf F, rxrP (c + 4) (-4) f) ∗ cred (tallyAt (dcell c 0 4) () (amt 0))) -∗ Q v243)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v211) Q) := by
  iintro ⟨#Hr, O, BP3, G3, AT3, BP4, G4, AT4⟩ Hk
  simp only [k0_part7_eq_skeleton]
  unfold k0_part7_skel
  simp only [semSignalWord, semWaitWord, Prog.lift, Prog.bind_op, Prog.bind_ret, Prog.pure_eq_ret, wp_deviceId]
  ihave BP3 := (Entails.of_eq (show (barPay c 3 : sProp 𝕄) = iprop((∃ f : RxgBuf F, rxgP (c + 3) (-3) f) ∗ (∃ f : RxrBuf F, rxrP (c + 3) (-3) f)) from rfl)) $$ BP3
  icases BP3 with ⟨LX3, LR3⟩
  iapply (send_ag I K c _ 3 (by decide) (dev10_eq c) (dl c 9) (dl c 10) rfl (off1_eq3 c) rfl rfl rfl) $$ [O G3 LX3 AT3]
  · isplitr; · iexact Hr
    isplitl [O]; · iexact O
    isplitl [G3]; · iexact G3
    isplitl [LX3]; · iexact LX3
    iexact AT3
  iintro ⟨O, CG3⟩
  ihave BP4 := (Entails.of_eq (show (barPay c 4 : sProp 𝕄) = iprop((∃ f : RxgBuf F, rxgP (c + 4) (-4) f) ∗ (∃ f : RxrBuf F, rxrP (c + 4) (-4) f)) from rfl)) $$ BP4
  icases BP4 with ⟨LX4, LR4⟩
  iapply (send_ag I K c _ 4 (by decide) (dev11_eq c) (dl c 10) (dl c 11) rfl (off1_eq4 c) rfl rfl rfl) $$ [O G4 LX4 AT4]
  · isplitr; · iexact Hr
    isplitl [O]; · iexact O
    isplitl [G4]; · iexact G4
    isplitl [LX4]; · iexact LX4
    iexact AT4
  iintro ⟨O, CG4⟩
  rw [wp_ret]
  imodintro
  iapply Hk
  isplitl [O]; · iexact O
  isplitl [LR3]; · iexact LR3
  isplitl [CG3]; · iexact CG3
  isplitl [LR4]; · iexact LR4
  iexact CG4

set_option maxHeartbeats 1000000 in
/-- Part 8 of the kernel's body. -/
theorem run_part8 (c : Dev nD)  (v2 : BitVec 32) (v243 : BitVec 32) {Q : (Σ' (v274 : BitVec 32), BitVec 32) → sProp 𝕄} :
    iprop(recs I K ∗ owe c (dl c 11) ∗ barPay c 5 ∗ gP c (c + 5) (gAt I c) ∗ (dutyTok ER (dcell c 0 5) 0 0 ∗ dutyTok ER (dcell (c + 5) 1 (-5)) 0 0))
      ⊢ iprop((∀ v274 : BitVec 32, ∀ c1_i32_173 : BitVec 32, (owe c (dl c 12) ∗ (∃ f : RxrBuf F, rxrP (c + 5) (-5) f) ∗ cred (tallyAt (dcell c 0 5) () (amt 0))) -∗ Q ⟨v274, c1_i32_173⟩)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v243) Q) := by
  iintro ⟨#Hr, O, BP5, G5, AT5⟩ Hk
  simp only [k0_part8_eq_skeleton]
  unfold k0_part8_skel
  simp only [semSignalWord, semWaitWord, Prog.lift, Prog.bind_op, Prog.bind_ret, Prog.pure_eq_ret, wp_deviceId]
  ihave BP5 := (Entails.of_eq (show (barPay c 5 : sProp 𝕄) = iprop((∃ f : RxgBuf F, rxgP (c + 5) (-5) f) ∗ (∃ f : RxrBuf F, rxrP (c + 5) (-5) f)) from rfl)) $$ BP5
  icases BP5 with ⟨LX5, LR5⟩
  iapply (send_ag I K c _ 5 (by decide) (dev12_eq c) (dl c 11) (dl c 12) rfl (off1_eq5 c) rfl rfl rfl) $$ [O G5 LX5 AT5]
  · isplitr; · iexact Hr
    isplitl [O]; · iexact O
    isplitl [G5]; · iexact G5
    isplitl [LX5]; · iexact LX5
    iexact AT5
  iintro ⟨O, CG5⟩
  rw [wp_ret]
  imodintro
  iapply Hk
  isplitl [O]; · iexact O
  isplitl [LR5]; · iexact LR5
  iexact CG5

set_option maxHeartbeats 1000000 in
/-- Part 9 of the kernel's body. -/
theorem run_part9 (c : Dev nD)  (v2 : BitVec 32) (v274 : BitVec 32) (c1_i32_173 : BitVec 32) {Q : (Vec F S256x512 .bf16) → sProp 𝕄} :
    iprop(recs I K ∗ owe c (dl c 12) ∗ barPay c 6 ∗ gP c (c + 6) (gAt I c) ∗ (dutyTok ER (dcell c 0 6) 0 0 ∗ dutyTok ER (dcell (c + 6) 1 (-6)) 0 0) ∗ barPay c 7 ∗ gP c (c + 7) (gAt I c) ∗ (dutyTok ER (dcell c 0 7) 0 0 ∗ dutyTok ER (dcell (c + 7) 1 (-7)) 0 0) ∗ gP c c (gAt I c))
      ⊢ iprop(((owe c (dl c 14) ∗ (∃ f : RxrBuf F, rxrP (c + 6) (-6) f) ∗ cred (tallyAt (dcell c 0 6) () (amt 0)) ∗ (∃ f : RxrBuf F, rxrP (c + 7) (-7) f) ∗ cred (tallyAt (dcell c 0 7) () (amt 0)) ∗ gP c c (gAt I c)) -∗ Q (rdG c (gAt I c)))
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v274 c1_i32_173) Q) := by
  iintro ⟨#Hr, O, BP6, G6, AT6, BP7, G7, AT7, G0⟩ Hk
  simp only [k0_part9_eq_skeleton]
  unfold k0_part9_skel
  simp only [semSignalWord, semWaitWord, Prog.lift, Prog.bind_op, Prog.bind_ret, Prog.pure_eq_ret, wp_deviceId]
  ihave BP6 := (Entails.of_eq (show (barPay c 6 : sProp 𝕄) = iprop((∃ f : RxgBuf F, rxgP (c + 6) (-6) f) ∗ (∃ f : RxrBuf F, rxrP (c + 6) (-6) f)) from rfl)) $$ BP6
  icases BP6 with ⟨LX6, LR6⟩
  iapply (send_ag I K c _ 6 (by decide) (dev13_eq c) (dl c 12) (dl c 13) rfl (off1_eq6 c) rfl rfl rfl) $$ [O G6 LX6 AT6]
  · isplitr; · iexact Hr
    isplitl [O]; · iexact O
    isplitl [G6]; · iexact G6
    isplitl [LX6]; · iexact LX6
    iexact AT6
  iintro ⟨O, CG6⟩
  ihave BP7 := (Entails.of_eq (show (barPay c 7 : sProp 𝕄) = iprop((∃ f : RxgBuf F, rxgP (c + 7) (-7) f) ∗ (∃ f : RxrBuf F, rxrP (c + 7) (-7) f)) from rfl)) $$ BP7
  icases BP7 with ⟨LX7, LR7⟩
  iapply (send_ag I K c _ 7 (by decide) (dev14_eq c) (dl c 13) (dl c 14) rfl (off1_eq7 c) rfl rfl rfl) $$ [O G7 LX7 AT7]
  · isplitr; · iexact Hr
    isplitl [O]; · iexact O
    isplitl [G7]; · iexact G7
    isplitl [LX7]; · iexact LX7
    iexact AT7
  iintro ⟨O, CG7⟩
  iapply (ld_gSl c c (gAt I c) (off2_eq c)) $$ [G0]
  · iexact G0
  iintro G0
  rw [wp_ret]
  imodintro
  iapply Hk
  isplitl [O]; · iexact O
  isplitl [LR6]; · iexact LR6
  isplitl [CG6]; · iexact CG6
  isplitl [LR7]; · iexact LR7
  isplitl [CG7]; · iexact CG7
  iexact G0

end Cert.KernelIdeal.Moe

end

end
-- ==== Proof.KernelIdealRun.PartsB.lean ====
/-
The kernel's body, part by part (parts 10 to 14): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 10 of the kernel's body. -/
theorem run_part10 (c : Dev nD) (fews : Vec F S4x512x1024 .bf16) (fx : RxgBuf F) (v2 : BitVec 32) {Q : (Σ' (v321 : FVec F S1024x1024 .f32) (v324 : Vec F S1024x256 .bf16) (v326 : FVec F S256x512 .bf16) (v330 : FVec F S64x1024 .f32) (v334 : FVec F S64x1024 .f32), FVec F S64x1024 .f32) → sProp 𝕄} :
    iprop(recs I K ∗ rxgP c 0 fx ∗ (((c : Thread nD τ).loc cc0_stg3_0) ↦{fullShare} (I.ew c) : sProp 𝕄) ∗ (((c : Thread nD τ).loc cc0_scratch4) ↦{fullShare} fews : sProp 𝕄) ∗ (((c : Thread nD τ).loc cc0_stg0_0) ↦{fullShare} (I.x c) : sProp 𝕄) ∗ (((c : Thread nD τ).loc cc0_stg4_0) ↦{fullShare} (I.sw c) : sProp 𝕄) ∗ (((c : Thread nD τ).loc cc0_scratch5) ↦{fullShare} (spAt I c) : sProp 𝕄))
      ⊢ iprop(((rxgP c 0 (rxgAt I c) ∗ (((c : Thread nD τ).loc cc0_stg3_0) ↦{fullShare} (I.ew c) : sProp 𝕄) ∗ (((c : Thread nD τ).loc cc0_scratch4) ↦{fullShare} (ewAt I c) : sProp 𝕄) ∗ (((c : Thread nD τ).loc cc0_stg0_0) ↦{fullShare} (I.x c) : sProp 𝕄) ∗ (((c : Thread nD τ).loc cc0_stg4_0) ↦{fullShare} (I.sw c) : sProp 𝕄) ∗ (((c : Thread nD τ).loc cc0_scratch5) ↦{fullShare} (spAt I c) : sProp 𝕄)) -∗ Q ⟨(k0_pay12 (I.x c) (I.sw c)), (rdSp c (spAt I c)), (k0_pay13 (rdRxg 0 (rxgAt I c))), (k0_pay14 (rdRxg 0 (rxgAt I c)) (rdEw 0 (ewAt I c))), (k0_pay15 (rdRxg 0 (rxgAt I c)) (rdEw 1 (ewAt I c))), (k0_pay16 (rdRxg 0 (rxgAt I c)) (rdEw 2 (ewAt I c)))⟩)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (rdG c (gAt I c))) Q) := by
  iintro ⟨#Hr, RX0, EW, EWS, X, SW, SP⟩ Hk
  simp only [k0_part10_eq_skeleton]
  unfold k0_part10_skel
  simp only [semSignalWord, semWaitWord, Prog.lift, Prog.bind_op, Prog.bind_ret, Prog.pure_eq_ret, wp_deviceId]
  iapply (ld_rxgSl c 0 fx rfl) $$ [RX0]
  · iexact RX0
  iintro RX0
  iapply (st_rxg0 I c fx _ rfl) $$ [RX0]
  · iexact RX0
  iintro RX0
  iapply (ld_ew c (I.ew c)) $$ [EW]
  · iexact EW
  iintro EW
  iapply (ld_ews c fews) $$ [EWS]
  · iexact EWS
  iintro EWS
  iapply (st_ews c fews _) $$ [EWS]
  · iexact EWS
  iintro EWS
  ihave EWS := (Entails.of_eq (show (((c : Thread nD τ).loc cc0_scratch4) ↦{fullShare} (k0_pay11 (I.ew c)) : sProp 𝕄) = (((c : Thread nD τ).loc cc0_scratch4) ↦{fullShare} (ewAt I c) : sProp 𝕄) from rfl)) $$ EWS
  iapply (ld_x c (I.x c)) $$ [X]
  · iexact X
  iintro X
  iapply (ld_sw c (I.sw c)) $$ [SW]
  · iexact SW
  iintro SW
  iapply (ld_spSl c c (spAt I c) (off3_eq c)) $$ [SP]
  · iexact SP
  iintro SP
  iapply (ld_rxgSl c 0 (rxgAt I c) rfl) $$ [RX0]
  · iexact RX0
  iintro RX0
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  rw [wp_ret]
  imodintro
  iapply Hk
  isplitl [RX0]; · iexact RX0
  isplitl [EW]; · iexact EW
  isplitl [EWS]; · iexact EWS
  isplitl [X]; · iexact X
  isplitl [SW]; · iexact SW
  iexact SP

set_option maxHeartbeats 1000000 in
/-- Part 11 of the kernel's body. -/
theorem run_part11 (c : Dev nD) (fo : Vec F S1024x1024 .f32) (v2 : BitVec 32) {Q : (Σ' (v367 : FVec F S256x512 .bf16), FVec F S64x512 .bf16) → sProp 𝕄} :
    iprop(recs I K ∗ (((c : Thread nD τ).loc cc0_scratch4) ↦{fullShare} (ewAt I c) : sProp 𝕄) ∗ (((c : Thread nD τ).loc cc0_stg5_0) ↦{fullShare} fo : sProp 𝕄) ∗ owe c (dl c 14) ∗ (cred (tallyAt (dcell c 1 1) () (amt 1)) ∗ atPos ER (dcell c 1 1) 0 ∅ 0))
      ⊢ iprop((((((c : Thread nD τ).loc cc0_scratch4) ↦{fullShare} (ewAt I c) : sProp 𝕄) ∗ (((c : Thread nD τ).loc cc0_stg5_0) ↦{fullShare} (out0 I c) : sProp 𝕄) ∗ owe c (dl c 14) ∗ rxgP c 1 (rxgAt I c) ∗ semVal (dcell c 1 1) 0) -∗ Q ⟨(k0_pay18 (rdRxg 1 (rxgAt I c))), (k0_pay19 (rdRxg 1 (rxgAt I c)))⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay12 (I.x c) (I.sw c)) (rdSp c (spAt I c)) (k0_pay13 (rdRxg 0 (rxgAt I c))) (k0_pay14 (rdRxg 0 (rxgAt I c)) (rdEw 0 (ewAt I c))) (k0_pay15 (rdRxg 0 (rxgAt I c)) (rdEw 1 (ewAt I c))) (k0_pay16 (rdRxg 0 (rxgAt I c)) (rdEw 2 (ewAt I c)))) Q) := by
  iintro ⟨#Hr, EWS, OUT, O, WX1⟩ Hk
  simp only [k0_part11_eq_skeleton]
  unfold k0_part11_skel
  simp only [semSignalWord, semWaitWord, Prog.lift, Prog.bind_op, Prog.bind_ret, Prog.pure_eq_ret, wp_deviceId]
  iapply (ld_ewSl c 3 (ewAt I c) rfl) $$ [EWS]
  · iexact EWS
  iintro EWS
  iapply (ld_out c fo) $$ [OUT]
  · iexact OUT
  iintro OUT
  iapply (st_out c fo _) $$ [OUT]
  · iexact OUT
  iintro OUT
  ihave OUT := (Entails.of_eq (show (((c : Thread nD τ).loc cc0_stg5_0) ↦{fullShare} (k0_pay17 (k0_pay12 (I.x c) (I.sw c)) (rdSp c (spAt I c)) (k0_pay13 (rdRxg 0 (rxgAt I c))) (k0_pay14 (rdRxg 0 (rxgAt I c)) (rdEw 0 (ewAt I c))) (k0_pay15 (rdRxg 0 (rxgAt I c)) (rdEw 1 (ewAt I c))) (k0_pay16 (rdRxg 0 (rxgAt I c)) (rdEw 2 (ewAt I c))) (rdEw 3 (ewAt I c))) : sProp 𝕄) = (((c : Thread nD τ).loc cc0_stg5_0) ↦{fullShare} (out0 I c) : sProp 𝕄) from rfl)) $$ OUT
  iapply (wait_d I K c 1 1 (by decide) (dl c 14) (ab1 c 1 14 (by decide)) rfl cred_x) $$ [O WX1]
  · isplitr; · iexact Hr
    isplitl [O]; · iexact O
    iexact WX1
  iintro ⟨O, RX1, ZX1⟩
  ihave RX1 := (Entails.of_eq (show dPay I c 1 1 = rxgP c 1 (rxgAt I c) from rfl)) $$ RX1
  iapply (ld_rxgSl c 1 (rxgAt I c) rfl) $$ [RX1]
  · iexact RX1
  iintro RX1
  rw [wp_ret]
  imodintro
  iapply Hk
  isplitl [EWS]; · iexact EWS
  isplitl [OUT]; · iexact OUT
  isplitl [O]; · iexact O
  isplitl [RX1]; · iexact RX1
  iexact ZX1

set_option maxHeartbeats 1000000 in
/-- Part 12 of the kernel's body. -/
theorem run_part12 (c : Dev nD) (fb0 : RbBuf F) (v2 : BitVec 32) {Q : (BitVec 32) → sProp 𝕄} :
    iprop(recs I K ∗ (((c : Thread nD τ).loc cc0_scratch4) ↦{fullShare} (ewAt I c) : sProp 𝕄) ∗ rbP c 0 fb0)
      ⊢ iprop((∀ v399 : BitVec 32, ((((c : Thread nD τ).loc cc0_scratch4) ↦{fullShare} (ewAt I c) : sProp 𝕄) ∗ rbP c 0 (spread (Y I c 1))) -∗ Q v399)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay18 (rdRxg 1 (rxgAt I c))) (k0_pay19 (rdRxg 1 (rxgAt I c)))) Q) := by
  iintro ⟨#Hr, EWS, RB0⟩ Hk
  simp only [k0_part12_eq_skeleton]
  unfold k0_part12_skel
  simp only [semSignalWord, semWaitWord, Prog.lift, Prog.bind_op, Prog.bind_ret, Prog.pure_eq_ret, wp_deviceId]
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  iapply (ld_rbSl c 0 fb0 rfl) $$ [RB0]
  · iexact RB0
  iintro %wbv386 RB0
  iapply (st_rb c 0 fb0 _ rfl) $$ [RB0]
  · iexact RB0
  iintro RB0
  ihave RB0 := (Entails.of_eq (show rbP c 0 (spread (k0_pay20 (k0_pay18 (rdRxg 1 (rxgAt I c))) (k0_pay19 (rdRxg 1 (rxgAt I c))) (rdEw 0 (ewAt I c)) (rdEw 1 (ewAt I c)) (rdEw 2 (ewAt I c)) (rdEw 3 (ewAt I c)))) = rbP c 0 (spread (Y I c 1)) from rfl)) $$ RB0
  rw [wp_ret]
  imodintro
  iapply Hk
  isplitl [EWS]; · iexact EWS
  iexact RB0

set_option maxHeartbeats 1000000 in
/-- Part 13 of the kernel's body. -/
theorem run_part13 (c : Dev nD)  (v2 : BitVec 32) (v399 : BitVec 32) {Q : (Σ' (v429 : FVec F S256x512 .bf16), FVec F S64x512 .bf16) → sProp 𝕄} :
    iprop(recs I K ∗ owe c (dl c 14) ∗ rbP c 0 (spread (Y I c 1)) ∗ (∃ f : RxrBuf F, rxrP (c + 1) (-1) f) ∗ (dutyTok ER (dcell c 2 1) 0 0 ∗ dutyTok ER (dcell (c + 1) 3 (-1)) 0 0) ∗ (cred (tallyAt (dcell c 1 2) () (amt 1)) ∗ atPos ER (dcell c 1 2) 0 ∅ 0))
      ⊢ iprop(((owe c (dl c 15) ∗ cred (tallyAt (dcell c 2 1) () (amt 2)) ∗ rxgP c 2 (rxgAt I c) ∗ semVal (dcell c 1 2) 0) -∗ Q ⟨(k0_pay21 (rdRxg 2 (rxgAt I c))), (k0_pay22 (rdRxg 2 (rxgAt I c)))⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v399) Q) := by
  iintro ⟨#Hr, O, RB0, LR1, RT1, WX2⟩ Hk
  simp only [k0_part13_eq_skeleton]
  unfold k0_part13_skel
  simp only [semSignalWord, semWaitWord, Prog.lift, Prog.bind_op, Prog.bind_ret, Prog.pure_eq_ret, wp_deviceId]
  iapply (send_rs I K c _ 1 (by decide) (dev15_eq c) (dl c 14) (dl c 15) rfl rfl rfl rfl rfl) $$ [O RB0 LR1 RT1]
  · isplitr; · iexact Hr
    isplitl [O]; · iexact O
    isplitl [RB0]; · iexact RB0
    isplitl [LR1]; · iexact LR1
    iexact RT1
  iintro ⟨O, CR1⟩
  iapply (wait_d I K c 1 2 (by decide) (dl c 15) (ab1 c 2 15 (by decide)) rfl cred_x) $$ [O WX2]
  · isplitr; · iexact Hr
    isplitl [O]; · iexact O
    iexact WX2
  iintro ⟨O, RX2, ZX2⟩
  ihave RX2 := (Entails.of_eq (show dPay I c 1 2 = rxgP c 2 (rxgAt I c) from rfl)) $$ RX2
  iapply (ld_rxgSl c 2 (rxgAt I c) rfl) $$ [RX2]
  · iexact RX2
  iintro RX2
  rw [wp_ret]
  imodintro
  iapply Hk
  isplitl [O]; · iexact O
  isplitl [CR1]; · iexact CR1
  isplitl [RX2]; · iexact RX2
  iexact ZX2

set_option maxHeartbeats 1000000 in
/-- Part 14 of the kernel's body. -/
theorem run_part14 (c : Dev nD) (fb1 : RbBuf F) (v2 : BitVec 32) {Q : (BitVec 32) → sProp 𝕄} :
    iprop(recs I K ∗ (((c : Thread nD τ).loc cc0_scratch4) ↦{fullShare} (ewAt I c) : sProp 𝕄) ∗ rbP c 1 fb1)
      ⊢ iprop((∀ v461 : BitVec 32, ((((c : Thread nD τ).loc cc0_scratch4) ↦{fullShare} (ewAt I c) : sProp 𝕄) ∗ rbP c 1 (spread (Y I c 2))) -∗ Q v461)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay21 (rdRxg 2 (rxgAt I c))) (k0_pay22 (rdRxg 2 (rxgAt I c)))) Q) := by
  iintro ⟨#Hr, EWS, RB1⟩ Hk
  simp only [k0_part14_eq_skeleton]
  unfold k0_part14_skel
  simp only [semSignalWord, semWaitWord, Prog.lift, Prog.bind_op, Prog.bind_ret, Prog.pure_eq_ret, wp_deviceId]
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  iapply (ld_rbSl c 1 fb1 rfl) $$ [RB1]
  · iexact RB1
  iintro %wbv448 RB1
  iapply (st_rb c 1 fb1 _ rfl) $$ [RB1]
  · iexact RB1
  iintro RB1
  ihave RB1 := (Entails.of_eq (show rbP c 1 (spread (k0_pay23 (k0_pay21 (rdRxg 2 (rxgAt I c))) (k0_pay22 (rdRxg 2 (rxgAt I c))) (rdEw 0 (ewAt I c)) (rdEw 1 (ewAt I c)) (rdEw 2 (ewAt I c)) (rdEw 3 (ewAt I c)))) = rbP c 1 (spread (Y I c 2)) from rfl)) $$ RB1
  rw [wp_ret]
  imodintro
  iapply Hk
  isplitl [EWS]; · iexact EWS
  iexact RB1

end Cert.KernelIdeal.Moe

end

end
-- ==== Proof.KernelIdealRun.PartsC.lean ====
/-
The kernel's body, part by part (parts 15 to 19): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 15 of the kernel's body. -/
theorem run_part15 (c : Dev nD)  (v2 : BitVec 32) (v461 : BitVec 32) {Q : (Σ' (v491 : FVec F S256x512 .bf16), FVec F S64x512 .bf16) → sProp 𝕄} :
    iprop(recs I K ∗ owe c (dl c 15) ∗ rbP c 1 (spread (Y I c 2)) ∗ (∃ f : RxrBuf F, rxrP (c + 2) (-2) f) ∗ (dutyTok ER (dcell c 2 2) 0 0 ∗ dutyTok ER (dcell (c + 2) 3 (-2)) 0 0) ∗ (cred (tallyAt (dcell c 1 3) () (amt 1)) ∗ atPos ER (dcell c 1 3) 0 ∅ 0))
      ⊢ iprop(((owe c (dl c 16) ∗ cred (tallyAt (dcell c 2 2) () (amt 2)) ∗ rxgP c 3 (rxgAt I c) ∗ semVal (dcell c 1 3) 0) -∗ Q ⟨(k0_pay24 (rdRxg 3 (rxgAt I c))), (k0_pay25 (rdRxg 3 (rxgAt I c)))⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v461) Q) := by
  iintro ⟨#Hr, O, RB1, LR2, RT2, WX3⟩ Hk
  simp only [k0_part15_eq_skeleton]
  unfold k0_part15_skel
  simp only [semSignalWord, semWaitWord, Prog.lift, Prog.bind_op, Prog.bind_ret, Prog.pure_eq_ret, wp_deviceId]
  iapply (send_rs I K c _ 2 (by decide) (dev16_eq c) (dl c 15) (dl c 16) rfl rfl rfl rfl rfl) $$ [O RB1 LR2 RT2]
  · isplitr; · iexact Hr
    isplitl [O]; · iexact O
    isplitl [RB1]; · iexact RB1
    isplitl [LR2]; · iexact LR2
    iexact RT2
  iintro ⟨O, CR2⟩
  iapply (wait_d I K c 1 3 (by decide) (dl c 16) (ab1 c 3 16 (by decide)) rfl cred_x) $$ [O WX3]
  · isplitr; · iexact Hr
    isplitl [O]; · iexact O
    iexact WX3
  iintro ⟨O, RX3, ZX3⟩
  ihave RX3 := (Entails.of_eq (show dPay I c 1 3 = rxgP c 3 (rxgAt I c) from rfl)) $$ RX3
  iapply (ld_rxgSl c 3 (rxgAt I c) rfl) $$ [RX3]
  · iexact RX3
  iintro RX3
  rw [wp_ret]
  imodintro
  iapply Hk
  isplitl [O]; · iexact O
  isplitl [CR2]; · iexact CR2
  isplitl [RX3]; · iexact RX3
  iexact ZX3

set_option maxHeartbeats 1000000 in
/-- Part 16 of the kernel's body. -/
theorem run_part16 (c : Dev nD) (fb2 : RbBuf F) (v2 : BitVec 32) {Q : (BitVec 32) → sProp 𝕄} :
    iprop(recs I K ∗ (((c : Thread nD τ).loc cc0_scratch4) ↦{fullShare} (ewAt I c) : sProp 𝕄) ∗ rbP c 2 fb2)
      ⊢ iprop((∀ v523 : BitVec 32, ((((c : Thread nD τ).loc cc0_scratch4) ↦{fullShare} (ewAt I c) : sProp 𝕄) ∗ rbP c 2 (spread (Y I c 3))) -∗ Q v523)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay24 (rdRxg 3 (rxgAt I c))) (k0_pay25 (rdRxg 3 (rxgAt I c)))) Q) := by
  iintro ⟨#Hr, EWS, RB2⟩ Hk
  simp only [k0_part16_eq_skeleton]
  unfold k0_part16_skel
  simp only [semSignalWord, semWaitWord, Prog.lift, Prog.bind_op, Prog.bind_ret, Prog.pure_eq_ret, wp_deviceId]
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  iapply (ld_rbSl c 2 fb2 rfl) $$ [RB2]
  · iexact RB2
  iintro %wbv510 RB2
  iapply (st_rb c 2 fb2 _ rfl) $$ [RB2]
  · iexact RB2
  iintro RB2
  ihave RB2 := (Entails.of_eq (show rbP c 2 (spread (k0_pay26 (k0_pay24 (rdRxg 3 (rxgAt I c))) (k0_pay25 (rdRxg 3 (rxgAt I c))) (rdEw 0 (ewAt I c)) (rdEw 1 (ewAt I c)) (rdEw 2 (ewAt I c)) (rdEw 3 (ewAt I c)))) = rbP c 2 (spread (Y I c 3)) from rfl)) $$ RB2
  rw [wp_ret]
  imodintro
  iapply Hk
  isplitl [EWS]; · iexact EWS
  iexact RB2

set_option maxHeartbeats 1000000 in
/-- Part 17 of the kernel's body. -/
theorem run_part17 (c : Dev nD)  (v2 : BitVec 32) (v523 : BitVec 32) {Q : (Σ' (v553 : FVec F S256x512 .bf16), FVec F S64x512 .bf16) → sProp 𝕄} :
    iprop(recs I K ∗ owe c (dl c 16) ∗ rbP c 2 (spread (Y I c 3)) ∗ (∃ f : RxrBuf F, rxrP (c + 3) (-3) f) ∗ (dutyTok ER (dcell c 2 3) 0 0 ∗ dutyTok ER (dcell (c + 3) 3 (-3)) 0 0) ∗ (cred (tallyAt (dcell c 1 4) () (amt 1)) ∗ atPos ER (dcell c 1 4) 0 ∅ 0))
      ⊢ iprop(((owe c (dl c 17) ∗ cred (tallyAt (dcell c 2 3) () (amt 2)) ∗ rxgP c 4 (rxgAt I c) ∗ semVal (dcell c 1 4) 0) -∗ Q ⟨(k0_pay27 (rdRxg 4 (rxgAt I c))), (k0_pay28 (rdRxg 4 (rxgAt I c)))⟩)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v523) Q) := by
  iintro ⟨#Hr, O, RB2, LR3, RT3, WX4⟩ Hk
  simp only [k0_part17_eq_skeleton]
  unfold k0_part17_skel
  simp only [semSignalWord, semWaitWord, Prog.lift, Prog.bind_op, Prog.bind_ret, Prog.pure_eq_ret, wp_deviceId]
  iapply (send_rs I K c _ 3 (by decide) (dev17_eq c) (dl c 16) (dl c 17) rfl rfl rfl rfl rfl) $$ [O RB2 LR3 RT3]
  · isplitr; · iexact Hr
    isplitl [O]; · iexact O
    isplitl [RB2]; · iexact RB2
    isplitl [LR3]; · iexact LR3
    iexact RT3
  iintro ⟨O, CR3⟩
  iapply (wait_d I K c 1 4 (by decide) (dl c 17) (ab1 c 4 17 (by decide)) rfl cred_x) $$ [O WX4]
  · isplitr; · iexact Hr
    isplitl [O]; · iexact O
    iexact WX4
  iintro ⟨O, RX4, ZX4⟩
  ihave RX4 := (Entails.of_eq (show dPay I c 1 4 = rxgP c 4 (rxgAt I c) from rfl)) $$ RX4
  iapply (ld_rxgSl c 4 (rxgAt I c) rfl) $$ [RX4]
  · iexact RX4
  iintro RX4
  rw [wp_ret]
  imodintro
  iapply Hk
  isplitl [O]; · iexact O
  isplitl [CR3]; · iexact CR3
  isplitl [RX4]; · iexact RX4
  iexact ZX4

set_option maxHeartbeats 1000000 in
/-- Part 18 of the kernel's body. -/
theorem run_part18 (c : Dev nD) (fb3 : RbBuf F) (v2 : BitVec 32) {Q : (BitVec 32) → sProp 𝕄} :
    iprop(recs I K ∗ (((c : Thread nD τ).loc cc0_scratch4) ↦{fullShare} (ewAt I c) : sProp 𝕄) ∗ rbP c 3 fb3)
      ⊢ iprop((∀ v585 : BitVec 32, ((((c : Thread nD τ).loc cc0_scratch4) ↦{fullShare} (ewAt I c) : sProp 𝕄) ∗ rbP c 3 (spread (Y I c 4))) -∗ Q v585)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay27 (rdRxg 4 (rxgAt I c))) (k0_pay28 (rdRxg 4 (rxgAt I c)))) Q) := by
  iintro ⟨#Hr, EWS, RB3⟩ Hk
  simp only [k0_part18_eq_skeleton]
  unfold k0_part18_skel
  simp only [semSignalWord, semWaitWord, Prog.lift, Prog.bind_op, Prog.bind_ret, Prog.pure_eq_ret, wp_deviceId]
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  iapply (ld_rbSl c 3 fb3 rfl) $$ [RB3]
  · iexact RB3
  iintro %wbv572 RB3
  iapply (st_rb c 3 fb3 _ rfl) $$ [RB3]
  · iexact RB3
  iintro RB3
  ihave RB3 := (Entails.of_eq (show rbP c 3 (spread (k0_pay29 (k0_pay27 (rdRxg 4 (rxgAt I c))) (k0_pay28 (rdRxg 4 (rxgAt I c))) (rdEw 0 (ewAt I c)) (rdEw 1 (ewAt I c)) (rdEw 2 (ewAt I c)) (rdEw 3 (ewAt I c)))) = rbP c 3 (spread (Y I c 4)) from rfl)) $$ RB3
  rw [wp_ret]
  imodintro
  iapply Hk
  isplitl [EWS]; · iexact EWS
  iexact RB3

set_option maxHeartbeats 1000000 in
/-- Part 19 of the kernel's body. -/
theorem run_part19 (c : Dev nD)  (v2 : BitVec 32) (v585 : BitVec 32) {Q : (PUnit) → sProp 𝕄} :
    iprop(recs I K ∗ owe c (dl c 17) ∗ rbP c 3 (spread (Y I c 4)) ∗ (∃ f : RxrBuf F, rxrP (c + 4) (-4) f) ∗ (dutyTok ER (dcell c 2 4) 0 0 ∗ dutyTok ER (dcell (c + 4) 3 (-4)) 0 0) ∗ (cred (tallyAt (dcell c 1 5) () (amt 1)) ∗ atPos ER (dcell c 1 5) 0 ∅ 0))
      ⊢ iprop(((owe c (dl c 18) ∗ cred (tallyAt (dcell c 2 4) () (amt 2)) ∗ rxgP c 5 (rxgAt I c) ∗ semVal (dcell c 1 5) 0) -∗ Q ⟨⟩)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v585) Q) := by
  iintro ⟨#Hr, O, RB3, LR4, RT4, WX5⟩ Hk
  simp only [k0_part19_eq_skeleton]
  unfold k0_part19_skel
  simp only [semSignalWord, semWaitWord, Prog.lift, Prog.bind_op, Prog.bind_ret, Prog.pure_eq_ret, wp_deviceId]
  iapply (send_rs I K c _ 4 (by decide) (dev18_eq c) (dl c 17) (dl c 18) rfl rfl rfl rfl rfl) $$ [O RB3 LR4 RT4]
  · isplitr; · iexact Hr
    isplitl [O]; · iexact O
    isplitl [RB3]; · iexact RB3
    isplitl [LR4]; · iexact LR4
    iexact RT4
  iintro ⟨O, CR4⟩
  iapply (wait_d I K c 1 5 (by decide) (dl c 18) (ab1 c 5 18 (by decide)) rfl cred_x) $$ [O WX5]
  · isplitr; · iexact Hr
    isplitl [O]; · iexact O
    iexact WX5
  iintro ⟨O, RX5, ZX5⟩
  ihave RX5 := (Entails.of_eq (show dPay I c 1 5 = rxgP c 5 (rxgAt I c) from rfl)) $$ RX5
  rw [wp_ret]
  imodintro
  iapply Hk
  isplitl [O]; · iexact O
  isplitl [CR4]; · iexact CR4
  isplitl [RX5]; · iexact RX5
  iexact ZX5

end Cert.KernelIdeal.Moe

end

end
-- ==== Proof.KernelIdealRun.PartsD.lean ====
/-
The kernel's body, part by part (parts 20 to 25): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 20 of the kernel's body. -/
theorem run_part20 (c : Dev nD)  (v2 : BitVec 32) {Q : (Σ' (v643 : BitVec 32) (c8_i32_497 : BitVec 32) (v644 : BitVec 1), BitVec 32) → sProp 𝕄} :
    iprop(recs I K ∗ owe c (dl c 18) ∗ cred (tallyAt (dcell c 2 1) () (amt 2)) ∗ atPos ER (dcell c 2 1) 0 ∅ 0 ∗ rxgP c 5 (rxgAt I c) ∗ (((c : Thread nD τ).loc cc0_scratch4) ↦{fullShare} (ewAt I c) : sProp 𝕄))
      ⊢ iprop((∀ v643 : BitVec 32, ∀ c8_i32_497 : BitVec 32, ∀ v644 : BitVec 1, ∀ c1_i32_499 : BitVec 32, (owe c (dl c 18) ∗ rbP c 0 (spread (Y I c 5)) ∗ semVal (dcell c 2 1) 0 ∗ rxgP c 5 (rxgAt I c) ∗ (((c : Thread nD τ).loc cc0_scratch4) ↦{fullShare} (ewAt I c) : sProp 𝕄)) -∗ Q ⟨v643, c8_i32_497, v644, c1_i32_499⟩)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2) Q) := by
  iintro ⟨#Hr, O, CR1, AR1, RX5, EWS⟩ Hk
  simp only [k0_part20_eq_skeleton]
  unfold k0_part20_skel
  simp only [semSignalWord, semWaitWord, Prog.lift, Prog.bind_op, Prog.bind_ret, Prog.pure_eq_ret, wp_deviceId]
  iapply (wait_d I K c 2 1 (by decide) (dl c 18) (ab2 c 1 18) rfl cred_rb) $$ [O CR1 AR1]
  · isplitr; · iexact Hr
    isplitl [O]; · iexact O
    isplitl [CR1]; · iexact CR1
    iexact AR1
  iintro ⟨O, RB0, ZS1⟩
  ihave RB0 := (Entails.of_eq (show dPay I c 2 1 = rbP c 0 (spread (Y I c 1)) from rfl)) $$ RB0
  iapply (ld_rxgSl c 5 (rxgAt I c) rfl) $$ [RX5]
  · iexact RX5
  iintro RX5
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  iapply (ld_rbSl c 0 (spread (Y I c 1)) rfl) $$ [RB0]
  · iexact RB0
  iintro %wbv640 RB0
  iapply (st_rb c 0 (spread (Y I c 1)) _ rfl) $$ [RB0]
  · iexact RB0
  iintro RB0
  ihave RB0 := (Entails.of_eq (show rbP c 0 (spread (k0_pay30 (rdRxg 5 (rxgAt I c)) (rdEw 0 (ewAt I c)) (rdEw 1 (ewAt I c)) (rdEw 2 (ewAt I c)) (rdEw 3 (ewAt I c)))) = rbP c 0 (spread (Y I c 5)) from rfl)) $$ RB0
  rw [wp_ret]
  imodintro
  iapply Hk
  isplitl [O]; · iexact O
  isplitl [RB0]; · iexact RB0
  isplitl [ZS1]; · iexact ZS1
  isplitl [RX5]; · iexact RX5
  iexact EWS

set_option maxHeartbeats 1000000 in
/-- Part 21 of the kernel's body. -/
theorem run_part21 (c : Dev nD)  (v2 : BitVec 32) (v643 : BitVec 32) (c8_i32_497 : BitVec 32) (v644 : BitVec 1) (c1_i32_499 : BitVec 32) {Q : (PUnit) → sProp 𝕄} :
    iprop(recs I K ∗ owe c (dl c 18) ∗ rbP c 0 (spread (Y I c 5)) ∗ (∃ f : RxrBuf F, rxrP (c + 5) (-5) f) ∗ (dutyTok ER (dcell c 2 5) 0 0 ∗ dutyTok ER (dcell (c + 5) 3 (-5)) 0 0))
      ⊢ iprop(((owe c (dl c 19) ∗ cred (tallyAt (dcell c 2 5) () (amt 2))) -∗ Q ⟨⟩)
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v643 c8_i32_497 v644 c1_i32_499) Q) := by
  iintro ⟨#Hr, O, RB0, LR5, RT5⟩ Hk
  simp only [k0_part21_eq_skeleton]
  unfold k0_part21_skel
  simp only [semSignalWord, semWaitWord, Prog.lift, Prog.bind_op, Prog.bind_ret, Prog.pure_eq_ret, wp_deviceId]
  iapply (send_rs I K c _ 5 (by decide) (dev19_eq c) (dl c 18) (dl c 19) rfl rfl rfl rfl rfl) $$ [O RB0 LR5 RT5]
  · isplitr; · iexact Hr
    isplitl [O]; · iexact O
    isplitl [RB0]; · iexact RB0
    isplitl [LR5]; · iexact LR5
    iexact RT5
  iintro ⟨O, CR5⟩
  rw [wp_ret]
  imodintro
  iapply Hk
  isplitl [O]; · iexact O
  iexact CR5

set_option maxHeartbeats 1000000 in
/-- Part 22 of the kernel's body. -/
theorem run_part22 (c : Dev nD)   {Q : (Σ' (v693 : FVec F S64x1024 .f32) (v697 : FVec F S64x1024 .f32) (v701 : FVec F S64x1024 .f32) (v702 : FVec F S64x512 .bf16) (v704 : FVec F S512x1024 .bf16), FVec F S64x1024 .f32) → sProp 𝕄} :
    iprop(recs I K ∗ owe c (dl c 19) ∗ (cred (tallyAt (dcell c 1 6) () (amt 1)) ∗ atPos ER (dcell c 1 6) 0 ∅ 0) ∗ cred (tallyAt (dcell c 2 2) () (amt 2)) ∗ atPos ER (dcell c 2 2) 0 ∅ 0 ∗ (((c : Thread nD τ).loc cc0_scratch4) ↦{fullShare} (ewAt I c) : sProp 𝕄))
      ⊢ iprop(((owe c (dl c 19) ∗ rxgP c 6 (rxgAt I c) ∗ semVal (dcell c 1 6) 0 ∗ rbP c 1 (spread (Y I c 2)) ∗ semVal (dcell c 2 2) 0 ∗ (((c : Thread nD τ).loc cc0_scratch4) ↦{fullShare} (ewAt I c) : sProp 𝕄)) -∗ Q ⟨(k0_pay32 (rdRxg 6 (rxgAt I c)) (rdEw 0 (ewAt I c))), (k0_pay33 (rdRxg 6 (rxgAt I c)) (rdEw 1 (ewAt I c))), (k0_pay34 (rdRxg 6 (rxgAt I c)) (rdEw 2 (ewAt I c))), (k0_pay35 (rdRxg 6 (rxgAt I c))), (k0_pay36 (rdEw 3 (ewAt I c))), (constant S64x1024 .f32 0x00000000#32)⟩)
          -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 ) Q) := by
  iintro ⟨#Hr, O, WX6, CR2, AR2, EWS⟩ Hk
  simp only [k0_part22_eq_skeleton]
  unfold k0_part22_skel
  simp only [semSignalWord, semWaitWord, Prog.lift, Prog.bind_op, Prog.bind_ret, Prog.pure_eq_ret, wp_deviceId]
  iapply (wait_d I K c 1 6 (by decide) (dl c 19) (ab1 c 6 19 (by decide)) rfl cred_x) $$ [O WX6]
  · isplitr; · iexact Hr
    isplitl [O]; · iexact O
    iexact WX6
  iintro ⟨O, RX6, ZX6⟩
  ihave RX6 := (Entails.of_eq (show dPay I c 1 6 = rxgP c 6 (rxgAt I c) from rfl)) $$ RX6
  iapply (wait_d I K c 2 2 (by decide) (dl c 19) (ab2 c 2 19) rfl cred_rb) $$ [O CR2 AR2]
  · isplitr; · iexact Hr
    isplitl [O]; · iexact O
    isplitl [CR2]; · iexact CR2
    iexact AR2
  iintro ⟨O, RB1, ZS2⟩
  ihave RB1 := (Entails.of_eq (show dPay I c 2 2 = rbP c 1 (spread (Y I c 2)) from rfl)) $$ RB1
  iapply (ld_rxgSl c 6 (rxgAt I c) rfl) $$ [RX6]
  · iexact RX6
  iintro RX6
  iapply (ld_ewSl c 0 (ewAt I c) rfl) $$ [EWS]
  · iexact EWS
  iintro EWS
  iapply (ld_ewSl c 1 (ewAt I c) rfl) $$ [EWS]
  · iexact EWS
  iintro EWS
  iapply (ld_ewSl c 2 (ewAt I c) rfl) $$ [EWS]
  · iexact EWS
  iintro EWS
  iapply (ld_ewSl c 3 (ewAt I c) rfl) $$ [EWS]
  · iexact EWS
  iintro EWS
  rw [wp_ret]
  imodintro
  iapply Hk
  isplitl [O]; · iexact O
  isplitl [RX6]; · iexact RX6
  isplitl [ZX6]; · iexact ZX6
  isplitl [RB1]; · iexact RB1
  isplitl [ZS2]; · iexact ZS2
  iexact EWS

set_option maxHeartbeats 1000000 in
/-- Part 23 of the kernel's body. -/
theorem run_part23 (c : Dev nD)  (v2 : BitVec 32) {Q : (Σ' (v734 : BitVec 32) (v735 : BitVec 32) (v736 : BitVec 1), BitVec 32) → sProp 𝕄} :
    iprop(recs I K ∗ rbP c 1 (spread (Y I c 2)) ∗ owe c (dl c 19) ∗ (∃ f : RxrBuf F, rxrP (c + 6) (-6) f) ∗ (dutyTok ER (dcell c 2 6) 0 0 ∗ dutyTok ER (dcell (c + 6) 3 (-6)) 0 0))
      ⊢ iprop((∀ v734 : BitVec 32, ∀ v735 : BitVec 32, ∀ v736 : BitVec 1, ∀ c0_i32_581 : BitVec 32, (owe c (dl c 20) ∗ cred (tallyAt (dcell c 2 6) () (amt 2))) -∗ Q ⟨v734, v735, v736, c0_i32_581⟩)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (k0_pay32 (rdRxg 6 (rxgAt I c)) (rdEw 0 (ewAt I c))) (k0_pay33 (rdRxg 6 (rxgAt I c)) (rdEw 1 (ewAt I c))) (k0_pay34 (rdRxg 6 (rxgAt I c)) (rdEw 2 (ewAt I c))) (k0_pay35 (rdRxg 6 (rxgAt I c))) (k0_pay36 (rdEw 3 (ewAt I c))) (constant S64x1024 .f32 0x00000000#32)) Q) := by
  iintro ⟨#Hr, RB1, O, LR6, RT6⟩ Hk
  simp only [k0_part23_eq_skeleton]
  unfold k0_part23_skel
  simp only [semSignalWord, semWaitWord, Prog.lift, Prog.bind_op, Prog.bind_ret, Prog.pure_eq_ret, wp_deviceId]
  iapply (ld_rbSl c 1 (spread (Y I c 2)) rfl) $$ [RB1]
  · iexact RB1
  iintro %wbv708 RB1
  iapply (st_rb c 1 (spread (Y I c 2)) _ rfl) $$ [RB1]
  · iexact RB1
  iintro RB1
  ihave RB1 := (Entails.of_eq (show rbP c 1 (spread (k0_pay37 (k0_pay32 (rdRxg 6 (rxgAt I c)) (rdEw 0 (ewAt I c))) (k0_pay33 (rdRxg 6 (rxgAt I c)) (rdEw 1 (ewAt I c))) (k0_pay34 (rdRxg 6 (rxgAt I c)) (rdEw 2 (ewAt I c))) (k0_pay35 (rdRxg 6 (rxgAt I c))) (k0_pay36 (rdEw 3 (ewAt I c))) (constant S64x1024 .f32 0x00000000#32))) = rbP c 1 (spread (Y I c 6)) from rfl)) $$ RB1
  iapply (send_rs I K c _ 6 (by decide) (dev20_eq c) (dl c 19) (dl c 20) rfl rfl rfl rfl rfl) $$ [O RB1 LR6 RT6]
  · isplitr; · iexact Hr
    isplitl [O]; · iexact O
    isplitl [RB1]; · iexact RB1
    isplitl [LR6]; · iexact LR6
    iexact RT6
  iintro ⟨O, CR6⟩
  rw [wp_ret]
  imodintro
  iapply Hk
  isplitl [O]; · iexact O
  iexact CR6

set_option maxHeartbeats 1000000 in
/-- Part 24 of the kernel's body. -/
theorem run_part24 (c : Dev nD)  (v734 : BitVec 32) (v735 : BitVec 32) (v736 : BitVec 1) (c0_i32_581 : BitVec 32) {Q : (Σ' (v757 : FVec F S256x512 .bf16) (v761 : FVec F S64x1024 .f32) (v762 : FVec F S64x512 .bf16) (v764 : FVec F S512x1024 .bf16), FVec F S64x1024 .f32) → sProp 𝕄} :
    iprop(recs I K ∗ owe c (dl c 20) ∗ (cred (tallyAt (dcell c 1 7) () (amt 1)) ∗ atPos ER (dcell c 1 7) 0 ∅ 0) ∗ cred (tallyAt (dcell c 2 3) () (amt 2)) ∗ atPos ER (dcell c 2 3) 0 ∅ 0 ∗ (((c : Thread nD τ).loc cc0_scratch4) ↦{fullShare} (ewAt I c) : sProp 𝕄))
      ⊢ iprop(((owe c (dl c 20) ∗ rxgP c 7 (rxgAt I c) ∗ semVal (dcell c 1 7) 0 ∗ rbP c 2 (spread (Y I c 3)) ∗ semVal (dcell c 2 3) 0 ∗ (((c : Thread nD τ).loc cc0_scratch4) ↦{fullShare} (ewAt I c) : sProp 𝕄)) -∗ Q ⟨(k0_pay38 (rdRxg 7 (rxgAt I c))), (k0_pay39 (rdRxg 7 (rxgAt I c)) (rdEw 0 (ewAt I c))), (k0_pay40 (rdRxg 7 (rxgAt I c))), (k0_pay41 (rdEw 1 (ewAt I c))), (constant S64x1024 .f32 0x00000000#32)⟩)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v734 v735 v736 c0_i32_581) Q) := by
  iintro ⟨#Hr, O, WX7, CR3, AR3, EWS⟩ Hk
  simp only [k0_part24_eq_skeleton]
  unfold k0_part24_skel
  simp only [semSignalWord, semWaitWord, Prog.lift, Prog.bind_op, Prog.bind_ret, Prog.pure_eq_ret, wp_deviceId]
  iapply (wait_d I K c 1 7 (by decide) (dl c 20) (ab1 c 7 20 (by decide)) rfl cred_x) $$ [O WX7]
  · isplitr; · iexact Hr
    isplitl [O]; · iexact O
    iexact WX7
  iintro ⟨O, RX7, ZX7⟩
  ihave RX7 := (Entails.of_eq (show dPay I c 1 7 = rxgP c 7 (rxgAt I c) from rfl)) $$ RX7
  iapply (wait_d I K c 2 3 (by decide) (dl c 20) (ab2 c 3 20) rfl cred_rb) $$ [O CR3 AR3]
  · isplitr; · iexact Hr
    isplitl [O]; · iexact O
    isplitl [CR3]; · iexact CR3
    iexact AR3
  iintro ⟨O, RB2, ZS3⟩
  ihave RB2 := (Entails.of_eq (show dPay I c 2 3 = rbP c 2 (spread (Y I c 3)) from rfl)) $$ RB2
  iapply (ld_rxgSl c 7 (rxgAt I c) rfl) $$ [RX7]
  · iexact RX7
  iintro RX7
  iapply (ld_ewSl c 0 (ewAt I c) rfl) $$ [EWS]
  · iexact EWS
  iintro EWS
  iapply (ld_ewSl c 1 (ewAt I c) rfl) $$ [EWS]
  · iexact EWS
  iintro EWS
  rw [wp_ret]
  imodintro
  iapply Hk
  isplitl [O]; · iexact O
  isplitl [RX7]; · iexact RX7
  isplitl [ZX7]; · iexact ZX7
  isplitl [RB2]; · iexact RB2
  isplitl [ZS3]; · iexact ZS3
  iexact EWS

set_option maxHeartbeats 1000000 in
/-- Part 25 of the kernel's body. -/
theorem run_part25 (c : Dev nD)  (v2 : BitVec 32) {Q : (PUnit) → sProp 𝕄} :
    iprop(recs I K ∗ (((c : Thread nD τ).loc cc0_scratch4) ↦{fullShare} (ewAt I c) : sProp 𝕄) ∗ rbP c 2 (spread (Y I c 3)))
      ⊢ iprop((((((c : Thread nD τ).loc cc0_scratch4) ↦{fullShare} (ewAt I c) : sProp 𝕄) ∗ rbP c 2 (spread (Y I c 7))) -∗ Q ⟨⟩)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 (k0_pay38 (rdRxg 7 (rxgAt I c))) (k0_pay39 (rdRxg 7 (rxgAt I c)) (rdEw 0 (ewAt I c))) (k0_pay40 (rdRxg 7 (rxgAt I c))) (k0_pay41 (rdEw 1 (ewAt I c))) (constant S64x1024 .f32 0x00000000#32)) Q) := by
  iintro ⟨#Hr, EWS, RB2⟩ Hk
  simp only [k0_part25_eq_skeleton]
  unfold k0_part25_skel
  simp only [semSignalWord, semWaitWord, Prog.lift, Prog.bind_op, Prog.bind_ret, Prog.pure_eq_ret, wp_deviceId]
  iapply (ld_ewSl c 2 (ewAt I c) rfl) $$ [EWS]
  · iexact EWS
  iintro EWS
  iapply (ld_ewSl c 3 (ewAt I c) rfl) $$ [EWS]
  · iexact EWS
  iintro EWS
  iapply (ld_rbSl c 2 (spread (Y I c 3)) rfl) $$ [RB2]
  · iexact RB2
  iintro %wbv776 RB2
  iapply (st_rb c 2 (spread (Y I c 3)) _ rfl) $$ [RB2]
  · iexact RB2
  iintro RB2
  ihave RB2 := (Entails.of_eq (show rbP c 2 (spread (k0_pay42 (k0_pay38 (rdRxg 7 (rxgAt I c))) (k0_pay39 (rdRxg 7 (rxgAt I c)) (rdEw 0 (ewAt I c))) (k0_pay40 (rdRxg 7 (rxgAt I c))) (k0_pay41 (rdEw 1 (ewAt I c))) (constant S64x1024 .f32 0x00000000#32) (rdEw 2 (ewAt I c)) (rdEw 3 (ewAt I c)))) = rbP c 2 (spread (Y I c 7)) from rfl)) $$ RB2
  rw [wp_ret]
  imodintro
  iapply Hk
  isplitl [EWS]; · iexact EWS
  iexact RB2

end Cert.KernelIdeal.Moe

end

end
-- ==== Proof.KernelIdealRun.PartsE.lean ====
/-
The kernel's body, part by part (parts 26 to 29): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 26 of the kernel's body. -/
theorem run_part26 (c : Dev nD)  (v2 : BitVec 32) {Q : (FVec F S1024x1024 .f32) → sProp 𝕄} :
    iprop(recs I K ∗ owe c (dl c 20) ∗ rbP c 2 (spread (Y I c 7)) ∗ (∃ f : RxrBuf F, rxrP (c + 7) (-7) f) ∗ (dutyTok ER (dcell c 2 7) 0 0 ∗ dutyTok ER (dcell (c + 7) 3 (-7)) 0 0) ∗ (cred (tallyAt (dcell c 3 1) () (amt 3)) ∗ atPos ER (dcell c 3 1) 0 ∅ 0) ∗ (((c : Thread nD τ).loc cc0_stg5_0) ↦{fullShare} (out0 I c) : sProp 𝕄) ∗ (((c : Thread nD τ).loc cc0_scratch5) ↦{fullShare} (spAt I c) : sProp 𝕄))
      ⊢ iprop(((owe c (dl c 21) ∗ cred (tallyAt (dcell c 2 7) () (amt 2)) ∗ rxrP c 1 (rxrAt I c) ∗ semVal (dcell c 3 1) 0 ∗ (((c : Thread nD τ).loc cc0_stg5_0) ↦{fullShare} (out0 I c) : sProp 𝕄) ∗ (((c : Thread nD τ).loc cc0_scratch5) ↦{fullShare} (spAt I c) : sProp 𝕄)) -∗ Q (k0_pay43 (out0 I c) (rdSp (c + 1) (spAt I c)) (rdRxr 1 (rxrAt I c))))
          -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2) Q) := by
  iintro ⟨#Hr, O, RB2, LR7, RT7, WR1, OUT, SP⟩ Hk
  simp only [k0_part26_eq_skeleton]
  unfold k0_part26_skel
  simp only [semSignalWord, semWaitWord, Prog.lift, Prog.bind_op, Prog.bind_ret, Prog.pure_eq_ret, wp_deviceId]
  iapply (send_rs I K c _ 7 (by decide) (dev21_eq c) (dl c 20) (dl c 21) rfl rfl rfl rfl rfl) $$ [O RB2 LR7 RT7]
  · isplitr; · iexact Hr
    isplitl [O]; · iexact O
    isplitl [RB2]; · iexact RB2
    isplitl [LR7]; · iexact LR7
    iexact RT7
  iintro ⟨O, CR7⟩
  iapply (wait_d I K c 3 1 (by decide) (dl c 21) (ab3 c 1) rfl cred_rr) $$ [O WR1]
  · isplitr; · iexact Hr
    isplitl [O]; · iexact O
    iexact WR1
  iintro ⟨O, RR1, ZR1⟩
  ihave RR1 := (Entails.of_eq (show dPay I c 3 1 = rxrP c 1 (rxrAt I c) from rfl)) $$ RR1
  iapply (ld_out c (out0 I c)) $$ [OUT]
  · iexact OUT
  iintro OUT
  iapply (ld_spSl c (c + 1) (spAt I c) (off4_eq1 c)) $$ [SP]
  · iexact SP
  iintro SP
  iapply (ld_rxrSl c 1 (by decide) (rxrAt I c) rfl) $$ [RR1]
  · iexact RR1
  iintro RR1
  rw [wp_ret]
  imodintro
  iapply Hk
  isplitl [O]; · iexact O
  isplitl [CR7]; · iexact CR7
  isplitl [RR1]; · iexact RR1
  isplitl [ZR1]; · iexact ZR1
  isplitl [OUT]; · iexact OUT
  iexact SP

set_option maxHeartbeats 1000000 in
/-- Part 27 of the kernel's body. -/
theorem run_part27 (c : Dev nD)  (v2 : BitVec 32) {Q : (FVec F S1024x1024 .f32) → sProp 𝕄} :
    iprop(recs I K ∗ (((c : Thread nD τ).loc cc0_stg5_0) ↦{fullShare} (out0 I c) : sProp 𝕄) ∗ owe c (dl c 21) ∗ (cred (tallyAt (dcell c 3 2) () (amt 3)) ∗ atPos ER (dcell c 3 2) 0 ∅ 0) ∗ (((c : Thread nD τ).loc cc0_scratch5) ↦{fullShare} (spAt I c) : sProp 𝕄))
      ⊢ iprop((((((c : Thread nD τ).loc cc0_stg5_0) ↦{fullShare} (out1 I c) : sProp 𝕄) ∗ owe c (dl c 21) ∗ rxrP c 2 (rxrAt I c) ∗ semVal (dcell c 3 2) 0 ∗ (((c : Thread nD τ).loc cc0_scratch5) ↦{fullShare} (spAt I c) : sProp 𝕄)) -∗ Q (k0_pay44 (out1 I c) (rdSp (c + 2) (spAt I c)) (rdRxr 2 (rxrAt I c))))
          -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (k0_pay43 (out0 I c) (rdSp (c + 1) (spAt I c)) (rdRxr 1 (rxrAt I c)))) Q) := by
  iintro ⟨#Hr, OUT, O, WR2, SP⟩ Hk
  simp only [k0_part27_eq_skeleton]
  unfold k0_part27_skel
  simp only [semSignalWord, semWaitWord, Prog.lift, Prog.bind_op, Prog.bind_ret, Prog.pure_eq_ret, wp_deviceId]
  iapply (ld_out c (out0 I c)) $$ [OUT]
  · iexact OUT
  iintro OUT
  iapply (st_out c (out0 I c) _) $$ [OUT]
  · iexact OUT
  iintro OUT
  ihave OUT := (Entails.of_eq (show (((c : Thread nD τ).loc cc0_stg5_0) ↦{fullShare} (k0_pay43 (out0 I c) (rdSp (c + 1) (spAt I c)) (rdRxr 1 (rxrAt I c))) : sProp 𝕄) = (((c : Thread nD τ).loc cc0_stg5_0) ↦{fullShare} (out1 I c) : sProp 𝕄) from rfl)) $$ OUT
  iapply (wait_d I K c 3 2 (by decide) (dl c 21) (ab3 c 2) rfl cred_rr) $$ [O WR2]
  · isplitr; · iexact Hr
    isplitl [O]; · iexact O
    iexact WR2
  iintro ⟨O, RR2, ZR2⟩
  ihave RR2 := (Entails.of_eq (show dPay I c 3 2 = rxrP c 2 (rxrAt I c) from rfl)) $$ RR2
  iapply (ld_out c (out1 I c)) $$ [OUT]
  · iexact OUT
  iintro OUT
  iapply (ld_spSl c (c + 2) (spAt I c) (off4_eq2 c)) $$ [SP]
  · iexact SP
  iintro SP
  iapply (ld_rxrSl c 2 (by decide) (rxrAt I c) rfl) $$ [RR2]
  · iexact RR2
  iintro RR2
  iapply (ld_out c (out1 I c)) $$ [OUT]
  · iexact OUT
  iintro OUT
  rw [wp_ret]
  imodintro
  iapply Hk
  isplitl [OUT]; · iexact OUT
  isplitl [O]; · iexact O
  isplitl [RR2]; · iexact RR2
  isplitl [ZR2]; · iexact ZR2
  iexact SP

set_option maxHeartbeats 1000000 in
/-- Part 28 of the kernel's body. -/
theorem run_part28 (c : Dev nD)  (v2 : BitVec 32) {Q : (BitVec 32) → sProp 𝕄} :
    iprop(recs I K ∗ (((c : Thread nD τ).loc cc0_stg5_0) ↦{fullShare} (out1 I c) : sProp 𝕄) ∗ owe c (dl c 21) ∗ (cred (tallyAt (dcell c 3 3) () (amt 3)) ∗ atPos ER (dcell c 3 3) 0 ∅ 0) ∗ (((c : Thread nD τ).loc cc0_scratch5) ↦{fullShare} (spAt I c) : sProp 𝕄))
      ⊢ iprop((∀ c4_i32_720 : BitVec 32, ((((c : Thread nD τ).loc cc0_stg5_0) ↦{fullShare} (out3 I c) : sProp 𝕄) ∗ owe c (dl c 21) ∗ rxrP c 3 (rxrAt I c) ∗ semVal (dcell c 3 3) 0 ∗ (((c : Thread nD τ).loc cc0_scratch5) ↦{fullShare} (spAt I c) : sProp 𝕄)) -∗ Q c4_i32_720)
          -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 (k0_pay44 (out1 I c) (rdSp (c + 2) (spAt I c)) (rdRxr 2 (rxrAt I c)))) Q) := by
  iintro ⟨#Hr, OUT, O, WR3, SP⟩ Hk
  simp only [k0_part28_eq_skeleton]
  unfold k0_part28_skel
  simp only [semSignalWord, semWaitWord, Prog.lift, Prog.bind_op, Prog.bind_ret, Prog.pure_eq_ret, wp_deviceId]
  iapply (st_out c (out1 I c) _) $$ [OUT]
  · iexact OUT
  iintro OUT
  ihave OUT := (Entails.of_eq (show (((c : Thread nD τ).loc cc0_stg5_0) ↦{fullShare} (k0_pay44 (out1 I c) (rdSp (c + 2) (spAt I c)) (rdRxr 2 (rxrAt I c))) : sProp 𝕄) = (((c : Thread nD τ).loc cc0_stg5_0) ↦{fullShare} (out2 I c) : sProp 𝕄) from rfl)) $$ OUT
  iapply (wait_d I K c 3 3 (by decide) (dl c 21) (ab3 c 3) rfl cred_rr) $$ [O WR3]
  · isplitr; · iexact Hr
    isplitl [O]; · iexact O
    iexact WR3
  iintro ⟨O, RR3, ZR3⟩
  ihave RR3 := (Entails.of_eq (show dPay I c 3 3 = rxrP c 3 (rxrAt I c) from rfl)) $$ RR3
  iapply (ld_out c (out2 I c)) $$ [OUT]
  · iexact OUT
  iintro OUT
  iapply (ld_spSl c (c + 3) (spAt I c) (off4_eq3 c)) $$ [SP]
  · iexact SP
  iintro SP
  iapply (ld_rxrSl c 3 (by decide) (rxrAt I c) rfl) $$ [RR3]
  · iexact RR3
  iintro RR3
  iapply (ld_out c (out2 I c)) $$ [OUT]
  · iexact OUT
  iintro OUT
  iapply (st_out c (out2 I c) _) $$ [OUT]
  · iexact OUT
  iintro OUT
  ihave OUT := (Entails.of_eq (show (((c : Thread nD τ).loc cc0_stg5_0) ↦{fullShare} (k0_pay45 (out2 I c) (rdSp (c + 3) (spAt I c)) (rdRxr 3 (rxrAt I c))) : sProp 𝕄) = (((c : Thread nD τ).loc cc0_stg5_0) ↦{fullShare} (out3 I c) : sProp 𝕄) from rfl)) $$ OUT
  rw [wp_ret]
  imodintro
  iapply Hk
  isplitl [OUT]; · iexact OUT
  isplitl [O]; · iexact O
  isplitl [RR3]; · iexact RR3
  isplitl [ZR3]; · iexact ZR3
  iexact SP

set_option maxHeartbeats 1000000 in
/-- Part 29 of the kernel's body. -/
theorem run_part29 (c : Dev nD)  (v2 : BitVec 32) (c4_i32_720 : BitVec 32) {Q : (Σ' (v916 : BitVec 32), BitVec 32) → sProp 𝕄} :
    iprop(recs I K ∗ owe c (dl c 21) ∗ (cred (tallyAt (dcell c 3 4) () (amt 3)) ∗ atPos ER (dcell c 3 4) 0 ∅ 0) ∗ (((c : Thread nD τ).loc cc0_stg5_0) ↦{fullShare} (out3 I c) : sProp 𝕄) ∗ (((c : Thread nD τ).loc cc0_scratch5) ↦{fullShare} (spAt I c) : sProp 𝕄))
      ⊢ iprop((∀ v916 : BitVec 32, ∀ c8_i32_748 : BitVec 32, (owe c (dl c 21) ∗ rxrP c 4 (rxrAt I c) ∗ semVal (dcell c 3 4) 0 ∗ (((c : Thread nD τ).loc cc0_stg5_0) ↦{fullShare} (out4 I c) : sProp 𝕄) ∗ (((c : Thread nD τ).loc cc0_scratch5) ↦{fullShare} (spAt I c) : sProp 𝕄)) -∗ Q ⟨v916, c8_i32_748⟩)
          -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 c4_i32_720) Q) := by
  iintro ⟨#Hr, O, WR4, OUT, SP⟩ Hk
  simp only [k0_part29_eq_skeleton]
  unfold k0_part29_skel
  simp only [semSignalWord, semWaitWord, Prog.lift, Prog.bind_op, Prog.bind_ret, Prog.pure_eq_ret, wp_deviceId]
  iapply (wait_d I K c 3 4 (by decide) (dl c 21) (ab3 c 4) rfl cred_rr) $$ [O WR4]
  · isplitr; · iexact Hr
    isplitl [O]; · iexact O
    iexact WR4
  iintro ⟨O, RR4, ZR4⟩
  ihave RR4 := (Entails.of_eq (show dPay I c 3 4 = rxrP c 4 (rxrAt I c) from rfl)) $$ RR4
  iapply (ld_out c (out3 I c)) $$ [OUT]
  · iexact OUT
  iintro OUT
  iapply (ld_spSl c (c + 4) (spAt I c) (off4_eq4 c)) $$ [SP]
  · iexact SP
  iintro SP
  iapply (ld_rxrSl c 4 (by decide) (rxrAt I c) rfl) $$ [RR4]
  · iexact RR4
  iintro RR4
  iapply (ld_out c (out3 I c)) $$ [OUT]
  · iexact OUT
  iintro OUT
  iapply (st_out c (out3 I c) _) $$ [OUT]
  · iexact OUT
  iintro OUT
  ihave OUT := (Entails.of_eq (show (((c : Thread nD τ).loc cc0_stg5_0) ↦{fullShare} (k0_pay46 (out3 I c) (rdSp (c + 4) (spAt I c)) (rdRxr 4 (rxrAt I c))) : sProp 𝕄) = (((c : Thread nD τ).loc cc0_stg5_0) ↦{fullShare} (out4 I c) : sProp 𝕄) from rfl)) $$ OUT
  rw [wp_ret]
  imodintro
  iapply Hk
  isplitl [O]; · iexact O
  isplitl [RR4]; · iexact RR4
  isplitl [ZR4]; · iexact ZR4
  isplitl [OUT]; · iexact OUT
  iexact SP

end Cert.KernelIdeal.Moe

end

end
-- ==== Proof.KernelIdealRun.PartsF.lean ====
/-
The kernel's body, part by part (parts 30 to 34): what each part needs and what it leaves.
-/
module

public import proofs.«01_k».proof.Proof.KernelIdealRun.Mem

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

set_option maxHeartbeats 1000000 in
/-- Part 30 of the kernel's body. -/
theorem run_part30 (c : Dev nD)  (v2 : BitVec 32) (v916 : BitVec 32) (c8_i32_748 : BitVec 32) {Q : (Σ' (v945 : BitVec 32) (c8_i32_775 : BitVec 32), BitVec 1) → sProp 𝕄} :
    iprop(recs I K ∗ owe c (dl c 21) ∗ (cred (tallyAt (dcell c 3 5) () (amt 3)) ∗ atPos ER (dcell c 3 5) 0 ∅ 0) ∗ (((c : Thread nD τ).loc cc0_stg5_0) ↦{fullShare} (out4 I c) : sProp 𝕄) ∗ (((c : Thread nD τ).loc cc0_scratch5) ↦{fullShare} (spAt I c) : sProp 𝕄))
      ⊢ iprop((∀ v945 : BitVec 32, ∀ c8_i32_775 : BitVec 32, ∀ v946 : BitVec 1, (owe c (dl c 21) ∗ rxrP c 5 (rxrAt I c) ∗ semVal (dcell c 3 5) 0 ∗ (((c : Thread nD τ).loc cc0_stg5_0) ↦{fullShare} (out5 I c) : sProp 𝕄) ∗ (((c : Thread nD τ).loc cc0_scratch5) ↦{fullShare} (spAt I c) : sProp 𝕄)) -∗ Q ⟨v945, c8_i32_775, v946⟩)
          -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v916 c8_i32_748) Q) := by
  iintro ⟨#Hr, O, WR5, OUT, SP⟩ Hk
  simp only [k0_part30_eq_skeleton]
  unfold k0_part30_skel
  simp only [semSignalWord, semWaitWord, Prog.lift, Prog.bind_op, Prog.bind_ret, Prog.pure_eq_ret, wp_deviceId]
  iapply (wait_d I K c 3 5 (by decide) (dl c 21) (ab3 c 5) rfl cred_rr) $$ [O WR5]
  · isplitr; · iexact Hr
    isplitl [O]; · iexact O
    iexact WR5
  iintro ⟨O, RR5, ZR5⟩
  ihave RR5 := (Entails.of_eq (show dPay I c 3 5 = rxrP c 5 (rxrAt I c) from rfl)) $$ RR5
  iapply (ld_out c (out4 I c)) $$ [OUT]
  · iexact OUT
  iintro OUT
  iapply (ld_spSl c (c + 5) (spAt I c) (off4_eq5 c)) $$ [SP]
  · iexact SP
  iintro SP
  iapply (ld_rxrSl c 5 (by decide) (rxrAt I c) rfl) $$ [RR5]
  · iexact RR5
  iintro RR5
  iapply (ld_out c (out4 I c)) $$ [OUT]
  · iexact OUT
  iintro OUT
  iapply (st_out c (out4 I c) _) $$ [OUT]
  · iexact OUT
  iintro OUT
  ihave OUT := (Entails.of_eq (show (((c : Thread nD τ).loc cc0_stg5_0) ↦{fullShare} (k0_pay47 (out4 I c) (rdSp (c + 5) (spAt I c)) (rdRxr 5 (rxrAt I c))) : sProp 𝕄) = (((c : Thread nD τ).loc cc0_stg5_0) ↦{fullShare} (out5 I c) : sProp 𝕄) from rfl)) $$ OUT
  rw [wp_ret]
  imodintro
  iapply Hk
  isplitl [O]; · iexact O
  isplitl [RR5]; · iexact RR5
  isplitl [ZR5]; · iexact ZR5
  isplitl [OUT]; · iexact OUT
  iexact SP

set_option maxHeartbeats 1000000 in
/-- Part 31 of the kernel's body. -/
theorem run_part31 (c : Dev nD)  (v2 : BitVec 32) (v945 : BitVec 32) (c8_i32_775 : BitVec 32) (v946 : BitVec 1) {Q : (Σ' (v974 : BitVec 32), BitVec 32) → sProp 𝕄} :
    iprop(recs I K ∗ owe c (dl c 21) ∗ (cred (tallyAt (dcell c 3 6) () (amt 3)) ∗ atPos ER (dcell c 3 6) 0 ∅ 0) ∗ (((c : Thread nD τ).loc cc0_stg5_0) ↦{fullShare} (out5 I c) : sProp 𝕄) ∗ (((c : Thread nD τ).loc cc0_scratch5) ↦{fullShare} (spAt I c) : sProp 𝕄))
      ⊢ iprop((∀ v974 : BitVec 32, ∀ v976 : BitVec 32, (owe c (dl c 21) ∗ rxrP c 6 (rxrAt I c) ∗ semVal (dcell c 3 6) 0 ∗ (((c : Thread nD τ).loc cc0_stg5_0) ↦{fullShare} (out6 I c) : sProp 𝕄) ∗ (((c : Thread nD τ).loc cc0_scratch5) ↦{fullShare} (spAt I c) : sProp 𝕄)) -∗ Q ⟨v974, v976⟩)
          -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v945 c8_i32_775 v946) Q) := by
  iintro ⟨#Hr, O, WR6, OUT, SP⟩ Hk
  simp only [k0_part31_eq_skeleton]
  unfold k0_part31_skel
  simp only [semSignalWord, semWaitWord, Prog.lift, Prog.bind_op, Prog.bind_ret, Prog.pure_eq_ret, wp_deviceId]
  iapply (wait_d I K c 3 6 (by decide) (dl c 21) (ab3 c 6) rfl cred_rr) $$ [O WR6]
  · isplitr; · iexact Hr
    isplitl [O]; · iexact O
    iexact WR6
  iintro ⟨O, RR6, ZR6⟩
  ihave RR6 := (Entails.of_eq (show dPay I c 3 6 = rxrP c 6 (rxrAt I c) from rfl)) $$ RR6
  iapply (ld_out c (out5 I c)) $$ [OUT]
  · iexact OUT
  iintro OUT
  iapply (ld_spSl c (c + 6) (spAt I c) (off4_eq6 c)) $$ [SP]
  · iexact SP
  iintro SP
  iapply (ld_rxrSl c 6 (by decide) (rxrAt I c) rfl) $$ [RR6]
  · iexact RR6
  iintro RR6
  iapply (ld_out c (out5 I c)) $$ [OUT]
  · iexact OUT
  iintro OUT
  iapply (st_out c (out5 I c) _) $$ [OUT]
  · iexact OUT
  iintro OUT
  ihave OUT := (Entails.of_eq (show (((c : Thread nD τ).loc cc0_stg5_0) ↦{fullShare} (k0_pay48 (out5 I c) (rdSp (c + 6) (spAt I c)) (rdRxr 6 (rxrAt I c))) : sProp 𝕄) = (((c : Thread nD τ).loc cc0_stg5_0) ↦{fullShare} (out6 I c) : sProp 𝕄) from rfl)) $$ OUT
  rw [wp_ret]
  imodintro
  iapply Hk
  isplitl [O]; · iexact O
  isplitl [RR6]; · iexact RR6
  isplitl [ZR6]; · iexact ZR6
  isplitl [OUT]; · iexact OUT
  iexact SP

set_option maxHeartbeats 1000000 in
/-- Part 32 of the kernel's body. -/
theorem run_part32 (c : Dev nD)  (v974 : BitVec 32) (v976 : BitVec 32) {Q : (PUnit) → sProp 𝕄} :
    iprop(recs I K ∗ owe c (dl c 21) ∗ (cred (tallyAt (dcell c 3 7) () (amt 3)) ∗ atPos ER (dcell c 3 7) 0 ∅ 0) ∗ (((c : Thread nD τ).loc cc0_stg5_0) ↦{fullShare} (out6 I c) : sProp 𝕄) ∗ (((c : Thread nD τ).loc cc0_scratch5) ↦{fullShare} (spAt I c) : sProp 𝕄))
      ⊢ iprop(((owe c (dl c 21) ∗ rxrP c 7 (rxrAt I c) ∗ semVal (dcell c 3 7) 0 ∗ (((c : Thread nD τ).loc cc0_stg5_0) ↦{fullShare} (outAt I c) : sProp 𝕄) ∗ (((c : Thread nD τ).loc cc0_scratch5) ↦{fullShare} (spAt I c) : sProp 𝕄)) -∗ Q ⟨⟩)
          -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v974 v976) Q) := by
  iintro ⟨#Hr, O, WR7, OUT, SP⟩ Hk
  simp only [k0_part32_eq_skeleton]
  unfold k0_part32_skel
  simp only [semSignalWord, semWaitWord, Prog.lift, Prog.bind_op, Prog.bind_ret, Prog.pure_eq_ret, wp_deviceId]
  iapply (wait_d I K c 3 7 (by decide) (dl c 21) (ab3 c 7) rfl cred_rr) $$ [O WR7]
  · isplitr; · iexact Hr
    isplitl [O]; · iexact O
    iexact WR7
  iintro ⟨O, RR7, ZR7⟩
  ihave RR7 := (Entails.of_eq (show dPay I c 3 7 = rxrP c 7 (rxrAt I c) from rfl)) $$ RR7
  iapply (ld_out c (out6 I c)) $$ [OUT]
  · iexact OUT
  iintro OUT
  iapply (ld_spSl c (c + 7) (spAt I c) (off4_eq7 c)) $$ [SP]
  · iexact SP
  iintro SP
  iapply (ld_rxrSl c 7 (by decide) (rxrAt I c) rfl) $$ [RR7]
  · iexact RR7
  iintro RR7
  iapply (ld_out c (out6 I c)) $$ [OUT]
  · iexact OUT
  iintro OUT
  iapply (st_out c (out6 I c) _) $$ [OUT]
  · iexact OUT
  iintro OUT
  ihave OUT := (Entails.of_eq (show (((c : Thread nD τ).loc cc0_stg5_0) ↦{fullShare} (k0_pay49 (out6 I c) (rdSp (c + 7) (spAt I c)) (rdRxr 7 (rxrAt I c))) : sProp 𝕄) = (((c : Thread nD τ).loc cc0_stg5_0) ↦{fullShare} (outAt I c) : sProp 𝕄) from rfl)) $$ OUT
  rw [wp_ret]
  imodintro
  iapply Hk
  isplitl [O]; · iexact O
  isplitl [RR7]; · iexact RR7
  isplitl [ZR7]; · iexact ZR7
  isplitl [OUT]; · iexact OUT
  iexact SP

set_option maxHeartbeats 1000000 in
/-- Part 33 of the kernel's body. -/
theorem run_part33 (c : Dev nD)   {Q : (PUnit) → sProp 𝕄} :
    iprop(recs I K ∗ owe c (dl c 21) ∗ cred (tallyAt (dcell c 0 1) () (amt 0)) ∗ atPos ER (dcell c 0 1) 0 ∅ 0 ∗ cred (tallyAt (dcell c 0 2) () (amt 0)) ∗ atPos ER (dcell c 0 2) 0 ∅ 0 ∗ cred (tallyAt (dcell c 0 3) () (amt 0)) ∗ atPos ER (dcell c 0 3) 0 ∅ 0 ∗ cred (tallyAt (dcell c 0 4) () (amt 0)) ∗ atPos ER (dcell c 0 4) 0 ∅ 0 ∗ cred (tallyAt (dcell c 0 5) () (amt 0)) ∗ atPos ER (dcell c 0 5) 0 ∅ 0)
      ⊢ iprop(((owe c (dl c 21) ∗ gP c (c + 1) (gAt I c) ∗ semVal (dcell c 0 1) 0 ∗ gP c (c + 2) (gAt I c) ∗ semVal (dcell c 0 2) 0 ∗ gP c (c + 3) (gAt I c) ∗ semVal (dcell c 0 3) 0 ∗ gP c (c + 4) (gAt I c) ∗ semVal (dcell c 0 4) 0 ∗ gP c (c + 5) (gAt I c) ∗ semVal (dcell c 0 5) 0) -∗ Q ⟨⟩)
          -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c) Q) := by
  iintro ⟨#Hr, O, CG1, AG1, CG2, AG2, CG3, AG3, CG4, AG4, CG5, AG5⟩ Hk
  simp only [k0_part33_eq_skeleton]
  unfold k0_part33_skel
  simp only [semSignalWord, semWaitWord, Prog.lift, Prog.bind_op, Prog.bind_ret, Prog.pure_eq_ret, wp_deviceId]
  iapply (wait_d I K c 0 1 (by decide) (dl c 21) (ab0 c 1 21) rfl cred_g) $$ [O CG1 AG1]
  · isplitr; · iexact Hr
    isplitl [O]; · iexact O
    isplitl [CG1]; · iexact CG1
    iexact AG1
  iintro ⟨O, G1, ZG1⟩
  ihave G1 := (Entails.of_eq (show dPay I c 0 1 = gP c (c + 1) (gAt I c) from rfl)) $$ G1
  iapply (wait_d I K c 0 2 (by decide) (dl c 21) (ab0 c 2 21) rfl cred_g) $$ [O CG2 AG2]
  · isplitr; · iexact Hr
    isplitl [O]; · iexact O
    isplitl [CG2]; · iexact CG2
    iexact AG2
  iintro ⟨O, G2, ZG2⟩
  ihave G2 := (Entails.of_eq (show dPay I c 0 2 = gP c (c + 2) (gAt I c) from rfl)) $$ G2
  iapply (wait_d I K c 0 3 (by decide) (dl c 21) (ab0 c 3 21) rfl cred_g) $$ [O CG3 AG3]
  · isplitr; · iexact Hr
    isplitl [O]; · iexact O
    isplitl [CG3]; · iexact CG3
    iexact AG3
  iintro ⟨O, G3, ZG3⟩
  ihave G3 := (Entails.of_eq (show dPay I c 0 3 = gP c (c + 3) (gAt I c) from rfl)) $$ G3
  iapply (wait_d I K c 0 4 (by decide) (dl c 21) (ab0 c 4 21) rfl cred_g) $$ [O CG4 AG4]
  · isplitr; · iexact Hr
    isplitl [O]; · iexact O
    isplitl [CG4]; · iexact CG4
    iexact AG4
  iintro ⟨O, G4, ZG4⟩
  ihave G4 := (Entails.of_eq (show dPay I c 0 4 = gP c (c + 4) (gAt I c) from rfl)) $$ G4
  iapply (wait_d I K c 0 5 (by decide) (dl c 21) (ab0 c 5 21) rfl cred_g) $$ [O CG5 AG5]
  · isplitr; · iexact Hr
    isplitl [O]; · iexact O
    isplitl [CG5]; · iexact CG5
    iexact AG5
  iintro ⟨O, G5, ZG5⟩
  ihave G5 := (Entails.of_eq (show dPay I c 0 5 = gP c (c + 5) (gAt I c) from rfl)) $$ G5
  rw [wp_ret]
  imodintro
  iapply Hk
  isplitl [O]; · iexact O
  isplitl [G1]; · iexact G1
  isplitl [ZG1]; · iexact ZG1
  isplitl [G2]; · iexact G2
  isplitl [ZG2]; · iexact ZG2
  isplitl [G3]; · iexact G3
  isplitl [ZG3]; · iexact ZG3
  isplitl [G4]; · iexact G4
  isplitl [ZG4]; · iexact ZG4
  isplitl [G5]; · iexact G5
  iexact ZG5

set_option maxHeartbeats 1000000 in
/-- Part 34 of the kernel's body. -/
theorem run_part34 (c : Dev nD)   {Q : (PUnit) → sProp 𝕄} :
    iprop(recs I K ∗ owe c (dl c 21) ∗ cred (tallyAt (dcell c 0 6) () (amt 0)) ∗ atPos ER (dcell c 0 6) 0 ∅ 0 ∗ cred (tallyAt (dcell c 0 7) () (amt 0)) ∗ atPos ER (dcell c 0 7) 0 ∅ 0 ∗ cred (tallyAt (dcell c 2 4) () (amt 2)) ∗ atPos ER (dcell c 2 4) 0 ∅ 0 ∗ cred (tallyAt (dcell c 2 5) () (amt 2)) ∗ atPos ER (dcell c 2 5) 0 ∅ 0)
      ⊢ iprop(((owe c (dl c 21) ∗ gP c (c + 6) (gAt I c) ∗ semVal (dcell c 0 6) 0 ∗ gP c (c + 7) (gAt I c) ∗ semVal (dcell c 0 7) 0 ∗ rbP c 3 (spread (Y I c 4)) ∗ semVal (dcell c 2 4) 0 ∗ rbP c 0 (spread (Y I c 5)) ∗ semVal (dcell c 2 5) 0) -∗ Q ⟨⟩)
          -∗ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c) Q) := by
  iintro ⟨#Hr, O, CG6, AG6, CG7, AG7, CR4, AR4, CR5, AR5⟩ Hk
  simp only [k0_part34_eq_skeleton]
  unfold k0_part34_skel
  simp only [semSignalWord, semWaitWord, Prog.lift, Prog.bind_op, Prog.bind_ret, Prog.pure_eq_ret, wp_deviceId]
  iapply (wait_d I K c 0 6 (by decide) (dl c 21) (ab0 c 6 21) rfl cred_g) $$ [O CG6 AG6]
  · isplitr; · iexact Hr
    isplitl [O]; · iexact O
    isplitl [CG6]; · iexact CG6
    iexact AG6
  iintro ⟨O, G6, ZG6⟩
  ihave G6 := (Entails.of_eq (show dPay I c 0 6 = gP c (c + 6) (gAt I c) from rfl)) $$ G6
  iapply (wait_d I K c 0 7 (by decide) (dl c 21) (ab0 c 7 21) rfl cred_g) $$ [O CG7 AG7]
  · isplitr; · iexact Hr
    isplitl [O]; · iexact O
    isplitl [CG7]; · iexact CG7
    iexact AG7
  iintro ⟨O, G7, ZG7⟩
  ihave G7 := (Entails.of_eq (show dPay I c 0 7 = gP c (c + 7) (gAt I c) from rfl)) $$ G7
  iapply (wait_d I K c 2 4 (by decide) (dl c 21) (ab2 c 4 21) rfl cred_rb) $$ [O CR4 AR4]
  · isplitr; · iexact Hr
    isplitl [O]; · iexact O
    isplitl [CR4]; · iexact CR4
    iexact AR4
  iintro ⟨O, RB3, ZS4⟩
  ihave RB3 := (Entails.of_eq (show dPay I c 2 4 = rbP c 3 (spread (Y I c 4)) from rfl)) $$ RB3
  iapply (wait_d I K c 2 5 (by decide) (dl c 21) (ab2 c 5 21) rfl cred_rb) $$ [O CR5 AR5]
  · isplitr; · iexact Hr
    isplitl [O]; · iexact O
    isplitl [CR5]; · iexact CR5
    iexact AR5
  iintro ⟨O, RB0, ZS5⟩
  ihave RB0 := (Entails.of_eq (show dPay I c 2 5 = rbP c 0 (spread (Y I c 5)) from rfl)) $$ RB0
  rw [wp_ret]
  imodintro
  iapply Hk
  isplitl [O]; · iexact O
  isplitl [G6]; · iexact G6
  isplitl [ZG6]; · iexact ZG6
  isplitl [G7]; · iexact G7
  isplitl [ZG7]; · iexact ZG7
  isplitl [RB3]; · iexact RB3
  isplitl [ZS4]; · iexact ZS4
  isplitl [RB0]; · iexact RB0
  iexact ZS5

end Cert.KernelIdeal.Moe

end

end
-- ==== Proof.KernelIdealRun.Body.lean ====
/-
The kernel's body on one device: the parts in order.
-/
module

public import proofs.«01_k».proof.Proof.KernelIdealRun.PartsA
public import proofs.«01_k».proof.Proof.KernelIdealRun.PartsB
public import proofs.«01_k».proof.Proof.KernelIdealRun.PartsC
public import proofs.«01_k».proof.Proof.KernelIdealRun.PartsD
public import proofs.«01_k».proof.Proof.KernelIdealRun.PartsE
public import proofs.«01_k».proof.Proof.KernelIdealRun.PartsF

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Fin 33 → ℕ)

/-- Everything device `c` holds when its body starts, in the order the body uses it. -/
def bodyIn (c : Dev nD) (fb0 : RbBuf F) (fb1 : RbBuf F) (fb2 : RbBuf F) (fb3 : RbBuf F) (fews : Vec F S4x512x1024 .bf16) (fg : GBuf F) (fo : Vec F S1024x1024 .f32) (fsp : Vec F S1024x2048 .bf16) (fx : RxgBuf F) : sProp 𝕄 :=
  iprop(owe c (dl c 0)
    ∗ (dutyTok ER (barCell (c + 1)) 0 (-1) ∗ (∃ f : RxgBuf F, rxgP c 1 f) ∗ (∃ f : RxrBuf F, rxrP c 1 f))
    ∗ (dutyTok ER (barCell (c + 2)) 0 (-2) ∗ (∃ f : RxgBuf F, rxgP c 2 f) ∗ (∃ f : RxrBuf F, rxrP c 2 f))
    ∗ (dutyTok ER (barCell (c + 3)) 0 (-3) ∗ (∃ f : RxgBuf F, rxgP c 3 f) ∗ (∃ f : RxrBuf F, rxrP c 3 f))
    ∗ (dutyTok ER (barCell (c + 4)) 0 (-4) ∗ (∃ f : RxgBuf F, rxgP c 4 f) ∗ (∃ f : RxrBuf F, rxrP c 4 f))
    ∗ (dutyTok ER (barCell (c + 5)) 0 (-5) ∗ (∃ f : RxgBuf F, rxgP c 5 f) ∗ (∃ f : RxrBuf F, rxrP c 5 f))
    ∗ (dutyTok ER (barCell (c + 6)) 0 (-6) ∗ (∃ f : RxgBuf F, rxgP c 6 f) ∗ (∃ f : RxrBuf F, rxrP c 6 f))
    ∗ (dutyTok ER (barCell (c + 7)) 0 (-7) ∗ (∃ f : RxgBuf F, rxgP c 7 f) ∗ (∃ f : RxrBuf F, rxrP c 7 f))
    ∗ (cred (tallyAt (barCell c) () 7) ∗ atPos ER (barCell c) 0 ∅ 0)
    ∗ (((c : Thread nD τ).loc cc0_stg0_0) ↦{fullShare} (I.x c) : sProp 𝕄)
    ∗ (((c : Thread nD τ).loc cc0_stg1_0) ↦{fullShare} (I.rw c) : sProp 𝕄)
    ∗ (((c : Thread nD τ).loc cc0_stg2_0) ↦{fullShare} (I.rt c) : sProp 𝕄)
    ∗ (((c : Thread nD τ).loc cc0_scratch5) ↦{fullShare} fsp : sProp 𝕄)
    ∗ (((c : Thread nD τ).loc cc0_scratch0) ↦{fullShare} fg : sProp 𝕄)
    ∗ (dutyTok ER (dcell c 0 1) 0 0 ∗ dutyTok ER (dcell (c + 1) 1 (-1)) 0 0)
    ∗ (dutyTok ER (dcell c 0 2) 0 0 ∗ dutyTok ER (dcell (c + 2) 1 (-2)) 0 0)
    ∗ (dutyTok ER (dcell c 0 3) 0 0 ∗ dutyTok ER (dcell (c + 3) 1 (-3)) 0 0)
    ∗ (dutyTok ER (dcell c 0 4) 0 0 ∗ dutyTok ER (dcell (c + 4) 1 (-4)) 0 0)
    ∗ (dutyTok ER (dcell c 0 5) 0 0 ∗ dutyTok ER (dcell (c + 5) 1 (-5)) 0 0)
    ∗ (dutyTok ER (dcell c 0 6) 0 0 ∗ dutyTok ER (dcell (c + 6) 1 (-6)) 0 0)
    ∗ (dutyTok ER (dcell c 0 7) 0 0 ∗ dutyTok ER (dcell (c + 7) 1 (-7)) 0 0)
    ∗ rxgP c 0 fx
    ∗ (((c : Thread nD τ).loc cc0_stg3_0) ↦{fullShare} (I.ew c) : sProp 𝕄)
    ∗ (((c : Thread nD τ).loc cc0_scratch4) ↦{fullShare} fews : sProp 𝕄)
    ∗ (((c : Thread nD τ).loc cc0_stg4_0) ↦{fullShare} (I.sw c) : sProp 𝕄)
    ∗ (((c : Thread nD τ).loc cc0_stg5_0) ↦{fullShare} fo : sProp 𝕄)
    ∗ (cred (tallyAt (dcell c 1 1) () (amt 1)) ∗ atPos ER (dcell c 1 1) 0 ∅ 0)
    ∗ rbP c 0 fb0
    ∗ (dutyTok ER (dcell c 2 1) 0 0 ∗ dutyTok ER (dcell (c + 1) 3 (-1)) 0 0)
    ∗ (cred (tallyAt (dcell c 1 2) () (amt 1)) ∗ atPos ER (dcell c 1 2) 0 ∅ 0)
    ∗ rbP c 1 fb1
    ∗ (dutyTok ER (dcell c 2 2) 0 0 ∗ dutyTok ER (dcell (c + 2) 3 (-2)) 0 0)
    ∗ (cred (tallyAt (dcell c 1 3) () (amt 1)) ∗ atPos ER (dcell c 1 3) 0 ∅ 0)
    ∗ rbP c 2 fb2
    ∗ (dutyTok ER (dcell c 2 3) 0 0 ∗ dutyTok ER (dcell (c + 3) 3 (-3)) 0 0)
    ∗ (cred (tallyAt (dcell c 1 4) () (amt 1)) ∗ atPos ER (dcell c 1 4) 0 ∅ 0)
    ∗ rbP c 3 fb3
    ∗ (dutyTok ER (dcell c 2 4) 0 0 ∗ dutyTok ER (dcell (c + 4) 3 (-4)) 0 0)
    ∗ (cred (tallyAt (dcell c 1 5) () (amt 1)) ∗ atPos ER (dcell c 1 5) 0 ∅ 0)
    ∗ atPos ER (dcell c 2 1) 0 ∅ 0
    ∗ (dutyTok ER (dcell c 2 5) 0 0 ∗ dutyTok ER (dcell (c + 5) 3 (-5)) 0 0)
    ∗ (cred (tallyAt (dcell c 1 6) () (amt 1)) ∗ atPos ER (dcell c 1 6) 0 ∅ 0)
    ∗ atPos ER (dcell c 2 2) 0 ∅ 0
    ∗ (dutyTok ER (dcell c 2 6) 0 0 ∗ dutyTok ER (dcell (c + 6) 3 (-6)) 0 0)
    ∗ (cred (tallyAt (dcell c 1 7) () (amt 1)) ∗ atPos ER (dcell c 1 7) 0 ∅ 0)
    ∗ atPos ER (dcell c 2 3) 0 ∅ 0
    ∗ (dutyTok ER (dcell c 2 7) 0 0 ∗ dutyTok ER (dcell (c + 7) 3 (-7)) 0 0)
    ∗ (cred (tallyAt (dcell c 3 1) () (amt 3)) ∗ atPos ER (dcell c 3 1) 0 ∅ 0)
    ∗ (cred (tallyAt (dcell c 3 2) () (amt 3)) ∗ atPos ER (dcell c 3 2) 0 ∅ 0)
    ∗ (cred (tallyAt (dcell c 3 3) () (amt 3)) ∗ atPos ER (dcell c 3 3) 0 ∅ 0)
    ∗ (cred (tallyAt (dcell c 3 4) () (amt 3)) ∗ atPos ER (dcell c 3 4) 0 ∅ 0)
    ∗ (cred (tallyAt (dcell c 3 5) () (amt 3)) ∗ atPos ER (dcell c 3 5) 0 ∅ 0)
    ∗ (cred (tallyAt (dcell c 3 6) () (amt 3)) ∗ atPos ER (dcell c 3 6) 0 ∅ 0)
    ∗ (cred (tallyAt (dcell c 3 7) () (amt 3)) ∗ atPos ER (dcell c 3 7) 0 ∅ 0)
    ∗ atPos ER (dcell c 0 1) 0 ∅ 0
    ∗ atPos ER (dcell c 0 2) 0 ∅ 0
    ∗ atPos ER (dcell c 0 3) 0 ∅ 0
    ∗ atPos ER (dcell c 0 4) 0 ∅ 0
    ∗ atPos ER (dcell c 0 5) 0 ∅ 0
    ∗ atPos ER (dcell c 0 6) 0 ∅ 0
    ∗ atPos ER (dcell c 0 7) 0 ∅ 0
    ∗ atPos ER (dcell c 2 4) 0 ∅ 0
    ∗ atPos ER (dcell c 2 5) 0 ∅ 0
    ∗ atPos ER (dcell c 2 6) 0 ∅ 0
    ∗ atPos ER (dcell c 2 7) 0 ∅ 0)

/-- Everything device `c` holds when its body has finished. -/
def bodyOut (c : Dev nD) : sProp 𝕄 :=
  iprop(owe c (dl c 21)
    ∗ (((c : Thread nD τ).loc cc0_stg0_0) ↦{fullShare} (I.x c) : sProp 𝕄)
    ∗ (((c : Thread nD τ).loc cc0_stg1_0) ↦{fullShare} (I.rw c) : sProp 𝕄)
    ∗ (((c : Thread nD τ).loc cc0_stg2_0) ↦{fullShare} (I.rt c) : sProp 𝕄)
    ∗ (((c : Thread nD τ).loc cc0_stg3_0) ↦{fullShare} (I.ew c) : sProp 𝕄)
    ∗ (((c : Thread nD τ).loc cc0_stg4_0) ↦{fullShare} (I.sw c) : sProp 𝕄)
    ∗ (((c : Thread nD τ).loc cc0_stg5_0) ↦{fullShare} (outAt I c) : sProp 𝕄)
    ∗ (((c : Thread nD τ).loc cc0_scratch5) ↦{fullShare} (spAt I c) : sProp 𝕄)
    ∗ (((c : Thread nD τ).loc cc0_scratch4) ↦{fullShare} (ewAt I c) : sProp 𝕄)
    ∗ gP c c (gAt I c)
    ∗ gP c (c + 1) (gAt I c)
    ∗ gP c (c + 2) (gAt I c)
    ∗ gP c (c + 3) (gAt I c)
    ∗ gP c (c + 4) (gAt I c)
    ∗ gP c (c + 5) (gAt I c)
    ∗ gP c (c + 6) (gAt I c)
    ∗ gP c (c + 7) (gAt I c)
    ∗ rxgP c 0 (rxgAt I c)
    ∗ rxgP c 1 (rxgAt I c)
    ∗ rxgP c 2 (rxgAt I c)
    ∗ rxgP c 3 (rxgAt I c)
    ∗ rxgP c 4 (rxgAt I c)
    ∗ rxgP c 5 (rxgAt I c)
    ∗ rxgP c 6 (rxgAt I c)
    ∗ rxgP c 7 (rxgAt I c)
    ∗ rbP c 0 (spread (Y I c 5))
    ∗ rbP c 1 (spread (Y I c 6))
    ∗ rbP c 2 (spread (Y I c 7))
    ∗ rbP c 3 (spread (Y I c 4))
    ∗ rxrP c 1 (rxrAt I c)
    ∗ rxrP c 2 (rxrAt I c)
    ∗ rxrP c 3 (rxrAt I c)
    ∗ rxrP c 4 (rxrAt I c)
    ∗ rxrP c 5 (rxrAt I c)
    ∗ rxrP c 6 (rxrAt I c)
    ∗ rxrP c 7 (rxrAt I c)
    ∗ semVal (dcell c 0 1) 0
    ∗ semVal (dcell c 0 2) 0
    ∗ semVal (dcell c 0 3) 0
    ∗ semVal (dcell c 0 4) 0
    ∗ semVal (dcell c 0 5) 0
    ∗ semVal (dcell c 0 6) 0
    ∗ semVal (dcell c 0 7) 0
    ∗ semVal (dcell c 1 1) 0
    ∗ semVal (dcell c 1 2) 0
    ∗ semVal (dcell c 1 3) 0
    ∗ semVal (dcell c 1 4) 0
    ∗ semVal (dcell c 1 5) 0
    ∗ semVal (dcell c 1 6) 0
    ∗ semVal (dcell c 1 7) 0
    ∗ semVal (dcell c 2 1) 0
    ∗ semVal (dcell c 2 2) 0
    ∗ semVal (dcell c 2 3) 0
    ∗ semVal (dcell c 2 4) 0
    ∗ semVal (dcell c 2 5) 0
    ∗ semVal (dcell c 2 6) 0
    ∗ semVal (dcell c 2 7) 0
    ∗ semVal (dcell c 3 1) 0
    ∗ semVal (dcell c 3 2) 0
    ∗ semVal (dcell c 3 3) 0
    ∗ semVal (dcell c 3 4) 0
    ∗ semVal (dcell c 3 5) 0
    ∗ semVal (dcell c 3 6) 0
    ∗ semVal (dcell c 3 7) 0
    ∗ semVal (barCell c) 0)

set_option maxHeartbeats 8000000 in
/-- The body of the kernel on device `c`, from its parts. -/
theorem run_parts (c : Dev nD) (fb0 : RbBuf F) (fb1 : RbBuf F) (fb2 : RbBuf F) (fb3 : RbBuf F) (fews : Vec F S4x512x1024 .bf16) (fg : GBuf F) (fo : Vec F S1024x1024 .f32) (fsp : Vec F S1024x2048 .bf16) (fx : RxgBuf F) {Q : PUnit → sProp 𝕄} :
    iprop(recs I K ∗ bodyIn I c fb0 fb1 fb2 fb3 fews fg fo fsp fx)
      ⊢ iprop((bodyOut I c -∗ Q ⟨⟩)
          -∗ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Q) := by
  unfold bodyIn bodyOut
  iintro ⟨#Hr, O, SG1, SG2, SG3, SG4, SG5, SG6, SG7, WB, X, RW, RT, SP, G, AT1, AT2, AT3, AT4, AT5, AT6, AT7, RX0, EW, EWS, SW, OUT, WX1, RB0, RT1, WX2, RB1, RT2, WX3, RB2, RT3, WX4, RB3, RT4, WX5, AR1, RT5, WX6, AR2, RT6, WX7, AR3, RT7, WR1, WR2, WR3, WR4, WR5, WR6, WR7, AG1, AG2, AG3, AG4, AG5, AG6, AG7, AR4, AR5, AR6, AR7⟩ Hk
  simp only [k0_part35_eq_skeleton]
  unfold k0_part35_skel
  simp only [Prog.lift, Prog.bind_op, Prog.bind_ret, Prog.pure_eq_ret, wp_bind]
  iapply (run_part1 I K c ) $$ [O SG1 SG2]
  · isplitr; · iexact Hr
    isplitl [O]; · iexact O
    isplitl [SG1]; · iexact SG1
    iexact SG2
  iintro %v2 %v30 %c8_i32_18 %v31 O
  iapply (run_part2 I K c _ _ _ _) $$ [O SG3 SG4]
  · isplitr; · iexact Hr
    isplitl [O]; · iexact O
    isplitl [SG3]; · iexact SG3
    iexact SG4
  iintro %v59 %v64 %v65 O
  iapply (run_part3 I K c _ _ _ _) $$ [O SG5 SG6 SG7 WB]
  · isplitr; · iexact Hr
    isplitl [O]; · iexact O
    isplitl [SG5]; · iexact SG5
    isplitl [SG6]; · iexact SG6
    isplitl [SG7]; · iexact SG7
    iexact WB
  iintro ⟨O, BP1, BP2, BP3, BP4, BP5, BP6, BP7, ZB⟩
  iapply (run_part4 I K c ) $$ [X RW RT]
  · isplitr; · iexact Hr
    isplitl [X]; · iexact X
    isplitl [RW]; · iexact RW
    iexact RT
  iintro ⟨X, RW, RT⟩
  iapply (run_part5 I K c fg fsp _) $$ [SP X G]
  · isplitr; · iexact Hr
    isplitl [SP]; · iexact SP
    isplitl [X]; · iexact X
    iexact G
  iintro ⟨SP, X, G0, G1, G2, G3, G4, G5, G6, G7⟩
  iapply (run_part6 I K c _) $$ [O BP1 G1 AT1 BP2 G2 AT2]
  · isplitr; · iexact Hr
    isplitl [O]; · iexact O
    isplitl [BP1]; · iexact BP1
    isplitl [G1]; · iexact G1
    isplitl [AT1]; · iexact AT1
    isplitl [BP2]; · iexact BP2
    isplitl [G2]; · iexact G2
    iexact AT2
  iintro %v211 ⟨O, LR1, CG1, LR2, CG2⟩
  iapply (run_part7 I K c _ _) $$ [O BP3 G3 AT3 BP4 G4 AT4]
  · isplitr; · iexact Hr
    isplitl [O]; · iexact O
    isplitl [BP3]; · iexact BP3
    isplitl [G3]; · iexact G3
    isplitl [AT3]; · iexact AT3
    isplitl [BP4]; · iexact BP4
    isplitl [G4]; · iexact G4
    iexact AT4
  iintro %v243 ⟨O, LR3, CG3, LR4, CG4⟩
  iapply (run_part8 I K c _ _) $$ [O BP5 G5 AT5]
  · isplitr; · iexact Hr
    isplitl [O]; · iexact O
    isplitl [BP5]; · iexact BP5
    isplitl [G5]; · iexact G5
    iexact AT5
  iintro %v274 %c1_i32_173 ⟨O, LR5, CG5⟩
  iapply (run_part9 I K c _ _ _) $$ [O BP6 G6 AT6 BP7 G7 AT7 G0]
  · isplitr; · iexact Hr
    isplitl [O]; · iexact O
    isplitl [BP6]; · iexact BP6
    isplitl [G6]; · iexact G6
    isplitl [AT6]; · iexact AT6
    isplitl [BP7]; · iexact BP7
    isplitl [G7]; · iexact G7
    isplitl [AT7]; · iexact AT7
    iexact G0
  iintro ⟨O, LR6, CG6, LR7, CG7, G0⟩
  iapply (run_part10 I K c fews fx _) $$ [RX0 EW EWS X SW SP]
  · isplitr; · iexact Hr
    isplitl [RX0]; · iexact RX0
    isplitl [EW]; · iexact EW
    isplitl [EWS]; · iexact EWS
    isplitl [X]; · iexact X
    isplitl [SW]; · iexact SW
    iexact SP
  iintro ⟨RX0, EW, EWS, X, SW, SP⟩
  iapply (run_part11 I K c fo _) $$ [EWS OUT O WX1]
  · isplitr; · iexact Hr
    isplitl [EWS]; · iexact EWS
    isplitl [OUT]; · iexact OUT
    isplitl [O]; · iexact O
    iexact WX1
  iintro ⟨EWS, OUT, O, RX1, ZX1⟩
  iapply (run_part12 I K c fb0 _) $$ [EWS RB0]
  · isplitr; · iexact Hr
    isplitl [EWS]; · iexact EWS
    iexact RB0
  iintro %v399 ⟨EWS, RB0⟩
  iapply (run_part13 I K c _ _) $$ [O RB0 LR1 RT1 WX2]
  · isplitr; · iexact Hr
    isplitl [O]; · iexact O
    isplitl [RB0]; · iexact RB0
    isplitl [LR1]; · iexact LR1
    isplitl [RT1]; · iexact RT1
    iexact WX2
  iintro ⟨O, CR1, RX2, ZX2⟩
  iapply (run_part14 I K c fb1 _) $$ [EWS RB1]
  · isplitr; · iexact Hr
    isplitl [EWS]; · iexact EWS
    iexact RB1
  iintro %v461 ⟨EWS, RB1⟩
  iapply (run_part15 I K c _ _) $$ [O RB1 LR2 RT2 WX3]
  · isplitr; · iexact Hr
    isplitl [O]; · iexact O
    isplitl [RB1]; · iexact RB1
    isplitl [LR2]; · iexact LR2
    isplitl [RT2]; · iexact RT2
    iexact WX3
  iintro ⟨O, CR2, RX3, ZX3⟩
  iapply (run_part16 I K c fb2 _) $$ [EWS RB2]
  · isplitr; · iexact Hr
    isplitl [EWS]; · iexact EWS
    iexact RB2
  iintro %v523 ⟨EWS, RB2⟩
  iapply (run_part17 I K c _ _) $$ [O RB2 LR3 RT3 WX4]
  · isplitr; · iexact Hr
    isplitl [O]; · iexact O
    isplitl [RB2]; · iexact RB2
    isplitl [LR3]; · iexact LR3
    isplitl [RT3]; · iexact RT3
    iexact WX4
  iintro ⟨O, CR3, RX4, ZX4⟩
  iapply (run_part18 I K c fb3 _) $$ [EWS RB3]
  · isplitr; · iexact Hr
    isplitl [EWS]; · iexact EWS
    iexact RB3
  iintro %v585 ⟨EWS, RB3⟩
  iapply (run_part19 I K c _ _) $$ [O RB3 LR4 RT4 WX5]
  · isplitr; · iexact Hr
    isplitl [O]; · iexact O
    isplitl [RB3]; · iexact RB3
    isplitl [LR4]; · iexact LR4
    isplitl [RT4]; · iexact RT4
    iexact WX5
  iintro ⟨O, CR4, RX5, ZX5⟩
  iapply (run_part20 I K c _) $$ [O CR1 AR1 RX5 EWS]
  · isplitr; · iexact Hr
    isplitl [O]; · iexact O
    isplitl [CR1]; · iexact CR1
    isplitl [AR1]; · iexact AR1
    isplitl [RX5]; · iexact RX5
    iexact EWS
  iintro %v643 %c8_i32_497 %v644 %c1_i32_499 ⟨O, RB0, ZS1, RX5, EWS⟩
  iapply (run_part21 I K c _ _ _ _ _) $$ [O RB0 LR5 RT5]
  · isplitr; · iexact Hr
    isplitl [O]; · iexact O
    isplitl [RB0]; · iexact RB0
    isplitl [LR5]; · iexact LR5
    iexact RT5
  iintro ⟨O, CR5⟩
  iapply (run_part22 I K c ) $$ [O WX6 CR2 AR2 EWS]
  · isplitr; · iexact Hr
    isplitl [O]; · iexact O
    isplitl [WX6]; · iexact WX6
    isplitl [CR2]; · iexact CR2
    isplitl [AR2]; · iexact AR2
    iexact EWS
  iintro ⟨O, RX6, ZX6, RB1, ZS2, EWS⟩
  iapply (run_part23 I K c _) $$ [RB1 O LR6 RT6]
  · isplitr; · iexact Hr
    isplitl [RB1]; · iexact RB1
    isplitl [O]; · iexact O
    isplitl [LR6]; · iexact LR6
    iexact RT6
  iintro %v734 %v735 %v736 %c0_i32_581 ⟨O, CR6⟩
  iapply (run_part24 I K c _ _ _ _) $$ [O WX7 CR3 AR3 EWS]
  · isplitr; · iexact Hr
    isplitl [O]; · iexact O
    isplitl [WX7]; · iexact WX7
    isplitl [CR3]; · iexact CR3
    isplitl [AR3]; · iexact AR3
    iexact EWS
  iintro ⟨O, RX7, ZX7, RB2, ZS3, EWS⟩
  iapply (run_part25 I K c _) $$ [EWS RB2]
  · isplitr; · iexact Hr
    isplitl [EWS]; · iexact EWS
    iexact RB2
  iintro ⟨EWS, RB2⟩
  iapply (run_part26 I K c _) $$ [O RB2 LR7 RT7 WR1 OUT SP]
  · isplitr; · iexact Hr
    isplitl [O]; · iexact O
    isplitl [RB2]; · iexact RB2
    isplitl [LR7]; · iexact LR7
    isplitl [RT7]; · iexact RT7
    isplitl [WR1]; · iexact WR1
    isplitl [OUT]; · iexact OUT
    iexact SP
  iintro ⟨O, CR7, RR1, ZR1, OUT, SP⟩
  iapply (run_part27 I K c _) $$ [OUT O WR2 SP]
  · isplitr; · iexact Hr
    isplitl [OUT]; · iexact OUT
    isplitl [O]; · iexact O
    isplitl [WR2]; · iexact WR2
    iexact SP
  iintro ⟨OUT, O, RR2, ZR2, SP⟩
  iapply (run_part28 I K c _) $$ [OUT O WR3 SP]
  · isplitr; · iexact Hr
    isplitl [OUT]; · iexact OUT
    isplitl [O]; · iexact O
    isplitl [WR3]; · iexact WR3
    iexact SP
  iintro %c4_i32_720 ⟨OUT, O, RR3, ZR3, SP⟩
  iapply (run_part29 I K c _ _) $$ [O WR4 OUT SP]
  · isplitr; · iexact Hr
    isplitl [O]; · iexact O
    isplitl [WR4]; · iexact WR4
    isplitl [OUT]; · iexact OUT
    iexact SP
  iintro %v916 %c8_i32_748 ⟨O, RR4, ZR4, OUT, SP⟩
  iapply (run_part30 I K c _ _ _) $$ [O WR5 OUT SP]
  · isplitr; · iexact Hr
    isplitl [O]; · iexact O
    isplitl [WR5]; · iexact WR5
    isplitl [OUT]; · iexact OUT
    iexact SP
  iintro %v945 %c8_i32_775 %v946 ⟨O, RR5, ZR5, OUT, SP⟩
  iapply (run_part31 I K c _ _ _ _) $$ [O WR6 OUT SP]
  · isplitr; · iexact Hr
    isplitl [O]; · iexact O
    isplitl [WR6]; · iexact WR6
    isplitl [OUT]; · iexact OUT
    iexact SP
  iintro %v974 %v976 ⟨O, RR6, ZR6, OUT, SP⟩
  iapply (run_part32 I K c _ _) $$ [O WR7 OUT SP]
  · isplitr; · iexact Hr
    isplitl [O]; · iexact O
    isplitl [WR7]; · iexact WR7
    isplitl [OUT]; · iexact OUT
    iexact SP
  iintro ⟨O, RR7, ZR7, OUT, SP⟩
  iapply (run_part33 I K c ) $$ [O CG1 AG1 CG2 AG2 CG3 AG3 CG4 AG4 CG5 AG5]
  · isplitr; · iexact Hr
    isplitl [O]; · iexact O
    isplitl [CG1]; · iexact CG1
    isplitl [AG1]; · iexact AG1
    isplitl [CG2]; · iexact CG2
    isplitl [AG2]; · iexact AG2
    isplitl [CG3]; · iexact CG3
    isplitl [AG3]; · iexact AG3
    isplitl [CG4]; · iexact CG4
    isplitl [AG4]; · iexact AG4
    isplitl [CG5]; · iexact CG5
    iexact AG5
  iintro ⟨O, G1, ZG1, G2, ZG2, G3, ZG3, G4, ZG4, G5, ZG5⟩
  iapply (run_part34 I K c ) $$ [O CG6 AG6 CG7 AG7 CR4 AR4 CR5 AR5]
  · isplitr; · iexact Hr
    isplitl [O]; · iexact O
    isplitl [CG6]; · iexact CG6
    isplitl [AG6]; · iexact AG6
    isplitl [CG7]; · iexact CG7
    isplitl [AG7]; · iexact AG7
    isplitl [CR4]; · iexact CR4
    isplitl [AR4]; · iexact AR4
    isplitl [CR5]; · iexact CR5
    iexact AR5
  iintro ⟨O, G6, ZG6, G7, ZG7, RB3, ZS4, RB0, ZS5⟩
  iapply (wait_d I K c 2 6 (by decide) (dl c 21) (ab2 c 6 21) rfl cred_rb) $$ [O CR6 AR6]
  · isplitr; · iexact Hr
    isplitl [O]; · iexact O
    isplitl [CR6]; · iexact CR6
    iexact AR6
  iintro ⟨O, RB1, ZS6⟩
  ihave RB1 := (Entails.of_eq (show dPay I c 2 6 = rbP c 1 (spread (Y I c 6)) from rfl)) $$ RB1
  iapply (wait_d I K c 2 7 (by decide) (dl c 21) (ab2 c 7 21) rfl cred_rb) $$ [O CR7 AR7]
  · isplitr; · iexact Hr
    isplitl [O]; · iexact O
    isplitl [CR7]; · iexact CR7
    iexact AR7
  iintro ⟨O, RB2, ZS7⟩
  ihave RB2 := (Entails.of_eq (show dPay I c 2 7 = rbP c 2 (spread (Y I c 7)) from rfl)) $$ RB2
  rw [wp_ret]
  imodintro
  iapply Hk
  isplitl [O]; · iexact O
  isplitl [X]; · iexact X
  isplitl [RW]; · iexact RW
  isplitl [RT]; · iexact RT
  isplitl [EW]; · iexact EW
  isplitl [SW]; · iexact SW
  isplitl [OUT]; · iexact OUT
  isplitl [SP]; · iexact SP
  isplitl [EWS]; · iexact EWS
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [RX0]; · iexact RX0
  isplitl [RX1]; · iexact RX1
  isplitl [RX2]; · iexact RX2
  isplitl [RX3]; · iexact RX3
  isplitl [RX4]; · iexact RX4
  isplitl [RX5]; · iexact RX5
  isplitl [RX6]; · iexact RX6
  isplitl [RX7]; · iexact RX7
  isplitl [RB0]; · iexact RB0
  isplitl [RB1]; · iexact RB1
  isplitl [RB2]; · iexact RB2
  isplitl [RB3]; · iexact RB3
  isplitl [RR1]; · iexact RR1
  isplitl [RR2]; · iexact RR2
  isplitl [RR3]; · iexact RR3
  isplitl [RR4]; · iexact RR4
  isplitl [RR5]; · iexact RR5
  isplitl [RR6]; · iexact RR6
  isplitl [RR7]; · iexact RR7
  isplitl [ZG1]; · iexact ZG1
  isplitl [ZG2]; · iexact ZG2
  isplitl [ZG3]; · iexact ZG3
  isplitl [ZG4]; · iexact ZG4
  isplitl [ZG5]; · iexact ZG5
  isplitl [ZG6]; · iexact ZG6
  isplitl [ZG7]; · iexact ZG7
  isplitl [ZX1]; · iexact ZX1
  isplitl [ZX2]; · iexact ZX2
  isplitl [ZX3]; · iexact ZX3
  isplitl [ZX4]; · iexact ZX4
  isplitl [ZX5]; · iexact ZX5
  isplitl [ZX6]; · iexact ZX6
  isplitl [ZX7]; · iexact ZX7
  isplitl [ZS1]; · iexact ZS1
  isplitl [ZS2]; · iexact ZS2
  isplitl [ZS3]; · iexact ZS3
  isplitl [ZS4]; · iexact ZS4
  isplitl [ZS5]; · iexact ZS5
  isplitl [ZS6]; · iexact ZS6
  isplitl [ZS7]; · iexact ZS7
  isplitl [ZR1]; · iexact ZR1
  isplitl [ZR2]; · iexact ZR2
  isplitl [ZR3]; · iexact ZR3
  isplitl [ZR4]; · iexact ZR4
  isplitl [ZR5]; · iexact ZR5
  isplitl [ZR6]; · iexact ZR6
  isplitl [ZR7]; · iexact ZR7
  iexact ZB

/-- The printed body on device `c`. -/
theorem run_body (c : Dev nD) (fb0 : RbBuf F) (fb1 : RbBuf F) (fb2 : RbBuf F) (fb3 : RbBuf F) (fews : Vec F S4x512x1024 .bf16) (fg : GBuf F) (fo : Vec F S1024x1024 .f32) (fsp : Vec F S1024x2048 .bf16) (fx : RxgBuf F) {Q : PUnit → sProp 𝕄} :
    iprop(recs I K ∗ bodyIn I c fb0 fb1 fb2 fb3 fews fg fo fsp fx)
      ⊢ iprop((bodyOut I c -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Q) := by
  iintro ⟨#Hr, H⟩ Hk
  simp only [cc0_body_eq_skeleton]
  unfold cc0_body_skel
  simp only [Prog.lift, Prog.bind_op, Prog.bind_ret, Prog.pure_eq_ret, wp_bind]
  iapply (run_parts I K c fb0 fb1 fb2 fb3 fews fg fo fsp fx) $$ [H]
  · isplitr; · iexact Hr
    iexact H
  iintro H
  rw [wp_ret]
  imodintro
  iapply Hk
  iexact H

end Cert.KernelIdeal.Moe

end

end
-- ==== Proof.KernelIdealRun.Deal.lean ====
/-
Who starts with which semaphore, token and credit.

Every device's cells, positions and tokens are made at once and dealt out: a device keeps its positions, and gets the
tokens of the units it pays, which belong to cells of the other devices.
-/
module

public import proofs.«01_k».proof.Proof.KernelIdealRun.Ops

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-! ## Enumerations -/

omit [FloatOps F] in
theorem all8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem all4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem all5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem but0 (Φ : Fin 8 → sProp 𝕄) : bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

omit [FloatOps F] in
/-- The first of `n + 1` things apart. -/
theorem first_apart {n : ℕ} (Φ : Fin (n + 1) → sProp 𝕄) :
    bigSep Finset.univ Φ = iprop(Φ 0 ∗ bigSep Finset.univ fun i : Fin n => Φ i.succ) := by
  have h : (Finset.univ.erase 0 : Finset (Fin (n + 1))) = Finset.univ.map (Fin.succEmb n) := by
    ext i
    simp only [Finset.mem_erase, Finset.mem_univ, and_true, Finset.mem_map, true_and, Fin.coe_succEmb]
    exact ⟨fun h => ⟨i.pred h, Fin.succ_pred i h⟩, fun ⟨j, hj⟩ => hj ▸ Fin.succ_ne_zero j⟩
  rw [bigSep_univ_at Φ 0, h, bigSep_map]; rfl

omit [FloatOps F] in
/-- One thing per cell of device `c`. -/
theorem cells33 (c : Dev nD) (Φ : GSem nD τ sig → sProp 𝕄) : (bigSep Finset.univ fun k : Fin 33 => Φ (kcell (c, k)))
    = iprop(Φ (barCell c) ∗ Φ (dcell c 0 0) ∗ Φ (dcell c 0 1) ∗ Φ (dcell c 0 2) ∗ Φ (dcell c 0 3) ∗ Φ (dcell c 0 4) ∗ Φ (dcell c 0 5) ∗ Φ (dcell c 0 6) ∗ Φ (dcell c 0 7) ∗ Φ (dcell c 1 0) ∗ Φ (dcell c 1 1) ∗ Φ (dcell c 1 2) ∗ Φ (dcell c 1 3) ∗ Φ (dcell c 1 4) ∗ Φ (dcell c 1 5) ∗ Φ (dcell c 1 6) ∗ Φ (dcell c 1 7) ∗ Φ (dcell c 2 0) ∗ Φ (dcell c 2 1) ∗ Φ (dcell c 2 2) ∗ Φ (dcell c 2 3) ∗ Φ (dcell c 2 4) ∗ Φ (dcell c 2 5) ∗ Φ (dcell c 2 6) ∗ Φ (dcell c 2 7) ∗ Φ (dcell c 3 0) ∗ Φ (dcell c 3 1) ∗ Φ (dcell c 3 2) ∗ Φ (dcell c 3 3) ∗ Φ (dcell c 3 4) ∗ Φ (dcell c 3 5) ∗ Φ (dcell c 3 6) ∗ Φ (dcell c 3 7)) := by
  rw [bigSep_univ_eq_bigSepL [0, dk 0 0, dk 0 1, dk 0 2, dk 0 3, dk 0 4, dk 0 5, dk 0 6, dk 0 7, dk 1 0, dk 1 1, dk 1 2, dk 1 3, dk 1 4, dk 1 5, dk 1 6, dk 1 7, dk 2 0, dk 2 1, dk 2 2, dk 2 3, dk 2 4, dk 2 5, dk 2 6, dk 2 7, dk 3 0, dk 3 1, dk 3 2, dk 3 3, dk 3 4, dk 3 5, dk 3 6, dk 3 7] (by decide) (by decide) (fun k : Fin 33 => Φ (kcell (c, k)))]
  rfl

/-! ## Cells and tokens -/

theorem csem_injective : Function.Injective csem := by decide +kernel
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens of one device's cells: the barrier's duties, and duty `0` of every transfer cell. -/
abbrev tokSem (j : Fin 5 × Fin 8) : SemLoc sig × Fin 8 := match j.1 with
  | 0 => (.reg barS, j.2)
  | 1 => (.dma (dsem 0 j.2), 0)
  | 2 => (.dma (dsem 1 j.2), 0)
  | 3 => (.dma (dsem 2 j.2), 0)
  | 4 => (.dma (dsem 3 j.2), 0)
theorem tokSem_injective : Function.Injective tokSem := by decide +kernel
abbrev tokOf (x : Dev nD × Fin 5 × Fin 8) : GSem nD τ sig × ℕ × Fin 8 := (((x.1 : Thread nD τ), (tokSem x.2).1), 0, (tokSem x.2).2)
theorem tokOf_injective : Function.Injective tokOf := by
  rintro ⟨c, j⟩ ⟨c', j'⟩ h
  have h1 : c = c' := congrArg (fun g : GSem nD τ sig × ℕ × Fin 8 => g.1.1.1) h
  have h2 : j = j' := tokSem_injective (congrArg (fun g : GSem nD τ sig × ℕ × Fin 8 => (g.1.2, g.2.2)) h)
  rw [h1, h2]
def allToks : Finset (GSem nD τ sig × ℕ × Fin 8) := Finset.univ.map ⟨tokOf, tokOf_injective⟩

/-- The starting element: the staging cells', and the 33 cells' of every device. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun k : Fin 8 => dutyTok ER (barCell c) 0 k)
    ∗ (bigSep Finset.univ fun k : Fin 8 => dutyTok ER (dcell c 0 k) 0 0) ∗ (bigSep Finset.univ fun k : Fin 8 => dutyTok ER (dcell c 1 k) 0 0)
    ∗ (bigSep Finset.univ fun k : Fin 8 => dutyTok ER (dcell c 2 k) 0 0) ∗ (bigSep Finset.univ fun k : Fin 8 => dutyTok ER (dcell c 3 k) 0 0))
/-- The tokens device `c` pays with. -/
def payToks (c : Dev nD) : sProp 𝕄 :=
  iprop((bigSep Finset.univ fun k : Fin 8 => dutyTok ER (barCell (c + k)) 0 (-k))
    ∗ (bigSep Finset.univ fun k : Fin 8 => dutyTok ER (dcell c 0 k) 0 0) ∗ (bigSep Finset.univ fun k : Fin 8 => dutyTok ER (dcell (c + k) 1 (-k)) 0 0)
    ∗ (bigSep Finset.univ fun k : Fin 8 => dutyTok ER (dcell c 2 k) 0 0) ∗ (bigSep Finset.univ fun k : Fin 8 => dutyTok ER (dcell (c + k) 3 (-k)) 0 0))

/-- Seen from the other end: from `c`, `k` further on, is from `c + k`, `-k` further on. -/
def otherEnd : Dev nD × Fin 8 ≃ Dev nD × Fin 8 where
  toFun x := (x.1 + x.2, -x.2)
  invFun x := (x.1 + x.2, -x.2)
  left_inv x := Prod.ext (add_add_neg x.1 x.2) (neg_neg8 x.2)
  right_inv x := Prod.ext (add_add_neg x.1 x.2) (neg_neg8 x.2)

omit [FloatOps F] in
theorem swap_ends (Φ : Dev nD → Fin 8 → sProp 𝕄) :
    (bigSep Finset.univ fun c => bigSep Finset.univ fun k => Φ c k) = bigSep Finset.univ fun c : Dev nD => bigSep Finset.univ fun k : Fin 8 => Φ (c + k) (-k) := by
  rw [← bigSep_univ_prod (fun x : Dev nD × Fin 8 => Φ x.1 x.2), bigSep_univ_equiv otherEnd, bigSep_univ_prod]
  rfl

omit [FloatOps F] in
theorem deal_toks : (bigSep Finset.univ fun c : Dev nD => (ownToks c : sProp 𝕄)) ⊢ bigSep Finset.univ fun c : Dev nD => payToks c := by
  unfold ownToks payToks
  simp only [bigSep_sep']
  rw [swap_ends (fun c k => (dutyTok ER (barCell c) 0 k : sProp 𝕄)), swap_ends (fun c k => (dutyTok ER (dcell c 1 k) 0 0 : sProp 𝕄)),
    swap_ends (fun c k => (dutyTok ER (dcell c 3 k) 0 0 : sProp 𝕄))]

/-- What the starting element gives device `c`. -/
def G (c : Dev nD) : sProp 𝕄 :=
  iprop((bigSep Finset.univ fun k : Fin 33 => roundState ER (Rd I) (kcell (c, k)) 0)
    ∗ (bigSep Finset.univ fun k : Fin 33 => iprop(atPos ER (kcell (c, k)) 0 ∅ 0 ∗ reached ER (kcell (c, k)) 0)) ∗ ownToks c)

/-- The records but for the levels. -/
def recs0 (K : Dev nD × Fin 33 → ℕ) : sProp 𝕄 :=
  iprop((bigSep Finset.univ fun ck : Dev nD × Fin 33 => cellInv ER (Rd I) (K ck) (kcell ck))
    ∗ bigSep Finset.univ fun ck : Dev nD × Fin 33 => reached ER (kcell ck) 0)
instance recs0_persistent (K : Dev nD × Fin 33 → ℕ) : BI.Persistent (recs0 I K) := by unfold recs0; infer_instance

/-- What a device alone holds: its positions and the tokens it pays with. -/
def mine (c : Dev nD) : sProp 𝕄 := iprop((bigSep Finset.univ fun k : Fin 33 => atPos ER (kcell (c, k)) 0 ∅ 0) ∗ payToks c)
/-- What the devices' common step leaves device `c`. -/
def G' (c : Dev nD) : sProp 𝕄 := iprop(∃ K, recs0 I K ∗ mine c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_prod, all5]; rfl
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Semaphores -/

/-- The kernel's own semaphores. -/
abbrev osem : Fin 32 → SemLoc sig := fun i => csem i.succ
theorem ownSemFacts : Pipeline.OwnSemFacts cfg0.spec osem := by decide +kernel

omit [FloatOps F] in
/-- The barrier semaphore is the one the runtime provides. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_eq (c : Dev nD) : (bigSep Finset.univ fun k : Fin 33 => semVal (kcell (c, k)) 0 : sProp 𝕄)
    = iprop(unscopedSems0 c ∗ Pipeline.ownSems0 (Ix := Unit) (Name := ℕ) (U := UU) (Lvl := ℕ) (Val := Elt F) (τ := τ) osem c) := by
  rw [first_apart, unscopedSems0_eq]; rfl

theorem open_cells (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 33 => semVal (kcell (c, k)) 0) ∗ bigSep Finset.univ fun k : Fin 33 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem with_shared {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × Fin 33 → ℕ) (c : Dev nD) : iprop(recs0 I K ∗ mine c) ⊢ G' I c := by
  unfold G'
  iintro H
  iexists K
  iexact H

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' I) := by
  rw [bigSep_sep', bigSep_sep', ← bigSep_univ_prod (fun ck : Dev nD × Fin 33 => iprop(∃ κ : ℕ, cellInv ER (Rd I) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd I) κ (kcell ck) : sProp 𝕄))) $$ HI
  icases HK with ⟨%K, #HI⟩
  ihave Htk := (deal_toks (F := F)) $$ Htok
  iapply (with_shared (R := recs0 I K) fun c _ => share_out I K c)
  isplitr
  · unfold recs0; isplitl; · iexact HI
    iexact HR
  · unfold mine
    rw [bigSep_sep']
    isplitl [Hat]; · iexact Hat
    iexact Htk

/-- All devices' semaphores become cells at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => open_cells I c).trans (bigSep_fupd _ _)).trans (BI.fupd_mono (regroup I))

/-! ## Credit -/

/-- What device `c` owes at launch. -/
abbrev O₀ (c : Dev nD) : CellTallies nD τ sig Unit := OL (dl c 0)

/-- A debt's amount is its cell's. -/
theorem debt_amount (d : Dev nD) (i : ℕ) : (debt d i).2 = sAmount (debt d i).1.2 := by
  unfold debt
  split
  · rfl
  · split
    · exact (congrArg amt (arr_dsem 1 _)).symm
    · exact (congrArg amt (arr_dsem 3 _)).symm

theorem OL_count (d : Dev nD) (g : GSem nD τ sig) (l : List ℕ) :
    OL (l.map (debt d)) g () = (l.countP fun i => (debt d i).1 = g) * sAmount g.2 := by
  induction l with
  | nil => exact (Nat.zero_mul _).symm
  | cons i l ih =>
    rw [List.map_cons]
    unfold OL
    rw [Pi.add_apply, Finsupp.add_apply, ih, tallyAt_apply, List.countP_cons]
    by_cases h : (debt d i).1 = g
    · rw [if_pos ⟨h.symm, rfl⟩, if_pos (by simpa using h), debt_amount, h, Nat.add_mul, Nat.one_mul]
    · rw [if_neg (fun h' => h h'.1.symm), if_neg (by simpa using h), Nat.add_zero, Nat.add_zero]

/-- Seven devices owe a barrier a unit each; -/
theorem count_bar : ∀ c : Dev nD, (∑ d : Dev nD, (List.range' 0 21).countP fun i => (debt d i).1 = barCell c) = 7 := by decide +kernel
/-- and one device owes each receive cell a copy. -/
theorem count_d1 : ∀ (c : Dev nD) (k : Fin 8), k ≠ 0 → (∑ d : Dev nD, (List.range' 0 21).countP fun i => (debt d i).1 = dcell c 1 k) = 1 := by decide +kernel
theorem count_d3 : ∀ (c : Dev nD) (k : Fin 8), k ≠ 0 → (∑ d : Dev nD, (List.range' 0 21).countP fun i => (debt d i).1 = dcell c 3 k) = 1 := by decide +kernel

theorem launch_at (g : GSem nD τ sig) (n : ℕ) (h : (∑ d : Dev nD, (List.range' 0 21).countP fun i => (debt d i).1 = g) = n) :
    tallyOn g (launchCredit (Pipeline.owing O₀) 0 g) = (tallyAt g () (n * sAmount g.2) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => OL_count d g _

/-- The credit device `c` starts with: what the others owe its cells. -/
def credits (c : Dev nD) : sProp 𝕄 :=
  iprop(cred (tallyAt (barCell c) () 7) ∗ (bigSep (Finset.univ.erase 0) fun k : Fin 8 => cred (tallyAt (dcell c 1 k) () (amt 1)))
    ∗ (bigSep (Finset.univ.erase 0) fun k : Fin 8 => cred (tallyAt (dcell c 3 k) () (amt 3))))

theorem dloc_injective (a : Fin 4) : Function.Injective fun k : Fin 8 => (SemLoc.dma (dsem a k) : SemLoc sig) := by revert a; decide +kernel

omit [FloatOps F] in
theorem creds (c : Dev nD) : (Pipeline.launchCred O₀ c : sProp 𝕄) ⊢ credits c := by
  have hd (a : Fin 4) (h : ∀ k : Fin 8, k ≠ 0 → (∑ d : Dev nD, (List.range' 0 21).countP fun i => (debt d i).1 = dcell c a k) = 1) :
      (bigSep ((Finset.univ.erase 0).map ⟨_, dloc_injective a⟩) fun sm : SemLoc sig =>
        (cred (tallyOn ((c : Thread nD τ), sm) (launchCredit (Pipeline.owing O₀) 0 ((c : Thread nD τ), sm))) : sProp 𝕄))
      = bigSep (Finset.univ.erase 0) fun k : Fin 8 => cred (tallyAt (dcell c a k) () (amt a)) := by
    rw [bigSep_map]
    refine bigSep_congr fun k hk => ?_
    show (cred (tallyOn (dcell c a k) (launchCredit (Pipeline.owing O₀) 0 (dcell c a k))) : sProp 𝕄) = _
    rw [launch_at (dcell c a k) 1 (h k (Finset.ne_of_mem_erase hk)), Nat.one_mul]
    show (cred (tallyAt _ () (amt (arr (dsem a k)))) : sProp 𝕄) = _
    rw [arr_dsem]
  unfold Pipeline.launchCred credits
  rw [bigSep_univ_at _ (SemLoc.reg barS), launch_at (barCell c) 7 (count_bar c), ← hd 1 (count_d1 c), ← hd 3 (count_d3 c)]
  refine sep_mono_right ((bigSep_subset (t := (Finset.univ.erase 0).map ⟨_, dloc_injective 1⟩ ∪ (Finset.univ.erase 0).map ⟨_, dloc_injective 3⟩)
    (by decide +kernel)).trans (Entails.of_eq (bigSep_union (by decide +kernel))))

end Cert.KernelIdeal.Moe

end

end
-- ==== Proof.KernelIdealRun.Launch.lean ====
/-
The launch: eight devices start together, each runs the body, all semaphores end at zero.
-/
module

public import proofs.«01_k».proof.Proof.KernelIdealRun.Body
public import proofs.«01_k».proof.Proof.KernelIdealRun.Deal
public import proofs.«01_k».proof.Proof.Gen.KernelIdeal.Points
public import Idealize.ShloMosaic.Lib.Pipeline.CollectiveSegs
public import Idealize.ShloMosaic.Lib.Pipeline.Value

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: every counter at zero. -/
def s₀ : MemSt nD τ sig (Elt F) := ⟨m, fun _ => 0, ρ⟩

/-- What the five operands hold at launch. -/
def insOf : Ins F where
  x c := (win0_0.blk (0 : Fin 1)).view.read (Elt F) ((s₀ m ρ).mem ((c : Thread nD τ).loc main_arg0))
  rw c := (win0_1.blk (0 : Fin 1)).view.read (Elt F) ((s₀ m ρ).mem ((c : Thread nD τ).loc main_arg1))
  rt c := (win0_2.blk (0 : Fin 1)).view.read (Elt F) ((s₀ m ρ).mem ((c : Thread nD τ).loc main_arg2))
  ew c := (win0_3.blk (0 : Fin 1)).view.read (Elt F) ((s₀ m ρ).mem ((c : Thread nD τ).loc main_arg3))
  sw c := (win0_4.blk (0 : Fin 1)).view.read (Elt F) ((s₀ m ρ).mem ((c : Thread nD τ).loc main_arg4))

local notation "𝕀" => insOf m ρ

/-- The six scratch buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- What device `c` starts from but for its buffers. -/
def start (c : Dev nD) : sProp 𝕄 := iprop(G' 𝕀 c ∗ credits c ∗ levAts L lv)
def Φ₀ (c : Dev nD) : sProp 𝕄 := iprop(start m ρ c ∗ scr c)
/-- After the body: the scratch buffers, and every semaphore at zero. -/
def Φ₁ (c : Dev nD) : sProp 𝕄 := iprop(scr c ∗ bigSep Finset.univ fun k : Fin 33 => semVal (kcell (c, k)) 0)

/-- What the staging buffers hold after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (𝕀).x c
    | ⟨1, _⟩ => (𝕀).rw c
    | ⟨2, _⟩ => (𝕀).rt c
    | ⟨3, _⟩ => (𝕀).ew c
    | ⟨4, _⟩ => (𝕀).sw c
    | ⟨5, _⟩ => outAt 𝕀 c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () (t0_0 : Fin cfg0.N).succ
    ∗ stg c cc0_stg0_0 ((𝕀).x c) ∗ stg c cc0_stg1_0 ((𝕀).rw c) ∗ stg c cc0_stg2_0 ((𝕀).rt c)
    ∗ stg c cc0_stg3_0 ((𝕀).ew c) ∗ stg c cc0_stg4_0 ((𝕀).sw c) ∗ stg c cc0_stg5_0 (outAt 𝕀 c))

theorem recs_intro (I : Ins F) (K : Dev nD × Fin 33 → ℕ) : iprop(recs0 I K ∗ levAts L lv) ⊢ recs I K := by
  unfold recs0 recs
  iintro ⟨⟨H1, H2⟩, H3⟩
  isplitl [H1]; · iexact H1
  isplitl [H2] <;> iassumption

omit [FloatOps F] in
/-- The chunks of the gathered rows, counted from the device's own, are the buffer. -/
theorem g_back (c : Dev nD) (f : GBuf F) : iprop(gP c c f ∗ gP c (c + 1) f ∗ gP c (c + 2) f ∗ gP c (c + 3) f ∗ gP c (c + 4) f ∗ gP c (c + 5) f ∗ gP c (c + 6) f ∗ gP c (c + 7) f) ⊢ (((c : Thread nD τ).loc cc0_scratch0) ↦{fullShare} f : sProp 𝕄) := by
  rw [g_split, bigSep_univ_equiv (@Equiv.addLeft (Fin 8) _ c) (fun d => gP c d f), all8]
  show _ ⊢ iprop(gP c (c + 0) f ∗ _)
  rw [add_zero8]
  exact Entails.of_eq rfl

set_option maxHeartbeats 4000000 in
/-- The body, from what the launch leaves a device to what the launch takes back. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Kt := by
  unfold bodyPre Φ₀ start G' mine payToks credits scr
  iintro ⟨⟨⟨⟨⟨%K, #HR0, Hat, TB, T0, T1, T2, T3⟩, ⟨CB, C1, C3⟩, #Hlev⟩, ⟨%fg, G⟩, ⟨%fx, RX⟩, ⟨%fb, RB⟩, ⟨%fr, RR⟩, ⟨%fews, EWS⟩, ⟨%fsp, SP⟩⟩, Ho, ⟨%d0, %g0, %hg0, X⟩, ⟨%d1, %g1, %hg1, RW⟩, ⟨%d2, %g2, %hg2, RT⟩, ⟨%d3, %g3, %hg3, EW⟩, ⟨%d4, %g4, %hg4, SW⟩, ⟨%d5, %g5, %hg5, OUT⟩⟩, Hk⟩
  have h0 : g0 = (𝕀).x c := by rw [hg0]; unfold Dat.before; rw [if_pos (fetch0_0 t0_0)]; rfl
  subst h0
  have h1 : g1 = (𝕀).rw c := by rw [hg1]; unfold Dat.before; rw [if_pos (fetch0_1 t0_0)]; rfl
  subst h1
  have h2 : g2 = (𝕀).rt c := by rw [hg2]; unfold Dat.before; rw [if_pos (fetch0_2 t0_0)]; rfl
  subst h2
  have h3 : g3 = (𝕀).ew c := by rw [hg3]; unfold Dat.before; rw [if_pos (fetch0_3 t0_0)]; rfl
  subst h3
  have h4 : g4 = (𝕀).sw c := by rw [hg4]; unfold Dat.before; rw [if_pos (fetch0_4 t0_0)]; rfl
  subst h4
  unfold Dat.owesAt Pipeline.owesWithin
  icases Ho with ⟨%W, %hW, HO⟩
  ihave #Hr := (recs_intro 𝕀 K) $$ []
  · isplitl <;> iassumption
  ihave Hat := (Entails.of_eq (cells33 (F := F) c (fun g => atPos ER g 0 ∅ 0))) $$ Hat
  icases Hat with ⟨AB, A00, A01, A02, A03, A04, A05, A06, A07, A10, A11, A12, A13, A14, A15, A16, A17, A20, A21, A22, A23, A24, A25, A26, A27, A30, A31, A32, A33, A34, A35, A36, A37⟩
  imod (close_unused 𝕀 K c 0) $$ [A00] with Z0
  · isplitr; · iexact Hr
    iexact A00
  imod (close_unused 𝕀 K c 1) $$ [A10] with Z1
  · isplitr; · iexact Hr
    iexact A10
  imod (close_unused 𝕀 K c 2) $$ [A20] with Z2
  · isplitr; · iexact Hr
    iexact A20
  imod (close_unused 𝕀 K c 3) $$ [A30] with Z3
  · isplitr; · iexact Hr
    iexact A30
  ihave TB := (Entails.of_eq (all8 (F := F) _)) $$ TB
  icases TB with ⟨-, TB_1, TB_2, TB_3, TB_4, TB_5, TB_6, TB_7⟩
  ihave T0 := (Entails.of_eq (all8 (F := F) _)) $$ T0
  icases T0 with ⟨-, T0_1, T0_2, T0_3, T0_4, T0_5, T0_6, T0_7⟩
  ihave T1 := (Entails.of_eq (all8 (F := F) _)) $$ T1
  icases T1 with ⟨-, T1_1, T1_2, T1_3, T1_4, T1_5, T1_6, T1_7⟩
  ihave T2 := (Entails.of_eq (all8 (F := F) _)) $$ T2
  icases T2 with ⟨-, T2_1, T2_2, T2_3, T2_4, T2_5, T2_6, T2_7⟩
  ihave T3 := (Entails.of_eq (all8 (F := F) _)) $$ T3
  icases T3 with ⟨-, T3_1, T3_2, T3_3, T3_4, T3_5, T3_6, T3_7⟩
  ihave C1 := (Entails.of_eq (but0 (F := F) _)) $$ C1
  icases C1 with ⟨C1_1, C1_2, C1_3, C1_4, C1_5, C1_6, C1_7⟩
  ihave C3 := (Entails.of_eq (but0 (F := F) _)) $$ C3
  icases C3 with ⟨C3_1, C3_2, C3_3, C3_4, C3_5, C3_6, C3_7⟩
  ihave RX := (Entails.of_eq ((rxg_split c fx).trans (all8 (F := F) _))) $$ RX
  icases RX with ⟨RX0, RX1, RX2, RX3, RX4, RX5, RX6, RX7⟩
  ihave RB := (Entails.of_eq ((rb_split c fb).trans (all4 (F := F) _))) $$ RB
  icases RB with ⟨RB0, RB1, RB2, RB3⟩
  ihave RR := (Entails.of_eq ((rxr_split c fr).trans (but0 (F := F) _))) $$ RR
  icases RR with ⟨RR1, RR2, RR3, RR4, RR5, RR6, RR7⟩
  iapply (run_body 𝕀 K c fb fb fb fb fews fg g5 fsp fx) $$ [HO TB_1 RX1 RR1 TB_2 RX2 RR2 TB_3 RX3 RR3 TB_4 RX4 RR4 TB_5 RX5 RR5 TB_6 RX6 RR6 TB_7 RX7 RR7 CB AB X RW RT SP G T0_1 T1_1 T0_2 T1_2 T0_3 T1_3 T0_4 T1_4 T0_5 T1_5 T0_6 T1_6 T0_7 T1_7 RX0 EW EWS SW OUT C1_1 A11 RB0 T2_1 T3_1 C1_2 A12 RB1 T2_2 T3_2 C1_3 A13 RB2 T2_3 T3_3 C1_4 A14 RB3 T2_4 T3_4 C1_5 A15 A21 T2_5 T3_5 C1_6 A16 A22 T2_6 T3_6 C1_7 A17 A23 T2_7 T3_7 C3_1 A31 C3_2 A32 C3_3 A33 C3_4 A34 C3_5 A35 C3_6 A36 C3_7 A37 A01 A02 A03 A04 A05 A06 A07 A24 A25 A26 A27]
  · isplitr; · iexact Hr
    unfold bodyIn
    isplitl [HO]; · unfold owe; iexists W; iexact HO
    isplitl [TB_1 RX1 RR1]
    · isplitl [TB_1]; · iexact TB_1
      isplitl [RX1]; · iexists fx; iexact RX1
      iexists fr; iexact RR1
    isplitl [TB_2 RX2 RR2]
    · isplitl [TB_2]; · iexact TB_2
      isplitl [RX2]; · iexists fx; iexact RX2
      iexists fr; iexact RR2
    isplitl [TB_3 RX3 RR3]
    · isplitl [TB_3]; · iexact TB_3
      isplitl [RX3]; · iexists fx; iexact RX3
      iexists fr; iexact RR3
    isplitl [TB_4 RX4 RR4]
    · isplitl [TB_4]; · iexact TB_4
      isplitl [RX4]; · iexists fx; iexact RX4
      iexists fr; iexact RR4
    isplitl [TB_5 RX5 RR5]
    · isplitl [TB_5]; · iexact TB_5
      isplitl [RX5]; · iexists fx; iexact RX5
      iexists fr; iexact RR5
    isplitl [TB_6 RX6 RR6]
    · isplitl [TB_6]; · iexact TB_6
      isplitl [RX6]; · iexists fx; iexact RX6
      iexists fr; iexact RR6
    isplitl [TB_7 RX7 RR7]
    · isplitl [TB_7]; · iexact TB_7
      isplitl [RX7]; · iexists fx; iexact RX7
      iexists fr; iexact RR7
    isplitl [CB AB]; · isplitl [CB] <;> iassumption
    isplitl [X]; · iexact X
    isplitl [RW]; · iexact RW
    isplitl [RT]; · iexact RT
    isplitl [SP]; · iexact SP
    isplitl [G]; · iexact G
    isplitl [T0_1 T1_1]; · isplitl [T0_1] <;> iassumption
    isplitl [T0_2 T1_2]; · isplitl [T0_2] <;> iassumption
    isplitl [T0_3 T1_3]; · isplitl [T0_3] <;> iassumption
    isplitl [T0_4 T1_4]; · isplitl [T0_4] <;> iassumption
    isplitl [T0_5 T1_5]; · isplitl [T0_5] <;> iassumption
    isplitl [T0_6 T1_6]; · isplitl [T0_6] <;> iassumption
    isplitl [T0_7 T1_7]; · isplitl [T0_7] <;> iassumption
    isplitl [RX0]; · iexact RX0
    isplitl [EW]; · iexact EW
    isplitl [EWS]; · iexact EWS
    isplitl [SW]; · iexact SW
    isplitl [OUT]; · iexact OUT
    isplitl [C1_1 A11]; · isplitl [C1_1] <;> iassumption
    isplitl [RB0]; · iexact RB0
    isplitl [T2_1 T3_1]; · isplitl [T2_1] <;> iassumption
    isplitl [C1_2 A12]; · isplitl [C1_2] <;> iassumption
    isplitl [RB1]; · iexact RB1
    isplitl [T2_2 T3_2]; · isplitl [T2_2] <;> iassumption
    isplitl [C1_3 A13]; · isplitl [C1_3] <;> iassumption
    isplitl [RB2]; · iexact RB2
    isplitl [T2_3 T3_3]; · isplitl [T2_3] <;> iassumption
    isplitl [C1_4 A14]; · isplitl [C1_4] <;> iassumption
    isplitl [RB3]; · iexact RB3
    isplitl [T2_4 T3_4]; · isplitl [T2_4] <;> iassumption
    isplitl [C1_5 A15]; · isplitl [C1_5] <;> iassumption
    isplitl [A21]; · iexact A21
    isplitl [T2_5 T3_5]; · isplitl [T2_5] <;> iassumption
    isplitl [C1_6 A16]; · isplitl [C1_6] <;> iassumption
    isplitl [A22]; · iexact A22
    isplitl [T2_6 T3_6]; · isplitl [T2_6] <;> iassumption
    isplitl [C1_7 A17]; · isplitl [C1_7] <;> iassumption
    isplitl [A23]; · iexact A23
    isplitl [T2_7 T3_7]; · isplitl [T2_7] <;> iassumption
    isplitl [C3_1 A31]; · isplitl [C3_1] <;> iassumption
    isplitl [C3_2 A32]; · isplitl [C3_2] <;> iassumption
    isplitl [C3_3 A33]; · isplitl [C3_3] <;> iassumption
    isplitl [C3_4 A34]; · isplitl [C3_4] <;> iassumption
    isplitl [C3_5 A35]; · isplitl [C3_5] <;> iassumption
    isplitl [C3_6 A36]; · isplitl [C3_6] <;> iassumption
    isplitl [C3_7 A37]; · isplitl [C3_7] <;> iassumption
    isplitl [A01]; · iexact A01
    isplitl [A02]; · iexact A02
    isplitl [A03]; · iexact A03
    isplitl [A04]; · iexact A04
    isplitl [A05]; · iexact A05
    isplitl [A06]; · iexact A06
    isplitl [A07]; · iexact A07
    isplitl [A24]; · iexact A24
    isplitl [A25]; · iexact A25
    isplitl [A26]; · iexact A26
    iexact A27
  unfold bodyOut
  iintro ⟨O, X, RW, RT, EW, SW, OUT, SP, EWS, G0, G1, G2, G3, G4, G5, G6, G7, RX0, RX1, RX2, RX3, RX4, RX5, RX6, RX7, RB0, RB1, RB2, RB3, RR1, RR2, RR3, RR4, RR5, RR6, RR7, ZG1, ZG2, ZG3, ZG4, ZG5, ZG6, ZG7, ZX1, ZX2, ZX3, ZX4, ZX5, ZX6, ZX7, ZS1, ZS2, ZS3, ZS4, ZS5, ZS6, ZS7, ZR1, ZR2, ZR3, ZR4, ZR5, ZR6, ZR7, ZB⟩
  iapply Hk
  unfold bodyPost Φ₁ scr Dat.owesAt Pipeline.owesWithin
  rw [show (dats m ρ 0 c).owed (t0_0 : Fin cfg0.N).succ = 0 from rfl]
  isplitl [G0 G1 G2 G3 G4 G5 G6 G7 RX0 RX1 RX2 RX3 RX4 RX5 RX6 RX7 RB0 RB1 RB2 RB3 RR1 RR2 RR3 RR4 RR5 RR6 RR7 EWS SP ZB Z0 ZG1 ZG2 ZG3 ZG4 ZG5 ZG6 ZG7 Z1 ZX1 ZX2 ZX3 ZX4 ZX5 ZX6 ZX7 Z2 ZS1 ZS2 ZS3 ZS4 ZS5 ZS6 ZS7 Z3 ZR1 ZR2 ZR3 ZR4 ZR5 ZR6 ZR7]
  · isplitl [G0 G1 G2 G3 G4 G5 G6 G7 RX0 RX1 RX2 RX3 RX4 RX5 RX6 RX7 RB0 RB1 RB2 RB3 RR1 RR2 RR3 RR4 RR5 RR6 RR7 EWS SP]
    · isplitl [G0 G1 G2 G3 G4 G5 G6 G7]
      · iexists (gAt 𝕀 c)
        iapply (g_back c (gAt 𝕀 c))
        isplitl [G0]; · iexact G0
        isplitl [G1]; · iexact G1
        isplitl [G2]; · iexact G2
        isplitl [G3]; · iexact G3
        isplitl [G4]; · iexact G4
        isplitl [G5]; · iexact G5
        isplitl [G6]; · iexact G6
        iexact G7
      isplitl [RX0 RX1 RX2 RX3 RX4 RX5 RX6 RX7]
      · iexists (rxgAt 𝕀 c)
        iapply (Entails.of_eq ((rxg_split c (rxgAt 𝕀 c)).trans (all8 (F := F) _)).symm)
        isplitl [RX0]; · iexact RX0
        isplitl [RX1]; · iexact RX1
        isplitl [RX2]; · iexact RX2
        isplitl [RX3]; · iexact RX3
        isplitl [RX4]; · iexact RX4
        isplitl [RX5]; · iexact RX5
        isplitl [RX6]; · iexact RX6
        iexact RX7
      isplitl [RB0 RB1 RB2 RB3]
      · iapply ((Entails.of_eq (all4 (F := F) _).symm).trans (rb_join (F := F) c))
        isplitl [RB0]; · iexists _; iexact RB0
        isplitl [RB1]; · iexists _; iexact RB1
        isplitl [RB2]; · iexists _; iexact RB2
        iexists _; iexact RB3
      isplitl [RR1 RR2 RR3 RR4 RR5 RR6 RR7]
      · iexists (rxrAt 𝕀 c)
        iapply (Entails.of_eq ((rxr_split c (rxrAt 𝕀 c)).trans (but0 (F := F) _)).symm)
        isplitl [RR1]; · iexact RR1
        isplitl [RR2]; · iexact RR2
        isplitl [RR3]; · iexact RR3
        isplitl [RR4]; · iexact RR4
        isplitl [RR5]; · iexact RR5
        isplitl [RR6]; · iexact RR6
        iexact RR7
      isplitl [EWS]; · iexists _; iexact EWS
      iexists _; iexact SP
    iapply (Entails.of_eq (cells33 (F := F) c (fun g => semVal g 0)).symm)
    isplitl [ZB]; · iexact ZB
    isplitl [Z0]; · iexact Z0
    isplitl [ZG1]; · iexact ZG1
    isplitl [ZG2]; · iexact ZG2
    isplitl [ZG3]; · iexact ZG3
    isplitl [ZG4]; · iexact ZG4
    isplitl [ZG5]; · iexact ZG5
    isplitl [ZG6]; · iexact ZG6
    isplitl [ZG7]; · iexact ZG7
    isplitl [Z1]; · iexact Z1
    isplitl [ZX1]; · iexact ZX1
    isplitl [ZX2]; · iexact ZX2
    isplitl [ZX3]; · iexact ZX3
    isplitl [ZX4]; · iexact ZX4
    isplitl [ZX5]; · iexact ZX5
    isplitl [ZX6]; · iexact ZX6
    isplitl [ZX7]; · iexact ZX7
    isplitl [Z2]; · iexact Z2
    isplitl [ZS1]; · iexact ZS1
    isplitl [ZS2]; · iexact ZS2
    isplitl [ZS3]; · iexact ZS3
    isplitl [ZS4]; · iexact ZS4
    isplitl [ZS5]; · iexact ZS5
    isplitl [ZS6]; · iexact ZS6
    isplitl [ZS7]; · iexact ZS7
    isplitl [Z3]; · iexact Z3
    isplitl [ZR1]; · iexact ZR1
    isplitl [ZR2]; · iexact ZR2
    isplitl [ZR3]; · iexact ZR3
    isplitl [ZR4]; · iexact ZR4
    isplitl [ZR5]; · iexact ZR5
    isplitl [ZR6]; · iexact ZR6
    iexact ZR7
  isplitl [O]
  · unfold owe
    icases O with ⟨%W', O⟩
    iexists W'
    isplitr; · ipureintro; exact fun _ _ => Or.inl trivial
    iexact O
  isplitl [X]
  · iexists _; isplitr; · (ipureintro; rfl)
    iexact X
  isplitl [RW]
  · iexists _; isplitr; · (ipureintro; rfl)
    iexact RW
  isplitl [RT]
  · iexists _; isplitr; · (ipureintro; rfl)
    iexact RT
  isplitl [EW]
  · iexists _; isplitr; · (ipureintro; rfl)
    iexact EW
  isplitl [SW]
  · iexists _; isplitr; · (ipureintro; rfl)
    iexact SW
  iexists _; isplitr; · (ipureintro; rfl)
  iexact OUT

set_option maxRecDepth 40000 in
/-- The library's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) (fun _ => bodyPost m ρ c)
  iintro H
  iapply (sound_body m ρ c fun _ => bodyPost m ρ c)
  isplitl [H]; · iexact H
  iintro H; iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' 𝕀 c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨Hr, HB, HS⟩
  isplitl [HB]; · iexact HB
  isplitl [HS]; · iexact HS
  iexact Hr

theorem stage_level : ∀ (w : Fin cfg0.W) (s : Fin (cfg0.win w).nbuf), slv (.dma ((cfg0.win w).sem s)) = 0 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c (.dma ((cfg0.win w).sem s)) (dl c 0) (by rw [stage_level]; exact above_dl c 0 0 (Or.inl rfl))
    · exact mayWait c (.dma ((cfg0.win w).sem s)) [] (fun p hp => absurd hp List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, the eight devices' programs terminate, leave the arrays as said, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G 𝕀) (G' := G' 𝕀) (u₀ := u₀)
    (hu₀ := by
      unfold u₀
      iintro Hu
      ihave H := (ownU_pair _ _) $$ Hu
      icases H with ⟨HP, HX⟩
      imod (fund_all 𝕀) $$ HX with HG
      imodintro
      isplitl [HP] <;> iassumption)
    (hglob := glob 𝕀)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array ends as it was. -/
theorem finalA_in (c : Dev nD) (w : Fin cfg0.W) (h : w.val < 5) : finalA m ρ c w = m ((cfg0.win w).arr.view.loc (c : Thread nD τ)) :=
  (dats (F := F) m ρ 0 c).arrAt_in w (by revert w; decide) _
/-- The result's array ends as the body left it. -/
theorem finalA_out (c : Dev nD) : finalA m ρ c (5 : Fin 6) = outAt 𝕀 c := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  have h : (win0_5.blk (0 : Fin 1)).view.read (Elt F) (finalA m ρ c (5 : Fin 6)) = outAt 𝕀 c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (hr _).symm.trans h

/-- Operand 0 is what its array holds. -/
theorem ins_x (c : Dev nD) : (𝕀).x c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Operand 1 is what its array holds. -/
theorem ins_rw (c : Dev nD) : (𝕀).rw c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- Operand 2 is what its array holds. -/
theorem ins_rt (c : Dev nD) : (𝕀).rt c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

/-- Operand 3 is what its array holds. -/
theorem ins_ew (c : Dev nD) : (𝕀).ew c = m ((c : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _

/-- Operand 4 is what its array holds. -/
theorem ins_sw (c : Dev nD) : (𝕀).sw c = m ((c : Thread nD τ).loc main_arg4) := by
  have hz : (fun a => (win0_4.index (0 : Fin 1)) a * main_arg4.ty.shape.size a) = fun _ => 0 :=
    funext fun a => by fin_cases a <;> decide
  exact Memref.read_access_unit_zero (Elt F) main_arg4 hz (fun a => by fin_cases a <;> decide) _

end Cert.KernelIdeal.Moe

end

end
-- ==== Proof.Value.Pre.lean ====
/-
What the precondition `routes_fit` says of one device's route indices: every token's index is one of the 32 experts,
and no expert is chosen by more than 64 of the device's 1024 tokens.
-/
module

public import proofs.«01_k».proof.Proof.Gen.Pre_routes_fit_KernelIdeal
public import Idealize.ShloMosaic.Lib.Pointwise
public import Idealize.ShloMosaic.Lib.ReduceAll
public import Idealize.ShloMosaic.Lib.IndicatorCount

@[expose] public section

set_option maxRecDepth 16384

noncomputable section

namespace Cert.MoeValue

open Idealize.ShloMosaic

/-- The route indices `rt` of one device are those of the expert numbers `e`, and each expert has at most 64 tokens. -/
structure Fits (rt : IVec ⟨2, ![1024, 1]⟩ 32) (e : Fin 1024 → Fin 32) : Prop where
  route : ∀ t, rt (ix2 t 0) = BitVec.ofNat 32 (e t).val
  count : ∀ k : Fin 32, (Finset.univ.filter fun t => e t = k).card ≤ 64

/-- A conjunction of two bits is one exactly when both are. -/
theorem andi_one {a b : BitVec 1} : IntOp.andi a b = 1#1 ↔ a = 1#1 ∧ b = 1#1 := by
  revert a b; decide

/-- A word that is at least 0 and below 32, read signed, is the word of a number below 32. -/
theorem word_range {w : BitVec 32} (h0 : IntOp.cmpi .sge w 0#32 = 1#1) (h1 : IntOp.cmpi .slt w 32#32 = 1#1) :
    ∃ k : Fin 32, w = BitVec.ofNat 32 k.val := by
  have a0 : (0 : Int) ≤ w.toInt := by
    have : BitVec.ofBool ((0#32).sle w) = 1#1 := h0
    rw [BitVec.sle_eq_decide] at this
    by_contra hc
    rw [decide_eq_false (by simpa using hc)] at this
    exact absurd this (by decide)
  have a1 : w.toInt < 32 := by
    have : BitVec.ofBool (w.slt 32#32) = 1#1 := h1
    rw [BitVec.slt_eq_decide] at this
    by_contra hc
    rw [decide_eq_false (show ¬ w.toInt < (32#32).toInt from hc)] at this
    exact absurd this (by decide)
  refine ⟨⟨w.toInt.toNat, by omega⟩, ?_⟩
  apply BitVec.eq_of_toInt_eq
  rw [BitVec.toInt_ofNat']
  show _ = ((w.toInt.toNat : ℕ) : Int).bmod _
  rw [Int.bmod_def]; split <;> omega

/-- A small number's word, read signed, is the number. -/
theorem word_toInt {n : ℕ} (h : n < 65536) : (BitVec.ofNat 32 n).toInt = n := by
  rw [BitVec.toInt_ofNat', Int.bmod_def]; split <;> omega

/-- The equality test of two words is one exactly when they are equal. -/
theorem cmpi_eq_one {w : ℕ} {a b : BitVec w} : IntOp.cmpi .eq a b = 1#1 ↔ a = b := by
  show BitVec.ofBool (a == b) = 1#1 ↔ a = b
  by_cases h : a = b
  · simp [h]
  · have : (a == b) = false := by simpa using h
    rw [this]; exact ⟨fun h' => absurd h' (by decide), fun h' => absurd h' h⟩

/-- The words of two expert numbers are equal only if the numbers are. -/
theorem word_inj {a b : Fin 32} (h : BitVec.ofNat 32 a.val = BitVec.ofNat 32 b.val) : a = b := by
  have := congrArg BitVec.toNat h
  simp only [BitVec.toNat_ofNat] at this
  exact Fin.ext (by omega)

/-- The precondition gives the expert numbers. -/
theorem fits_of_pre [Cert.Pre_routes_fit_KernelIdeal.Facts] (a0 : FVec Ideal ⟨2, ![1024, 512]⟩ .bf16) (a1 : FVec Ideal ⟨2, ![512, 32]⟩ .bf16)
    (rt : IVec ⟨2, ![1024, 1]⟩ 32) (a3 : FVec Ideal ⟨3, ![4, 512, 1024]⟩ .bf16) (a4 : FVec Ideal ⟨2, ![512, 1024]⟩ .bf16)
    (h : Cert.Pre_routes_fit_KernelIdeal.fn (F := Ideal) a0 a1 rt a3 a4 = fun _ => 1#1) : ∃ e, Fits rt e := by
  have h0 := congrFun h (fun a => a.elim0)
  unfold Cert.Pre_routes_fit_KernelIdeal.fn at h0
  dsimp only at h0
  obtain ⟨hr, hc⟩ := andi_one.mp h0
  have hr' := fun i => Host.reduce_andi_all _ _ _ _ _ hr i
  have hc' := fun i => Host.reduce_andi_all _ _ _ _ _ hc i
  have hr2 : ∀ t : Fin 1024, ∃ k : Fin 32, rt (ix2 t 0) = BitVec.ofNat 32 k.val := fun t => by
    have := hr' (ix2 t 0)
    pointwise at this
    obtain ⟨p, q⟩ := andi_one.mp this
    exact word_range p q
  choose e he using hr2
  refine ⟨e, he, fun k => ?_⟩
  have := hc' (ix1 k)
  pointwise at this
  rw [IndicatorCount.fold_addi_setWidth_eq_card] at this
  have hs : (Finset.univ.filter fun t : Fin 1024 => IntOp.cmpi .eq (rt (ix2 t 0)) (BitVec.ofNat 32 k.val) = 1#1)
      = Finset.univ.filter fun t => e t = k := by
    refine Finset.filter_congr fun t _ => ?_
    rw [he t, cmpi_eq_one]
    exact ⟨word_inj, fun h => by rw [h]⟩
  rw [hs] at this
  have hle : (Finset.univ.filter fun t => e t = k).card ≤ 1024 := (Finset.card_le_univ _).trans (by simp)
  generalize (Finset.univ.filter fun t => e t = k).card = n at this hle ⊢
  have h2 : BitVec.ofBool ((BitVec.ofNat 32 n).sle 64#32) = 1#1 := this
  rw [BitVec.sle_eq_decide] at h2
  by_contra hc
  rw [decide_eq_false ?_] at h2
  · exact absurd h2 (by decide)
  · rw [word_toInt (by omega)]
    show ¬ (n : Int) ≤ 64
    omega

end Cert.MoeValue
-- ==== Proof.Value.Route.lean ====
/-
Where one device's tokens go, read off the kernel's own integer and indicator arithmetic.

Token `t` has expert `e t`. It is the `cnt e t`-th of its expert's tokens, so its place in the gathered rows is
`slotN e t = 64 (e t) + (cnt e t - 1)`. With at most 64 tokens to an expert these places are different for different
tokens, and the selection matrix has a one exactly at `(t, slotN e t)`.
-/
module

public import proofs.«01_k».proof.Proof.Gen.KernelIdeal.Skeleton
public import proofs.«01_k».proof.Proof.Value.Pre

@[expose] public section

set_option maxRecDepth 16384

noncomputable section

namespace Cert.MoeValue

open Cert.KernelIdeal Cert.KernelIdeal.Gen Idealize.ShloMosaic

variable {rt : IVec ⟨2, ![1024, 1]⟩ 32} {e : Fin 1024 → Fin 32}

/-- How many tokens up to and including `t` go to `t`'s expert. -/
def cnt (e : Fin 1024 → Fin 32) (t : Fin 1024) : ℕ := (Finset.univ.filter fun t' => t' ≤ t ∧ e t' = e t).card

/-- The place of token `t` among the gathered rows. -/
def slotN (e : Fin 1024 → Fin 32) (t : Fin 1024) : ℕ := (e t).val * 64 + (cnt e t - 1)

/-- A token counts itself. -/
theorem cnt_pos (e : Fin 1024 → Fin 32) (t : Fin 1024) : 0 < cnt e t :=
  Finset.card_pos.mpr ⟨t, by simp⟩

/-- With the precondition, at most 64 are counted. -/
theorem cnt_le (hf : Fits rt e) (t : Fin 1024) : cnt e t ≤ 64 :=
  (Finset.card_le_card fun t' h => by
    simp only [Finset.mem_filter, Finset.mem_univ, true_and] at h ⊢
    exact h.2).trans (hf.count (e t))

/-- A later token of the same expert counts more. -/
theorem cnt_lt (e : Fin 1024 → Fin 32) {t t' : Fin 1024} (h : t < t') (he : e t = e t') : cnt e t < cnt e t' := by
  refine Finset.card_lt_card ⟨fun a ha => ?_, fun hs => ?_⟩
  · simp only [Finset.mem_filter, Finset.mem_univ, true_and] at ha ⊢
    exact ⟨ha.1.trans h.le, ha.2.trans he⟩
  · have := hs (show t' ∈ _ by simp)
    simp only [Finset.mem_filter, Finset.mem_univ, true_and] at this
    exact absurd this.1 (not_le.mpr h)

theorem slotN_lt (hf : Fits rt e) (t : Fin 1024) : slotN e t < 2048 := by
  have := cnt_le hf t
  have := (e t).isLt
  unfold slotN; omega

/-- Different tokens have different places. -/
theorem slotN_inj (hf : Fits rt e) {t t' : Fin 1024} (h : slotN e t = slotN e t') : t = t' := by
  have h1 := cnt_le hf t
  have h2 := cnt_le hf t'
  have p1 := cnt_pos e t
  have p2 := cnt_pos e t'
  unfold slotN at h
  have he : e t = e t' := Fin.ext (by omega)
  have hc : cnt e t = cnt e t' := by rw [he] at h; omega
  rcases lt_trichotomy t t' with hl | hl | hl
  · have := cnt_lt e hl he; omega
  · exact hl
  · have := cnt_lt e hl he.symm; omega

/-- A bit, widened and read as a number. -/
theorem bit_val (φ : FTy) (b : BitVec 1) :
    FloatOps.sitofp (F := Ideal) φ (BitVec.setWidth 32 b) = if b = 1#1 then (1 : EReal) else 0 := by
  show (((BitVec.setWidth 32 b).toInt : ℝ) : EReal) = _
  have hb : b = 0#1 ∨ b = 1#1 := by revert b; decide
  rcases hb with rfl | rfl
  · rw [if_neg (by decide)]
    show (((0 : ℤ) : ℝ) : EReal) = 0
    simp
  · rw [if_pos rfl]
    show (((1 : ℤ) : ℝ) : EReal) = 1
    simp

/-- The one-hot matrix of the route indices. -/
theorem onehot_apply (hf : Fits rt e) (t : Fin 1024) (k : Fin 32) :
    k0_pay2 (F := Ideal) rt (ix2 t k) = if k = e t then (1 : EReal) else 0 := by
  pointwise [k0_pay2, k0_pay1]
  rw [bit_val, hf.route t]
  refine if_congr ?_ rfl rfl
  rw [cmpi_eq_one]
  exact ⟨word_inj, fun h => by rw [h]⟩

/-- The order test of two tokens' numbers. -/
theorem cmpi_sge_one (t t' : Fin 1024) :
    IntOp.cmpi .sge (BitVec.ofNat 32 t.val) (BitVec.ofNat 32 t'.val) = 1#1 ↔ t' ≤ t := by
  show BitVec.ofBool ((BitVec.ofNat 32 t'.val).sle (BitVec.ofNat 32 t.val)) = 1#1 ↔ _
  rw [BitVec.sle_eq_decide, word_toInt (by omega), word_toInt (by omega)]
  by_cases h : t' ≤ t
  · rw [decide_eq_true (show ((t'.val : ℕ) : Int) ≤ t.val by exact_mod_cast h)]
    exact ⟨fun _ => h, fun _ => rfl⟩
  · rw [decide_eq_false (show ¬ ((t'.val : ℕ) : Int) ≤ t.val by exact_mod_cast h)]
    exact ⟨fun h' => absurd h' (by decide), fun h' => absurd h' h⟩

/-- A count as an extended real, rounded to an integer, is the count's word. -/
theorem fptosi_nat {n : ℕ} (h : n < 65536) : FloatOps.fptosi (F := Ideal) (φ := .f32) 32 ((n : EReal)) = BitVec.ofNat 32 n := by
  show Ideal.fptosi 32 (n : EReal) = _
  unfold Ideal.fptosi
  rw [show ((n : ℕ) : EReal) = (((n : ℕ) : ℝ) : EReal) from (EReal.coe_natCast).symm, Ideal.toIntClamped_coe,
    if_pos (Nat.cast_nonneg n), Int.floor_natCast]
  rw [show max (-((2 ^ (32 - 1) : ℕ) : Int)) (min (((2 ^ (32 - 1) : ℕ) : Int) - 1) (n : Int)) = (n : Int) by
    simp only [Nat.reduceSub, Nat.reducePow]; omega]
  exact BitVec.ofInt_natCast 32 n

/-- The rank of a token among its expert's tokens, counted from zero. -/
theorem rank_apply (hf : Fits rt e) (t : Fin 1024) :
    k0_pay4 (F := Ideal) rt (ix2 t 0) = BitVec.ofNat 32 (cnt e t - 1) := by
  pointwise [k0_pay4]
  have inner : ∀ k : Fin 32, (∑ t' : Fin 1024, FloatOps.sitofp (F := Ideal) FTy.f32
        (BitVec.setWidth 32 (IntOp.cmpi .sge (BitVec.ofNat 32 t.val) (BitVec.ofNat 32 t'.val))) * k0_pay2 (F := Ideal) rt (ix2 t' k))
      = (((Finset.univ.filter fun t' => t' ≤ t ∧ e t' = k).card : ℕ) : EReal) := fun k => by
    rw [Finset.card_filter, Nat.cast_sum]
    refine Finset.sum_congr rfl fun t' _ => ?_
    rw [bit_val, onehot_apply hf t' k]
    simp only [cmpi_sge_one]
    by_cases h1 : t' ≤ t <;> by_cases h2 : k = e t' <;> simp [h1, h2, eq_comm]
  have outer : (∑ k : Fin 32, k0_pay2 (F := Ideal) rt (ix2 t k) * ∑ t' : Fin 1024, FloatOps.sitofp (F := Ideal) FTy.f32
        (BitVec.setWidth 32 (IntOp.cmpi .sge (BitVec.ofNat 32 t.val) (BitVec.ofNat 32 t'.val))) * k0_pay2 (F := Ideal) rt (ix2 t' k))
      = ((cnt e t : ℕ) : EReal) := by
    rw [Finset.sum_eq_single (e t)]
    · rw [inner, onehot_apply hf, if_pos rfl, one_mul]; rfl
    · intro k _ hk
      rw [onehot_apply hf, if_neg hk, zero_mul]
    · exact fun h => absurd (Finset.mem_univ _) h
  rw [outer]
  have hc := cnt_le hf t
  have hp := cnt_pos e t
  rw [fptosi_nat (by omega)]
  show BitVec.ofNat 32 (cnt e t) - 1#32 = _
  apply BitVec.eq_of_toNat_eq
  simp only [BitVec.toNat_sub, BitVec.toNat_ofNat]
  omega

/-- The column test: the token's place. -/
theorem col_apply (hf : Fits rt e) (t : Fin 1024) (s : Fin 2048) :
    k0_pay5 (F := Ideal) rt (ix2 t s) = 1#1 ↔ s.val = slotN e t := by
  pointwise [k0_pay5, k0_pay1]
  rw [rank_apply hf t, hf.route t, cmpi_eq_one]
  have hc := cnt_le hf t
  have he := (e t).isLt
  have : IntOp.addi (IntOp.muli (BitVec.ofNat 32 (e t).val) 64#32) (BitVec.ofNat 32 (cnt e t - 1)) = BitVec.ofNat 32 (slotN e t) := by
    show BitVec.ofNat 32 (e t).val * 64#32 + BitVec.ofNat 32 (cnt e t - 1) = _
    apply BitVec.eq_of_toNat_eq
    unfold slotN
    simp only [BitVec.toNat_add, BitVec.toNat_mul, BitVec.toNat_ofNat]
    omega
  rw [this]
  have hs := slotN_lt hf t
  have hs' := s.isLt
  constructor
  · intro h
    have := congrArg BitVec.toNat h
    simp only [BitVec.toNat_ofNat] at this
    omega
  · intro h; rw [h]

/-- Every token keeps its place: none is beyond its expert's 64. -/
theorem keep_apply (hf : Fits rt e) (t : Fin 1024) (s : Fin 2048) : k0_pay6 (F := Ideal) rt (ix2 t s) = 1#1 := by
  pointwise [k0_pay6]
  rw [rank_apply hf t]
  have hc := cnt_le hf t
  have hp := cnt_pos e t
  show BitVec.ofBool ((BitVec.ofNat 32 (cnt e t - 1)).slt 64#32) = 1#1
  rw [BitVec.slt_eq_decide, word_toInt (by omega), decide_eq_true]
  · rfl
  · show ((cnt e t - 1 : ℕ) : Int) < 64
    omega

/-- The selection matrix. -/
theorem sel_apply (hf : Fits rt e) (t : Fin 1024) (s : Fin 2048) :
    FloatOps.sitofp (F := Ideal) FTy.f32 (BitVec.setWidth 32
        (IntOp.andi (k0_pay5 (F := Ideal) rt (ix2 t s)) (k0_pay6 (F := Ideal) rt (ix2 t s))))
      = if s.val = slotN e t then (1 : EReal) else 0 := by
  rw [bit_val]
  refine if_congr ?_ rfl rfl
  rw [andi_one, col_apply hf]
  exact ⟨fun h => h.1, fun h => ⟨h, keep_apply hf t s⟩⟩

/-- The combine matrix: the token's weight at the token's place. -/
theorem sp_apply (hf : Fits rt e) (p : FVec Ideal S1024x1 .f32) (t : Fin 1024) (s : Fin 2048) :
    k0_pay8 p (k0_pay5 (F := Ideal) rt) (k0_pay6 (F := Ideal) rt) (ix2 t s)
      = if s.val = slotN e t then p (ix2 t 0) else (0 : EReal) := by
  pointwise [k0_pay8, k0_pay7]
  rw [sel_apply hf]
  split
  · exact one_mul _
  · exact zero_mul _

/-- The gathered rows: at a token's place, the token's row. -/
theorem g_apply (hf : Fits rt e) (x : FVec Ideal S1024x512 .bf16) (t : Fin 1024) (s : Fin 2048) (hs : s.val = slotN e t) (d : Fin 512) :
    k0_pay9 (k0_pay5 (F := Ideal) rt) (k0_pay6 (F := Ideal) rt) x (ix2 s d) = x (ix2 t d) := by
  pointwise [k0_pay9, k0_pay7]
  rw [Finset.sum_eq_single t]
  · rw [sel_apply hf, if_pos hs]
    exact one_mul _
  · intro t' _ ht
    rw [sel_apply hf, if_neg fun h => ht (slotN_inj hf (h.symm.trans hs))]
    exact zero_mul _
  · exact fun h => absurd (Finset.mem_univ _) h

/-- One score: the token's row against one column of the router. -/
def score (x : FVec Ideal S1024x512 .bf16) (rw' : FVec Ideal S512x32 .bf16) (t : Fin 1024) (k : Fin 32) : EReal :=
  ∑ d : Fin 512, x (ix2 t d) * rw' (ix2 d k)

/-- One probability, of the scores of a token. -/
def soft (s : Fin 32 → EReal) (k : Fin 32) : EReal :=
  Ideal.div (Ideal.exp (s k - Finset.fold max (Ideal.ofBits FTy.f32 0xFF800000#32) s Finset.univ))
    (∑ j : Fin 32, Ideal.exp (s j - Finset.fold max (Ideal.ofBits FTy.f32 0xFF800000#32) s Finset.univ))

/-- The weight of a token is the probability of its expert. -/
theorem p_apply (hf : Fits rt e) (x : FVec Ideal S1024x512 .bf16) (rw' : FVec Ideal S512x32 .bf16) (t : Fin 1024) :
    k0_pay3 (F := Ideal) x rw' rt (ix2 t 0) = soft (score x rw' t) (e t) := by
  pointwise [k0_pay3]
  rw [Finset.sum_eq_single (e t)]
  · rw [onehot_apply hf, if_pos rfl]
    exact one_mul _
  · intro k _ hk
    rw [onehot_apply hf, if_neg hk]
    exact zero_mul _
  · exact fun h => absurd (Finset.mem_univ _) h

end Cert.MoeValue
-- ==== Proof.Value.Out.lean ====
/-
The kernel's result on one device, read at a token and a column, from the tables of the proof of the run.
-/
module

public import proofs.«01_k».proof.Proof.KernelIdealRun.Base
public import proofs.«01_k».proof.Proof.Value.Route

@[expose] public section

set_option maxRecDepth 16384

noncomputable section

namespace Cert.MoeValue

open Cert.KernelIdeal Cert.KernelIdeal.Gen Cert.KernelIdeal.Moe Idealize.ShloMosaic

/-- Reads of the scratch buffers at an index. -/
theorem rdRxg_apply (k : Fin 8) (f : RxgBuf Ideal) (r : Fin 256) (d : Fin 512) :
    rdRxg k f (ix3 0 r d) = f (ix3 k r d) := by
  show f _ = f _
  refine congrArg f (funext fun a => Fin.ext ?_)
  match a with
  | 0 => show k.val + 1 * 0 = k.val; omega
  | 1 => show 0 + 1 * r.val = r.val; omega
  | 2 => show 0 + 1 * d.val = d.val; omega

theorem rdEw_apply (k : Fin 4) (f : Vec Ideal S4x512x1024 .bf16) (r : Fin 512) (d : Fin 1024) :
    rdEw k f (ix3 0 r d) = f (ix3 k r d) := by
  show f _ = f _
  refine congrArg f (funext fun a => Fin.ext ?_)
  match a with
  | 0 => show k.val + 1 * 0 = k.val; omega
  | 1 => show 0 + 1 * r.val = r.val; omega
  | 2 => show 0 + 1 * d.val = d.val; omega

theorem rdRxr_apply (k : Fin 8) (f : RxrBuf Ideal) (r : Fin 256) (h : Fin 1024) :
    rdRxr k f (ix3 0 r h) = f (ix3 ⟨k.val - 1, by omega⟩ r h) := by
  show f _ = f _
  refine congrArg f (funext fun a => Fin.ext ?_)
  match a with
  | 0 => show k.val - 1 + 1 * 0 = k.val - 1; omega
  | 1 => show 0 + 1 * r.val = r.val; omega
  | 2 => show 0 + 1 * h.val = h.val; omega

theorem rdSp_apply (k : Fin 8) (f : Vec Ideal S1024x2048 .bf16) (t : Fin 1024) (r : Fin 256) :
    rdSp k f (ix2 t r) = f (ix2 t ⟨k.val * 256 + r.val, by omega⟩) := by
  show f _ = f _
  refine congrArg f (funext fun a => Fin.ext ?_)
  match a with
  | 0 => show 0 + 1 * t.val = t.val; omega
  | 1 => show k.val * 256 + 1 * r.val = k.val * 256 + r.val; omega

variable (I : Ins Ideal)

/-- What device `j`'s experts make of row `r` of the chunk that device `c` gathered for it. -/
def yv (c j : Fin 8) (r : Fin 256) (h : Fin 1024) : EReal :=
  ∑ d : Fin 512, gAt I c (ix2 ⟨j.val * 256 + r.val, by omega⟩ d) * I.ew j (ix3 ⟨r.val / 64, by omega⟩ d h)

theorem ewAt_apply (c : Fin 8) (k : Fin 4) (d : Fin 512) (h : Fin 1024) : ewAt I c (ix3 k d h) = I.ew c (ix3 k d h) := by
  unfold ewAt
  pointwise [k0_pay11]

theorem rxgAt_apply (c k : Fin 8) (r : Fin 256) (d : Fin 512) :
    rxgAt I c (ix3 k r d) = gAt I (c + k) (ix2 ⟨c.val * 256 + r.val, by omega⟩ d) := by
  show gAt I (c + rxgDev (ix3 k r d)) (gix c r d) = _
  refine congr (congrArg (gAt I) rfl) (funext fun a => ?_)
  match a with
  | 0 => rfl
  | 1 => rfl

/-- The four experts' rows, one under another. -/
theorem four (g : FVec Ideal S1x256x512 .bf16) (a b c d : FVec Ideal S1x512x1024 .bf16) (r : Fin 256) (h : Fin 1024)
    (W : Fin 4 → Fin 512 → EReal) (ha : ∀ x, a (ix3 0 x h) = W 0 x) (hb : ∀ x, b (ix3 0 x h) = W 1 x)
    (hc : ∀ x, c (ix3 0 x h) = W 2 x) (hd : ∀ x, d (ix3 0 x h) = W 3 x) :
    k0_pay30 (F := Ideal) g a b c d (ix3 0 r h) = ∑ x : Fin 512, g (ix3 0 r x) * W ⟨r.val / 64, by omega⟩ x := by
  have hr := r.isLt
  pointwise [k0_pay30]
  split
  · have e : (⟨r.val / 64, by omega⟩ : Fin 4) = 0 := Fin.ext (show r.val / 64 = 0 by omega)
    rw [e]; exact Finset.sum_congr rfl fun x _ => by rw [ha]
  split
  · have e : (⟨r.val / 64, by omega⟩ : Fin 4) = 1 := Fin.ext (show r.val / 64 = 1 by omega)
    rw [e]; refine Finset.sum_congr rfl fun x _ => ?_
    rw [hb]; refine congrArg (fun i => g (ix3 0 i x) * _) (Fin.ext ?_); show 64 + (r.val - 64) = _; omega
  split
  · have e : (⟨r.val / 64, by omega⟩ : Fin 4) = 2 := Fin.ext (show r.val / 64 = 2 by omega)
    rw [e]; refine Finset.sum_congr rfl fun x _ => ?_
    rw [hc]; refine congrArg (fun i => g (ix3 0 i x) * _) (Fin.ext ?_); show 128 + (r.val - 64 - 64) = _; omega
  · have e : (⟨r.val / 64, by omega⟩ : Fin 4) = 3 := Fin.ext (show r.val / 64 = 3 by omega)
    rw [e]; refine Finset.sum_congr rfl fun x _ => ?_
    rw [hd]; refine congrArg (fun i => g (ix3 0 i x) * _) (Fin.ext ?_); show 192 + (r.val - 64 - 64 - 64) = _; omega

/-- What `c`'s experts make of the rows from `c + k`. -/
theorem Y_apply (c k : Fin 8) (r : Fin 256) (h : Fin 1024) : Y I c k (ix3 0 r h) = yv I (c + k) c r h := by
  unfold Y yv
  rw [four _ _ _ _ _ r h (fun i d => I.ew c (ix3 i d h)) (fun x => by rw [rdEw_apply, ewAt_apply]) (fun x => by rw [rdEw_apply, ewAt_apply])
    (fun x => by rw [rdEw_apply, ewAt_apply]) (fun x => by rw [rdEw_apply, ewAt_apply])]
  exact Finset.sum_congr rfl fun x _ => by rw [rdRxg_apply, rxgAt_apply]

/-- What device `j`'s experts add to token `t` of device `c`. -/
def part (c j : Fin 8) (t h : Fin 1024) : EReal :=
  ∑ r : Fin 256, spAt I c (ix2 t ⟨j.val * 256 + r.val, by omega⟩) * yv I c j r h

/-- One returned block in the result. -/
theorem outStep_apply (c k : Fin 8) (hk : k ≠ 0) (acc : Vec Ideal S1024x1024 .f32) (t h : Fin 1024) :
    outStep I c k acc (ix2 t h)
      = acc (ix2 t h) + part I c (c + k) t h := by
  unfold outStep part
  pointwise [k0_pay43]
  refine congrArg (acc (ix2 t h) + ·) (Finset.sum_congr rfl fun r _ => ?_)
  rw [rdSp_apply, rdRxr_apply]
  have hk' : k.val ≠ 0 := fun h => hk (Fin.ext h)
  have e : rxrDev (ix3 ⟨k.val - 1, by omega⟩ r h) = k := Fin.ext (by show k.val - 1 + 1 = k.val; omega)
  have : rxrAt I c (ix3 ⟨k.val - 1, by omega⟩ r h) = yv I c (c + k) r h := by
    show Y I (c + rxrDev (ix3 ⟨k.val - 1, by omega⟩ r h)) (-rxrDev (ix3 ⟨k.val - 1, by omega⟩ r h)) (rix r h) = _
    rw [e, show rix r h = ix3 0 r h from funext fun a => by match a with | 0 => rfl | 1 => rfl | 2 => rfl, Y_apply,
      show c + k + -k = c by rw [add_neg_cancel_right]]
  rw [this]

/-- The shared expert's part. -/
def shared (x : FVec Ideal S1024x512 .bf16) (sw : FVec Ideal S512x1024 .bf16) (t h : Fin 1024) : EReal :=
  ∑ d : Fin 512, x (ix2 t d) * sw (ix2 d h)

/-- The device's own part. -/
theorem out0_apply (c : Fin 8) (t h : Fin 1024) :
    out0 I c (ix2 t h)
      = shared (I.x c) (I.sw c) t h + part I c c t h := by
  have key : out0 I c = addf (F := Ideal) (φ := .f32) (k0_pay12 (F := Ideal) (I.x c) (I.sw c))
      (matmul (φ₁ := .bf16) (φ₂ := .bf16) dot_S1024x256_S256x1024_S1024x1024_1_0_0_1_n_n none (rdSp c (spAt I c))
        (shapeCast S256x1024 (Y I c 0) shapeCasts_S1x256x1024_S256x1024) (constant S1024x1024 .f32 0x00000000#32)) := by
    unfold out0 Y k0_pay17 k0_pay14 k0_pay15 k0_pay16 k0_pay13 k0_pay30
    dsimp only
    congr 2
    funext j
    pointwise
  rw [key]
  pointwise [k0_pay12]
  refine congrArg (shared (I.x c) (I.sw c) t h + ·) (Finset.sum_congr rfl fun r _ => ?_)
  rw [rdSp_apply, Y_apply, show (c + 0 : Fin 8) = c from add_zero c]

/-- The kernel's result on device `c`: the shared part and one sum for each device. -/
theorem outAt_apply (c : Fin 8) (t h : Fin 1024) :
    outAt I c (ix2 t h) = shared (I.x c) (I.sw c) t h
      + ∑ j : Fin 8, part I c j t h := by
  rw [← Equiv.sum_comp (@Equiv.addLeft (Fin 8) _ c) fun j : Fin 8 => part I c j t h]
  simp only [Equiv.coe_addLeft]
  rw [Fin.sum_univ_eight]
  unfold outAt out6 out5 out4 out3 out2 out1
  rw [outStep_apply I c 7 (by decide), outStep_apply I c 6 (by decide), outStep_apply I c 5 (by decide), outStep_apply I c 4 (by decide),
    outStep_apply I c 3 (by decide), outStep_apply I c 2 (by decide), outStep_apply I c 1 (by decide), out0_apply]
  rw [show (c + 0 : Fin 8) = c from add_zero c]
  simp only [add_assoc]

/-- The kernel's result on device `c`: the shared part, and the token's weight times its expert's product. -/
theorem outAt_moe (c : Fin 8) (e : Fin 1024 → Fin 32) (hf : Fits (I.rt c) e) (t h : Fin 1024) :
    outAt I c (ix2 t h) = shared (I.x c) (I.sw c) t h
      + soft (score (I.x c) (I.rw c) t) (e t)
        * ∑ d : Fin 512, I.x c (ix2 t d) * I.ew (⟨(e t).val / 4, by omega⟩ : Fin 8) (ix3 ⟨(e t).val % 4, by omega⟩ d h) := by
  rw [outAt_apply]
  have hsp : ∀ s : Fin 2048, spAt I c (ix2 t s) = if s.val = slotN e t then soft (score (I.x c) (I.rw c) t) (e t) else (0 : EReal) :=
    fun s => by unfold spAt; rw [sp_apply hf, p_apply hf]
  have hc := cnt_le hf t
  have hp := cnt_pos e t
  have he := (e t).isLt
  have hs : slotN e t = (e t).val * 64 + (cnt e t - 1) := rfl
  refine congrArg (shared (I.x c) (I.sw c) t h + ·) ?_
  unfold part
  rw [Finset.sum_eq_single (⟨(e t).val / 4, by omega⟩ : Fin 8)]
  · rw [Finset.sum_eq_single (⟨(e t).val % 4 * 64 + (cnt e t - 1), by omega⟩ : Fin 256)]
    · rw [hsp, if_pos (by show (e t).val / 4 * 256 + ((e t).val % 4 * 64 + (cnt e t - 1)) = _; omega)]
      refine congrArg (soft (score (I.x c) (I.rw c) t) (e t) * ·) (Finset.sum_congr rfl fun d _ => ?_)
      unfold gAt
      rw [g_apply hf (I.x c) t _ (by show (e t).val / 4 * 256 + ((e t).val % 4 * 64 + (cnt e t - 1)) = _; omega)]
      refine congrArg (fun i => I.x c (ix2 t d) * I.ew (⟨(e t).val / 4, by omega⟩ : Fin 8) (ix3 i d h)) (Fin.ext ?_)
      show ((e t).val % 4 * 64 + (cnt e t - 1)) / 64 = (e t).val % 4
      omega
    · intro r _ hr
      rw [hsp, if_neg, zero_mul]
      intro h'
      apply hr
      apply Fin.ext
      have h'' : (e t).val / 4 * 256 + r.val = slotN e t := h'
      show r.val = (e t).val % 4 * 64 + (cnt e t - 1)
      omega
    · exact fun h => absurd (Finset.mem_univ _) h
  · intro j _ hj
    refine Finset.sum_eq_zero fun r _ => ?_
    rw [hsp, if_neg, zero_mul]
    intro h'
    apply hj
    apply Fin.ext
    have h'' : j.val * 256 + r.val = slotN e t := h'
    have hr := r.isLt
    show j.val = (e t).val / 4
    omega
  · exact fun h => absurd (Finset.mem_univ _) h

end Cert.MoeValue
-- ==== Proof.Value.Ref.lean ====
/-
The reference's result at a token and a column: the shared expert's product plus the probability of the token's expert
times that expert's product.
-/
module

public import proofs.«01_k».proof.Proof.Gen.ReferenceIdeal
public import proofs.«01_k».proof.Proof.Value.Route

@[expose] public section

set_option maxRecDepth 16384

noncomputable section

namespace Cert.MoeValue

open Cert.ReferenceIdeal Cert.ReferenceIdeal.Gen Idealize.ShloMosaic

/-- The reference's result as a term of its arguments. -/
def refOut (x : FVec Ideal S8192x512 .bf16) (rw' : FVec Ideal S512x32 .bf16) (rt : IVec S8192x1 32) (ew : FVec Ideal S32x512x1024 .bf16)
    (sw : FVec Ideal S512x1024 .bf16) : FVec Ideal S8192x1024 .f32 :=
  addf (Host.dotGeneral dot_S8192x512_S512x1024_S8192x1024_1_0_0_1_n_n none (extf .f32 x bitsLt_bf16_f32) (extf .f32 sw bitsLt_bf16_f32)) (mulf (broadcastInDim S8192x1024 ![0, 1] bcast_S8192x1_S8192x1024_0_1 (Host.gather gather_S8192x32_S8192x1x1_S8192x1_n_1_0_0_1_2_11 (Host.divf (Host.exp (subf (Host.dotGeneral dot_S8192x512_S512x32_S8192x32_1_0_0_1_n_n none (extf .f32 x bitsLt_bf16_f32) (extf .f32 rw' bitsLt_bf16_f32)) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none (extf .f32 x bitsLt_bf16_f32) (extf .f32 rw' bitsLt_bf16_f32)) (constant S_ .f32 0xFF800000#32) reducesTo_S8192x32_S8192_d1 h_S_))))) (broadcastInDim S8192x32 ![0, 1] bcast_S8192x1_S8192x32_0_1 (broadcastInDim S8192x1 ![0] bcast_S8192_S8192x1_0 (Host.reduceAdd (Host.exp (subf (Host.dotGeneral dot_S8192x512_S512x32_S8192x32_1_0_0_1_n_n none (extf .f32 x bitsLt_bf16_f32) (extf .f32 rw' bitsLt_bf16_f32)) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none (extf .f32 x bitsLt_bf16_f32) (extf .f32 rw' bitsLt_bf16_f32)) (constant S_ .f32 0xFF800000#32) reducesTo_S8192x32_S8192_d1 h_S_))))) (constant S_ .f32 0x00000000#32) reducesTo_S8192x32_S8192_d1 h_S_)))) (shapeCast _ (select (cmpi .slt rt (broadcastInDim S8192x1 ![] bcast_S_S8192x1 (constantI S_ 32 0#32))) (addi rt (broadcastInDim S8192x1 ![] bcast_S_S8192x1 (constantI S_ 32 32#32))) rt) shapeCasts_S8192x1_S8192x1x1))) (shapeCast _ (Host.gather gather_S8192x32x1024_S8192x1x1_S8192x1x1024_2_1_0_0_1_2_111024 (Host.dotGeneral dot_S8192x512_S32x512x1024_S8192x32x1024_1_1_0_02_n_n none (extf .f32 x bitsLt_bf16_f32) (extf .f32 ew bitsLt_bf16_f32)) (select (cmpi .slt (broadcastInDim S8192x1x1 ![0, 1] bcast_S8192x1_S8192x1x1_0_1 rt) (broadcastInDim S8192x1x1 ![] bcast_S_S8192x1x1 (constantI S_ 32 0#32))) (addi (broadcastInDim S8192x1x1 ![0, 1] bcast_S8192x1_S8192x1x1_0_1 rt) (broadcastInDim S8192x1x1 ![] bcast_S_S8192x1x1 (constantI S_ 32 32#32))) (broadcastInDim S8192x1x1 ![0, 1] bcast_S8192x1_S8192x1x1_0_1 rt))) shapeCasts_S8192x1x1024_S8192x1024))

/-- A wrapped index that was not negative is the index. -/
theorem wrap_word (k : Fin 32) : Scalar.select (IntOp.cmpi .slt (BitVec.ofNat 32 k.val) 0#32) (IntOp.addi (BitVec.ofNat 32 k.val) 32#32)
    (BitVec.ofNat 32 k.val) = BitVec.ofNat 32 k.val := by
  revert k; decide

/-- The clamped start index of an expert number's word. -/
theorem clamp_word (k : Fin 32) : min (BitVec.ofNat 32 k.val).toInt.toNat 31 = k.val := by
  revert k; decide

/-- `take_along_axis` of the probabilities. -/
theorem gatherP_apply (x : FVec Ideal S8192x32 .f32) (idx : IVec S8192x1x1 32) (T : Fin 8192) (k : Fin 32)
    (hk : idx (ix3 T 0 0) = BitVec.ofNat 32 k.val) :
    Host.gather gather_S8192x32_S8192x1x1_S8192x1_n_1_0_0_1_2_11 x idx (ix2 T 0) = x (ix2 T k) := by
  unfold Host.gather
  refine congrArg x (funext fun a => Fin.ext ?_)
  have hs : GatherDims.siIdx gather_S8192x32_S8192x1x1_S8192x1_n_1_0_0_1_2_11 (ix2 T 0) ⟨0, Nat.one_pos⟩ = ix3 T 0 0 := by
    funext b; refine Fin.ext ?_
    match b with
    | ⟨0, _⟩ => rfl
    | ⟨1, _⟩ => rfl
    | ⟨2, _⟩ => rfl
  match a with
  | ⟨0, _⟩ =>
    show 0 + T.val + 0 = T.val
    omega
  | ⟨1, _⟩ =>
    show min (idx (GatherDims.siIdx gather_S8192x32_S8192x1x1_S8192x1_n_1_0_0_1_2_11 (ix2 T 0) ⟨0, Nat.one_pos⟩)).toInt.toNat 31 + 0 + 0 = _
    rw [hs, hk, clamp_word]; rfl

/-- `take_along_axis` of the experts' products. -/
theorem gatherM_apply (x : FVec Ideal S8192x32x1024 .f32) (idx : IVec S8192x1x1 32) (T : Fin 8192) (h : Fin 1024) (k : Fin 32)
    (hk : idx (ix3 T 0 0) = BitVec.ofNat 32 k.val) :
    Host.gather gather_S8192x32x1024_S8192x1x1_S8192x1x1024_2_1_0_0_1_2_111024 x idx (ix3 T 0 h) = x (ix3 T k h) := by
  unfold Host.gather
  refine congrArg x (funext fun a => Fin.ext ?_)
  have hs : GatherDims.siIdx gather_S8192x32x1024_S8192x1x1_S8192x1x1024_2_1_0_0_1_2_111024 (ix3 T 0 h) ⟨0, Nat.one_pos⟩ = ix3 T 0 0 := by
    funext b; refine Fin.ext ?_
    match b with
    | ⟨0, _⟩ => rfl
    | ⟨1, _⟩ => rfl
    | ⟨2, _⟩ => rfl
  match a with
  | ⟨0, _⟩ =>
    show 0 + T.val + 0 = T.val
    omega
  | ⟨1, _⟩ =>
    show min (idx (GatherDims.siIdx gather_S8192x32x1024_S8192x1x1_S8192x1x1024_2_1_0_0_1_2_111024 (ix3 T 0 h) ⟨0, Nat.one_pos⟩)).toInt.toNat 31 + 0 + 0 = _
    rw [hs, hk, clamp_word]; rfl
  | ⟨2, _⟩ =>
    show 0 + 0 + h.val = h.val
    omega

/-- The reference at a token whose route index is the word of `k`. -/
theorem refOut_apply (x : FVec Ideal S8192x512 .bf16) (rw' : FVec Ideal S512x32 .bf16) (rt : IVec S8192x1 32) (ew : FVec Ideal S32x512x1024 .bf16)
    (sw : FVec Ideal S512x1024 .bf16) (T : Fin 8192) (h : Fin 1024) (k : Fin 32) (hk : rt (ix2 T 0) = BitVec.ofNat 32 k.val) :
    refOut x rw' rt ew sw (ix2 T h)
      = (∑ d : Fin 512, x (ix2 T d) * sw (ix2 d h))
        + soft (fun j => ∑ d : Fin 512, x (ix2 T d) * rw' (ix2 d j)) k * ∑ d : Fin 512, x (ix2 T d) * ew (ix3 k d h) := by
  unfold refOut
  pointwise
  rw [gatherP_apply _ _ T k ?_, gatherM_apply _ _ T h k ?_]
  · pointwise
    rfl
  · pointwise
    rw [hk, wrap_word]
  · pointwise
    rw [hk, wrap_word]

end Cert.MoeValue
-- ==== Proof.Value.Match.lean ====
/-
The kernel's result on each device is that device's rows of the reference's result, when the kernel's operands are the
device's rows (or experts) of the reference's and the precondition's consequence holds.
-/
module

public import Idealize.ShloMosaic.Lib.Layout
public import proofs.«01_k».proof.Proof.Value.Out
public import proofs.«01_k».proof.Proof.Value.Ref

@[expose] public section

set_option maxRecDepth 16384

noncomputable section

namespace Cert.MoeValue

open Cert.KernelIdeal.Moe Idealize.ShloMosaic

/-- A device's row of a matrix cut into eight blocks of rows. -/
theorem block2 {α : Type} (n : ℕ) (c : Fin 8) (v : (⟨2, ![8192, n]⟩ : Shape).Idx → α) (hT : Layout.Tiles ⟨2, ![1024, n]⟩ ⟨2, ![8192, n]⟩ 0 8)
    (t : Fin 1024) (d : Fin n) :
    Layout.block ⟨2, ![1024, n]⟩ ⟨2, ![8192, n]⟩ 0 8 c v hT (ix2 t d) = v (ix2 ⟨c.val * 1024 + t.val, by omega⟩ d) := by
  rw [Layout.block_apply]
  refine congrArg v (funext fun a => Fin.ext ?_)
  rw [Layout.Tiles.idx_val]
  match a with
  | 0 => rfl
  | 1 => rfl

/-- A device's expert of the 32 cut into eight blocks of four. -/
theorem block3 {α : Type} (c : Fin 8) (v : (⟨3, ![32, 512, 1024]⟩ : Shape).Idx → α)
    (hT : Layout.Tiles ⟨3, ![4, 512, 1024]⟩ ⟨3, ![32, 512, 1024]⟩ 0 8) (a : Fin 4) (d : Fin 512) (h : Fin 1024) :
    Layout.block ⟨3, ![4, 512, 1024]⟩ ⟨3, ![32, 512, 1024]⟩ 0 8 c v hT (ix3 a d h) = v (ix3 ⟨c.val * 4 + a.val, by omega⟩ d h) := by
  rw [Layout.block_apply]
  refine congrArg v (funext fun b => Fin.ext ?_)
  rw [Layout.Tiles.idx_val]
  match b with
  | 0 => rfl
  | 1 => rfl
  | 2 => rfl

/-- The kernel's result is the device's block of the reference's. -/
theorem outAt_eq (I : Ins Ideal) (x : FVec Ideal ⟨2, ![8192, 512]⟩ .bf16) (rw' : FVec Ideal ⟨2, ![512, 32]⟩ .bf16) (rt : IVec ⟨2, ![8192, 1]⟩ 32)
    (ew : FVec Ideal ⟨3, ![32, 512, 1024]⟩ .bf16) (sw : FVec Ideal ⟨2, ![512, 1024]⟩ .bf16)
    (hx : ∀ c : Fin 8, I.x c = Layout.block ⟨2, ![1024, 512]⟩ ⟨2, ![8192, 512]⟩ 0 8 c x)
    (hrw : ∀ c : Fin 8, I.rw c = rw')
    (hrt : ∀ c : Fin 8, I.rt c = Layout.block ⟨2, ![1024, 1]⟩ ⟨2, ![8192, 1]⟩ 0 8 c rt)
    (hew : ∀ c : Fin 8, I.ew c = Layout.block ⟨3, ![4, 512, 1024]⟩ ⟨3, ![32, 512, 1024]⟩ 0 8 c ew)
    (hsw : ∀ c : Fin 8, I.sw c = sw) (hf : ∀ c : Fin 8, ∃ e, Fits (I.rt c) e) (c : Fin 8) :
    outAt I c = Layout.block ⟨2, ![1024, 1024]⟩ ⟨2, ![8192, 1024]⟩ 0 8 c (refOut x rw' rt ew sw) := by
  obtain ⟨e, he⟩ := hf c
  funext j
  obtain ⟨t, h, rfl⟩ : ∃ (t h : Fin 1024), j = ix2 t h := ⟨j 0, j 1, eq_ix2 j⟩
  have ht := t.isLt
  have hk : rt (ix2 ⟨c.val * 1024 + t.val, by omega⟩ 0) = BitVec.ofNat 32 (e t).val := by
    rw [← he.route t, hrt c, block2]
  have hxv : ∀ d : Fin 512, I.x c (ix2 t d) = x (ix2 ⟨c.val * 1024 + t.val, by omega⟩ d) := fun d => by rw [hx c, block2]
  rw [outAt_moe I c e he t h, block2, refOut_apply x rw' rt ew sw _ h (e t) hk]
  have hsc : score (I.x c) (I.rw c) t = fun k => ∑ d : Fin 512, x (ix2 ⟨c.val * 1024 + t.val, by omega⟩ d) * rw' (ix2 d k) := by
    funext k
    unfold score
    exact Finset.sum_congr rfl fun d _ => by rw [hxv, hrw c]
  have hsh : shared (I.x c) (I.sw c) t h = ∑ d : Fin 512, x (ix2 ⟨c.val * 1024 + t.val, by omega⟩ d) * sw (ix2 d h) := by
    unfold shared
    exact Finset.sum_congr rfl fun d _ => by rw [hxv, hsw c]
  rw [hsc, hsh]
  refine congrArg (_ + soft _ (e t) * ·) (Finset.sum_congr rfl fun d _ => ?_)
  rw [hxv, hew, block3]
  refine congrArg (fun i => x _ * ew (ix3 i d h)) (Fin.ext ?_)
  show (e t).val / 4 * 4 + (e t).val % 4 = (e t).val
  omega

end Cert.MoeValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_routes_fit_KernelIdeal
public import proofs.«01_k».proof.Proof.Gen.Pre_routes_fit_ReferenceIdeal
public import proofs.«01_k».proof.Proof.Gen.ReferenceIdeal.Run
public import proofs.«01_k».proof.Proof.KernelRun.Launch
public import proofs.«01_k».proof.Proof.KernelIdealRun.Launch
public import proofs.«01_k».proof.Proof.Value.Match
public import Idealize.ShloMosaic.Adequacy
public import Idealize.ShloMosaic.Init

@[expose] public section

noncomputable section

namespace Cert.Proof

open Idealize.ShloMosaic Idealize.SL.Sem Cert.Kernel

/-- Kernel: every execution ends, the operands unchanged, every semaphore at zero. -/
theorem frame_Kernel [h : Cert.Kernel.Facts] : Cert.quiescent_Kernel := by
  intro m ρ _
  exact (θ_run Cert.Kernel.defs _ _).mono
    (fun _ h => ⟨fun c =>
      ⟨(h.1 c 0).trans (Cert.Kernel.Moe.finalA_in m ρ c 0 (by decide)), (h.1 c 1).trans (Cert.Kernel.Moe.finalA_in m ρ c 1 (by decide)),
       (h.1 c 2).trans (Cert.Kernel.Moe.finalA_in m ρ c 2 (by decide)), (h.1 c 3).trans (Cert.Kernel.Moe.finalA_in m ρ c 3 (by decide)),
       (h.1 c 4).trans (Cert.Kernel.Moe.finalA_in m ρ c 4 (by decide))⟩, h.2⟩)
    (Cert.Kernel.Moe.run_main (F := Bits) m ρ)

/-- KernelIdeal: every execution ends, the operands unchanged, every semaphore at zero. -/
theorem frame_KernelIdeal [h : Cert.KernelIdeal.Facts] : Cert.quiescent_KernelIdeal := by
  intro m ρ _
  exact (θ_run Cert.KernelIdeal.defs _ _).mono
    (fun _ h => ⟨fun c =>
      ⟨(h.1 c 0).trans (Cert.KernelIdeal.Moe.finalA_in m ρ c 0 (by decide)), (h.1 c 1).trans (Cert.KernelIdeal.Moe.finalA_in m ρ c 1 (by decide)),
       (h.1 c 2).trans (Cert.KernelIdeal.Moe.finalA_in m ρ c 2 (by decide)), (h.1 c 3).trans (Cert.KernelIdeal.Moe.finalA_in m ρ c 3 (by decide)),
       (h.1 c 4).trans (Cert.KernelIdeal.Moe.finalA_in m ρ c 4 (by decide))⟩, h.2⟩)
    (Cert.KernelIdeal.Moe.run_main (F := Ideal) m ρ)

/-- The reference: every execution ends, the operands unchanged, every semaphore at zero. -/
theorem frame_ReferenceIdeal [h : Cert.ReferenceIdeal.Facts] : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The kernel computes the reference's mixture of experts, when every route index is in range and no expert has more
    tokens of one device than its 64 places. -/
theorem algebraic [h : Cert.KernelIdeal.Facts] [h' : Cert.ReferenceIdeal.Facts] [hp : Cert.Pre_routes_fit_KernelIdeal.Facts] :
    Cert.algebraic_KernelIdeal_ReferenceIdeal_pre_routes_fit_KernelIdeal := by
  intro m ρ m' ρ' hpre hargs
  refine ⟨Cert.MoeValue.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · have hv := Cert.MoeValue.outAt_eq (Cert.KernelIdeal.Moe.insOf (F := Ideal) m ρ) _ _ _ _ _
      (fun c => (Cert.KernelIdeal.Moe.ins_x m ρ c).trans (hargs c).1)
      (fun c => (Cert.KernelIdeal.Moe.ins_rw m ρ c).trans (hargs c).2.1)
      (fun c => (Cert.KernelIdeal.Moe.ins_rt m ρ c).trans (hargs c).2.2.1)
      (fun c => (Cert.KernelIdeal.Moe.ins_ew m ρ c).trans (hargs c).2.2.2.1)
      (fun c => (Cert.KernelIdeal.Moe.ins_sw m ρ c).trans (hargs c).2.2.2.2)
      (fun c => by
        obtain ⟨e, he⟩ := Cert.MoeValue.fits_of_pre _ _ _ _ _ (hpre c)
        exact ⟨e, by rw [Cert.KernelIdeal.Moe.ins_rt m ρ c]; exact he⟩)
    exact (θ_run Cert.KernelIdeal.defs _ _).mono
      (fun _ h c =>
        ⟨((h.1 c 5).trans (Cert.KernelIdeal.Moe.finalA_out m ρ c)).trans (hv c),
         (h.1 c 0).trans (Cert.KernelIdeal.Moe.finalA_in m ρ c 0 (by decide)), (h.1 c 1).trans (Cert.KernelIdeal.Moe.finalA_in m ρ c 1 (by decide)),
         (h.1 c 2).trans (Cert.KernelIdeal.Moe.finalA_in m ρ c 2 (by decide)), (h.1 c 3).trans (Cert.KernelIdeal.Moe.finalA_in m ρ c 3 (by decide)),
         (h.1 c 4).trans (Cert.KernelIdeal.Moe.finalA_in m ρ c 4 (by decide))⟩)
      (Cert.KernelIdeal.Moe.run_main (F := Ideal) m ρ)
  · exact (θ_run Cert.ReferenceIdeal.defs _ _).mono (fun r h => h 0) (Cert.ReferenceIdeal.Value.run (F := Ideal) m' ρ')

/-- All the claims. -/
theorem claim : Cert.Claim := ⟨Cert.Kernel.Gen.facts, Cert.KernelIdeal.Gen.facts, Cert.ReferenceIdeal.Gen.facts,
  Cert.Pre_routes_fit_KernelIdeal.Gen.facts, Cert.Pre_routes_fit_ReferenceIdeal.Gen.facts,
  frame_Kernel, frame_KernelIdeal, fun m ρ _ => frame_KernelIdeal m ρ trivial,
  frame_ReferenceIdeal, fun m ρ _ => frame_ReferenceIdeal m ρ trivial, trivial, algebraic⟩

end Cert.Proof

end
